-- ==== Defs.lean ====
def Pre_Kernel [hPre_classes_in_range : Cert.Pre_classes_in_range.Facts] (m : (ℓ : Loc Cert.Kernel.nD Cert.Kernel.τ Cert.Kernel.sig) → Buf (Elt Bits) ℓ) : Prop :=
  ∀ c : Dev Cert.Kernel.nD,
    (Cert.Pre_classes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_classes_in_range : Cert.Pre_classes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_classes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_in_range [hPre_classes_in_range : Cert.Pre_classes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_classes_in_range : Cert.Pre_classes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_classes_in_range [hReferenceIdeal : Cert.ReferenceIdeal.Facts] [hPre_classes_in_range : Cert.Pre_classes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_classes_in_range : Cert.Pre_classes_in_range.Facts),
    quiescent_Kernel (hKernel := hKernel) (hPre_classes_in_range := hPre_classes_in_range)
    ∧ quiescent_KernelIdeal (hKernelIdeal := hKernelIdeal) (hPre_classes_in_range := hPre_classes_in_range)
    ∧ quiescent_ReferenceIdeal (hReferenceIdeal := hReferenceIdeal)
    ∧ quiescent_ReferenceIdeal_pre_classes_in_range (hReferenceIdeal := hReferenceIdeal) (hPre_classes_in_range := hPre_classes_in_range)
    ∧ preserves_Kernel_KernelIdeal
    ∧ algebraic_KernelIdeal_ReferenceIdeal (hKernelIdeal := hKernelIdeal) (hReferenceIdeal := hReferenceIdeal) (hPre_classes_in_range := hPre_classes_in_range)
-- ==== Pre_classes_in_range.lean ====
abbrev S4096x256 : Shape := ⟨2, ![4096, 256]⟩
abbrev S4096 : Shape := ⟨1, ![4096]⟩
abbrev S8192x256 : Shape := ⟨2, ![8192, 256]⟩
abbrev S8192x4x256 : Shape := ⟨3, ![8192, 4, 256]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x256 .f32) (main_arg1 : IVec S4096 32) (main_arg2 : FVec F S4096x256 .f32) (main_arg3 : IVec S4096 32) (main_arg4 : FVec F S8192x256 .f32) (main_arg5 : FVec F S8192x4x256 .f32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 8192#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg3 main_v6
  let main_c_3 : IVec S_ 32 := constantI S_ 32 8192#32
  let main_v8 : IVec S4096 32 := broadcastInDim S4096 ![] bcast_S_S4096 main_c_3
  let main_v9 : IVec S4096 1 := cmpi .slt main_arg3 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  main_v12
-- ==== Kernel.lean ====
abbrev S4096x256 : Shape := ⟨2, ![4096, 256]⟩
abbrev S4096 : Shape := ⟨1, ![4096]⟩
abbrev S8192x256 : Shape := ⟨2, ![8192, 256]⟩
abbrev S8192x4x256 : Shape := ⟨3, ![8192, 4, 256]⟩
abbrev S4096x1 : Shape := ⟨2, ![4096, 1]⟩
abbrev S4096x8192 : Shape := ⟨2, ![4096, 8192]⟩
abbrev S512x256 : Shape := ⟨2, ![512, 256]⟩
abbrev S1024x256 : Shape := ⟨2, ![1024, 256]⟩
abbrev S512x1 : Shape := ⟨2, ![512, 1]⟩
abbrev S512x1024 : Shape := ⟨2, ![512, 1024]⟩
abbrev S1024 : Shape := ⟨1, ![1024]⟩
abbrev S1024x1 : Shape := ⟨2, ![1024, 1]⟩
abbrev S512 : Shape := ⟨1, ![512]⟩
abbrev S_ : Shape := ⟨0, ![]⟩
abbrev S4 : Shape := ⟨1, ![4]⟩
abbrev S1x4 : Shape := ⟨2, ![1, 4]⟩
abbrev S4096x4 : Shape := ⟨2, ![4096, 4]⟩
abbrev S32768x2x128 : Shape := ⟨3, ![32768, 2, 128]⟩
abbrev S16384 : Shape := ⟨1, ![16384]⟩
abbrev S128x2x128 : Shape := ⟨3, ![128, 2, 128]⟩
abbrev S128x256 : Shape := ⟨2, ![128, 256]⟩
abbrev S128 : Shape := ⟨1, ![128]⟩
abbrev S16 : Shape := ⟨1, ![16]⟩
abbrev S1x16 : Shape := ⟨2, ![1, 16]⟩
abbrev S1x1x16 : Shape := ⟨3, ![1, 1, 16]⟩

abbrev nBuf : Table → Nat
  | .hbm => 20
  | .local .tc .vmem => 9
  | .local .scVector .vmem => 6
  | _ => 0

abbrev bufTy : (tb : Table) → Fin (nBuf tb) → BufTy
  | .hbm, ⟨0, _⟩ => ⟨S4096x256, .f32⟩
  | .hbm, ⟨1, _⟩ => ⟨S4096, .i32⟩
  | .hbm, ⟨2, _⟩ => ⟨S4096x256, .f32⟩
  | .hbm, ⟨3, _⟩ => ⟨S4096, .i32⟩
  | .hbm, ⟨4, _⟩ => ⟨S8192x256, .f32⟩
  | .hbm, ⟨5, _⟩ => ⟨S8192x4x256, .f32⟩
  | .hbm, ⟨6, _⟩ => ⟨S4096x1, .i32⟩
  | .hbm, ⟨7, _⟩ => ⟨S4096x8192, .f32⟩
  | .hbm, ⟨8, _⟩ => ⟨S4096x1, .i32⟩
  | .hbm, ⟨9, _⟩ => ⟨S_, .i32⟩
  | .hbm, ⟨10, _⟩ => ⟨S4096x1, .i32⟩
  | .hbm, ⟨11, _⟩ => ⟨S4096x1, .i32⟩
  | .hbm, ⟨12, _⟩ => ⟨S4, .i32⟩
  | .hbm, ⟨13, _⟩ => ⟨S1x4, .i32⟩
  | .hbm, ⟨14, _⟩ => ⟨S4096x4, .i32⟩
  | .hbm, ⟨15, _⟩ => ⟨S4096x4, .i32⟩
  | .hbm, ⟨16, _⟩ => ⟨S4096x4, .i32⟩
  | .hbm, ⟨17, _⟩ => ⟨S32768x2x128, .f32⟩
  | .hbm, ⟨18, _⟩ => ⟨S16384, .i32⟩
  | .hbm, ⟨19, _⟩ => ⟨S4096, .f32⟩
  | .local .tc .vmem, ⟨0, _⟩ => ⟨S512x256, .f32⟩
  | .local .tc .vmem, ⟨1, _⟩ => ⟨S512x256, .f32⟩
  | .local .tc .vmem, ⟨2, _⟩ => ⟨S1024x256, .f32⟩
  | .local .tc .vmem, ⟨3, _⟩ => ⟨S1024x256, .f32⟩
  | .local .tc .vmem, ⟨4, _⟩ => ⟨S512x1, .i32⟩
  | .local .tc .vmem, ⟨5, _⟩ => ⟨S512x1, .i32⟩
  | .local .tc .vmem, ⟨6, _⟩ => ⟨S512x1024, .f32⟩
  | .local .tc .vmem, ⟨7, _⟩ => ⟨S512x1024, .f32⟩
  | .local .tc .vmem, ⟨8, _⟩ => ⟨S1024x256, .bf16⟩
  | .local .scVector .vmem, ⟨0, _⟩ => ⟨S512, .i32⟩
  | .local .scVector .vmem, ⟨1, _⟩ => ⟨S128x2x128, .f32⟩
  | .local .scVector .vmem, ⟨2, _⟩ => ⟨S128x2x128, .f32⟩
  | .local .scVector .vmem, ⟨3, _⟩ => ⟨S128x256, .f32⟩
  | .local .scVector .vmem, ⟨4, _⟩ => ⟨S128, .f32⟩
  | .local .scVector .vmem, ⟨5, _⟩ => ⟨S16, .f32⟩
  | _, _ => ⟨S4096x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v10_scv : Ref sig .scVector := ⟨.hbm, 17, rfl⟩
abbrev main_arg2_scv : Ref sig .scVector := ⟨.hbm, 2, rfl⟩
abbrev main_v11_scv : Ref sig .scVector := ⟨.hbm, 18, rfl⟩
abbrev main_v12_scv : Ref sig .scVector := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32 : BitVec 32 := 4#32
  let v4 : BitVec 32 := Scalar.muli v2 c4_i32
  ![v4.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  ![v2.toNat, 0]
@[reducible] def k1_t1_loop : Scf.Loop 32 :=
  let c0_i32_15 : BitVec 32 := 0#32
  let c16_i32 : BitVec 32 := 16#32
  let v16 : BitVec 32 := Scalar.addi c0_i32_15 c16_i32
  let c1_i32 : BitVec 32 := 1#32
  ⟨c0_i32_15, v16, c1_i32⟩
def k1_off3 (k1_t1 : Fin k1_t1_loop.trips) : Fin 2 → Nat :=
  let c0_i32_52 : BitVec 32 := 0#32
  let c0_i32_15 : BitVec 32 := 0#32
  let c1_i32 : BitVec 32 := 1#32
  let arg15 : BitVec 32 := Scf.iv c0_i32_15 c1_i32 k1_t1
  let v63 : BitVec 32 := Scalar.addi c0_i32_52 arg15
  let v64 : Index := Scalar.indexCast v63
  let c0_53 : Index := 0#32
  ![v64.toNat, 0]
def k1_off4 (k1_t1 : Fin k1_t1_loop.trips) : Fin 2 → Nat :=
  let c0_i32_54 : BitVec 32 := 0#32
  let c0_i32_15 : BitVec 32 := 0#32
  let c1_i32 : BitVec 32 := 1#32
  let arg15 : BitVec 32 := Scf.iv c0_i32_15 c1_i32 k1_t1
  let v67 : BitVec 32 := Scalar.addi c0_i32_54 arg15
  let c16_i32_55 : BitVec 32 := 16#32
  let v68 : BitVec 32 := Scalar.addi v67 c16_i32_55
  let v69 : Index := Scalar.indexCast v68
  let c0_56 : Index := 0#32
  ![v69.toNat, 0]
def k1_off5 (k1_t1 : Fin k1_t1_loop.trips) (c0_i32_58 : BitVec 32) : Fin 3 → Nat :=
  let c0_i32_15 : BitVec 32 := 0#32
  let c1_i32 : BitVec 32 := 1#32
  let arg15 : BitVec 32 := Scf.iv c0_i32_15 c1_i32 k1_t1
  let c4_i32_57 : BitVec 32 := 4#32
  let v72 : BitVec 32 := Scalar.muli arg15 c4_i32_57
  let v73 : BitVec 32 := Scalar.addi v72 c0_i32_58
  let v74 : Index := Scalar.indexCast v73
  let c0_i32_59 : BitVec 32 := 0#32
  let v75 : Index := Scalar.indexCast c0_i32_59
  let c0_60 : Index := 0#32
  ![v74.toNat, 0, 0]
def k1_off6 (k1_t1 : Fin k1_t1_loop.trips) (c0_i32_63 : BitVec 32) : Fin 3 → Nat :=
  let c0_i32_15 : BitVec 32 := 0#32
  let c1_i32 : BitVec 32 := 1#32
  let arg15 : BitVec 32 := Scf.iv c0_i32_15 c1_i32 k1_t1
  let c16_i32_61 : BitVec 32 := 16#32
  let v81 : BitVec 32 := Scalar.addi arg15 c16_i32_61
  let c4_i32_62 : BitVec 32 := 4#32
  let v82 : BitVec 32 := Scalar.muli v81 c4_i32_62
  let v83 : BitVec 32 := Scalar.addi v82 c0_i32_63
  let v84 : Index := Scalar.indexCast v83
  let c0_i32_64 : BitVec 32 := 0#32
  let v85 : Index := Scalar.indexCast c0_i32_64
  let c0_65 : Index := 0#32
  ![v84.toNat, 0, 0]
def k1_off7 (k1_t1 : Fin k1_t1_loop.trips) : Fin 2 → Nat :=
  let c0_i32_92 : BitVec 32 := 0#32
  let c0_i32_15 : BitVec 32 := 0#32
  let c1_i32 : BitVec 32 := 1#32
  let arg15 : BitVec 32 := Scf.iv c0_i32_15 c1_i32 k1_t1
  let v148 : BitVec 32 := Scalar.addi c0_i32_92 arg15
  let v149 : Index := Scalar.indexCast v148
  let c16_93 : Index := 16#32
  ![v149.toNat, 16]
def k1_off8 (k1_t1 : Fin k1_t1_loop.trips) : Fin 2 → Nat :=
  let c0_i32_94 : BitVec 32 := 0#32
  let c0_i32_15 : BitVec 32 := 0#32
  let c1_i32 : BitVec 32 := 1#32
  let arg15 : BitVec 32 := Scf.iv c0_i32_15 c1_i32 k1_t1
  let v152 : BitVec 32 := Scalar.addi c0_i32_94 arg15
  let c16_i32_95 : BitVec 32 := 16#32
  let v153 : BitVec 32 := Scalar.addi v152 c16_i32_95
  let v154 : Index := Scalar.indexCast v153
  let c16_96 : Index := 16#32
  ![v154.toNat, 16]
def k1_off9 (k1_t1 : Fin k1_t1_loop.trips) (c0_i32_98 : BitVec 32) : Fin 3 → Nat :=
  let c0_i32_15 : BitVec 32 := 0#32
  let c1_i32 : BitVec 32 := 1#32
  let arg15 : BitVec 32 := Scf.iv c0_i32_15 c1_i32 k1_t1
  let c4_i32_97 : BitVec 32 := 4#32
  let v157 : BitVec 32 := Scalar.muli arg15 c4_i32_97
  let v158 : BitVec 32 := Scalar.addi v157 c0_i32_98
  let v159 : Index := Scalar.indexCast v158
  let c0_i32_99 : BitVec 32 := 0#32
  let v160 : Index := Scalar.indexCast c0_i32_99
  let c16_100 : Index := 16#32
  ![v159.toNat, 0, 16]
def k1_off10 (k1_t1 : Fin k1_t1_loop.trips) (c0_i32_103 : BitVec 32) : Fin 3 → Nat :=
  let c0_i32_15 : BitVec 32 := 0#32
  let c1_i32 : BitVec 32 := 1#32
  let arg15 : BitVec 32 := Scf.iv c0_i32_15 c1_i32 k1_t1
  let c16_i32_101 : BitVec 32 := 16#32
  let v166 : BitVec 32 := Scalar.addi arg15 c16_i32_101
  let c4_i32_102 : BitVec 32 := 4#32
  let v167 : BitVec 32 := Scalar.muli v166 c4_i32_102
  let v168 : BitVec 32 := Scalar.addi v167 c0_i32_103
  let v169 : Index := Scalar.indexCast v168
  let c0_i32_104 : BitVec 32 := 0#32
  let v170 : Index := Scalar.indexCast c0_i32_104
  let c16_105 : Index := 16#32
  ![v169.toNat, 0, 16]
def k1_off11 (k1_t1 : Fin k1_t1_loop.trips) : Fin 2 → Nat :=
  let c0_i32_133 : BitVec 32 := 0#32
  let c0_i32_15 : BitVec 32 := 0#32
  let c1_i32 : BitVec 32 := 1#32
  let arg15 : BitVec 32 := Scf.iv c0_i32_15 c1_i32 k1_t1
  let v233 : BitVec 32 := Scalar.addi c0_i32_133 arg15
  let v234 : Index := Scalar.indexCast v233
  let c32_134 : Index := 32#32
  ![v234.toNat, 32]
def k1_off12 (k1_t1 : Fin k1_t1_loop.trips) : Fin 2 → Nat :=
  let c0_i32_135 : BitVec 32 := 0#32
  let c0_i32_15 : BitVec 32 := 0#32
  let c1_i32 : BitVec 32 := 1#32
  let arg15 : BitVec 32 := Scf.iv c0_i32_15 c1_i32 k1_t1
  let v237 : BitVec 32 := Scalar.addi c0_i32_135 arg15
  let c16_i32_136 : BitVec 32 := 16#32
  let v238 : BitVec 32 := Scalar.addi v237 c16_i32_136
  let v239 : Index := Scalar.indexCast v238
  let c32_137 : Index := 32#32
  ![v239.toNat, 32]
def k1_off13 (k1_t1 : Fin k1_t1_loop.trips) (c0_i32_139 : BitVec 32) : Fin 3 → Nat :=
  let c0_i32_15 : BitVec 32 := 0#32
  let c1_i32 : BitVec 32 := 1#32
  let arg15 : BitVec 32 := Scf.iv c0_i32_15 c1_i32 k1_t1
  let c4_i32_138 : BitVec 32 := 4#32
  let v242 : BitVec 32 := Scalar.muli arg15 c4_i32_138
  let v243 : BitVec 32 := Scalar.addi v242 c0_i32_139
  let v244 : Index := Scalar.indexCast v243
  let c0_i32_140 : BitVec 32 := 0#32
  let v245 : Index := Scalar.indexCast c0_i32_140
  let c32_141 : Index := 32#32
  ![v244.toNat, 0, 32]
def k1_off14 (k1_t1 : Fin k1_t1_loop.trips) (c0_i32_144 : BitVec 32) : Fin 3 → Nat :=
  let c0_i32_15 : BitVec 32 := 0#32
  let c1_i32 : BitVec 32 := 1#32
  let arg15 : BitVec 32 := Scf.iv c0_i32_15 c1_i32 k1_t1
  let c16_i32_142 : BitVec 32 := 16#32
  let v251 : BitVec 32 := Scalar.addi arg15 c16_i32_142
  let c4_i32_143 : BitVec 32 := 4#32
  let v252 : BitVec 32 := Scalar.muli v251 c4_i32_143
  let v253 : BitVec 32 := Scalar.addi v252 c0_i32_144
  let v254 : Index := Scalar.indexCast v253
  let c0_i32_145 : BitVec 32 := 0#32
  let v255 : Index := Scalar.indexCast c0_i32_145
  let c32_146 : Index := 32#32
  ![v254.toNat, 0, 32]
def k1_off15 (k1_t1 : Fin k1_t1_loop.trips) : Fin 2 → Nat :=
  let c0_i32_174 : BitVec 32 := 0#32
  let c0_i32_15 : BitVec 32 := 0#32
  let c1_i32 : BitVec 32 := 1#32
  let arg15 : BitVec 32 := Scf.iv c0_i32_15 c1_i32 k1_t1
  let v318 : BitVec 32 := Scalar.addi c0_i32_174 arg15
  let v319 : Index := Scalar.indexCast v318
  let c48_175 : Index := 48#32
  ![v319.toNat, 48]
def k1_off16 (k1_t1 : Fin k1_t1_loop.trips) : Fin 2 → Nat :=
  let c0_i32_176 : BitVec 32 := 0#32
  let c0_i32_15 : BitVec 32 := 0#32
  let c1_i32 : BitVec 32 := 1#32
  let arg15 : BitVec 32 := Scf.iv c0_i32_15 c1_i32 k1_t1
  let v322 : BitVec 32 := Scalar.addi c0_i32_176 arg15
  let c16_i32_177 : BitVec 32 := 16#32
  let v323 : BitVec 32 := Scalar.addi v322 c16_i32_177
  let v324 : Index := Scalar.indexCast v323
  let c48_178 : Index := 48#32
  ![v324.toNat, 48]
def k1_off17 (k1_t1 : Fin k1_t1_loop.trips) (c0_i32_180 : BitVec 32) : Fin 3 → Nat :=
  let c0_i32_15 : BitVec 32 := 0#32
  let c1_i32 : BitVec 32 := 1#32
  let arg15 : BitVec 32 := Scf.iv c0_i32_15 c1_i32 k1_t1
  let c4_i32_179 : BitVec 32 := 4#32
  let v327 : BitVec 32 := Scalar.muli arg15 c4_i32_179
  let v328 : BitVec 32 := Scalar.addi v327 c0_i32_180
  let v329 : Index := Scalar.indexCast v328
  let c0_i32_181 : BitVec 32 := 0#32
  let v330 : Index := Scalar.indexCast c0_i32_181
  let c48_182 : Index := 48#32
  ![v329.toNat, 0, 48]
def k1_off18 (k1_t1 : Fin k1_t1_loop.trips) (c0_i32_185 : BitVec 32) : Fin 3 → Nat :=
  let c0_i32_15 : BitVec 32 := 0#32
  let c1_i32 : BitVec 32 := 1#32
  let arg15 : BitVec 32 := Scf.iv c0_i32_15 c1_i32 k1_t1
  let c16_i32_183 : BitVec 32 := 16#32
  let v336 : BitVec 32 := Scalar.addi arg15 c16_i32_183
  let c4_i32_184 : BitVec 32 := 4#32
  let v337 : BitVec 32 := Scalar.muli v336 c4_i32_184
  let v338 : BitVec 32 := Scalar.addi v337 c0_i32_185
  let v339 : Index := Scalar.indexCast v338
  let c0_i32_186 : BitVec 32 := 0#32
  let v340 : Index := Scalar.indexCast c0_i32_186
  let c48_187 : Index := 48#32
  ![v339.toNat, 0, 48]
def k1_off19 (k1_t1 : Fin k1_t1_loop.trips) : Fin 2 → Nat :=
  let c0_i32_215 : BitVec 32 := 0#32
  let c0_i32_15 : BitVec 32 := 0#32
  let c1_i32 : BitVec 32 := 1#32
  let arg15 : BitVec 32 := Scf.iv c0_i32_15 c1_i32 k1_t1
  let v403 : BitVec 32 := Scalar.addi c0_i32_215 arg15
  let v404 : Index := Scalar.indexCast v403
  let c64_216 : Index := 64#32
  ![v404.toNat, 64]
def k1_off20 (k1_t1 : Fin k1_t1_loop.trips) : Fin 2 → Nat :=
  let c0_i32_217 : BitVec 32 := 0#32
  let c0_i32_15 : BitVec 32 := 0#32
  let c1_i32 : BitVec 32 := 1#32
  let arg15 : BitVec 32 := Scf.iv c0_i32_15 c1_i32 k1_t1
  let v407 : BitVec 32 := Scalar.addi c0_i32_217 arg15
  let c16_i32_218 : BitVec 32 := 16#32
  let v408 : BitVec 32 := Scalar.addi v407 c16_i32_218
  let v409 : Index := Scalar.indexCast v408
  let c64_219 : Index := 64#32
  ![v409.toNat, 64]
def k1_off21 (k1_t1 : Fin k1_t1_loop.trips) (c0_i32_221 : BitVec 32) : Fin 3 → Nat :=
  let c0_i32_15 : BitVec 32 := 0#32
  let c1_i32 : BitVec 32 := 1#32
  let arg15 : BitVec 32 := Scf.iv c0_i32_15 c1_i32 k1_t1
  let c4_i32_220 : BitVec 32 := 4#32
  let v412 : BitVec 32 := Scalar.muli arg15 c4_i32_220
  let v413 : BitVec 32 := Scalar.addi v412 c0_i32_221
  let v414 : Index := Scalar.indexCast v413
  let c0_i32_222 : BitVec 32 := 0#32
  let v415 : Index := Scalar.indexCast c0_i32_222
  let c64_223 : Index := 64#32
  ![v414.toNat, 0, 64]
def k1_off22 (k1_t1 : Fin k1_t1_loop.trips) (c0_i32_226 : BitVec 32) : Fin 3 → Nat :=
  let c0_i32_15 : BitVec 32 := 0#32
  let c1_i32 : BitVec 32 := 1#32
  let arg15 : BitVec 32 := Scf.iv c0_i32_15 c1_i32 k1_t1
  let c16_i32_224 : BitVec 32 := 16#32
  let v421 : BitVec 32 := Scalar.addi arg15 c16_i32_224
  let c4_i32_225 : BitVec 32 := 4#32
  let v422 : BitVec 32 := Scalar.muli v421 c4_i32_225
  let v423 : BitVec 32 := Scalar.addi v422 c0_i32_226
  let v424 : Index := Scalar.indexCast v423
  let c0_i32_227 : BitVec 32 := 0#32
  let v425 : Index := Scalar.indexCast c0_i32_227
  let c64_228 : Index := 64#32
  ![v424.toNat, 0, 64]
def k1_off23 (k1_t1 : Fin k1_t1_loop.trips) : Fin 2 → Nat :=
  let c0_i32_256 : BitVec 32 := 0#32
  let c0_i32_15 : BitVec 32 := 0#32
  let c1_i32 : BitVec 32 := 1#32
  let arg15 : BitVec 32 := Scf.iv c0_i32_15 c1_i32 k1_t1
  let v488 : BitVec 32 := Scalar.addi c0_i32_256 arg15
  let v489 : Index := Scalar.indexCast v488
  let c80_257 : Index := 80#32
  ![v489.toNat, 80]
def k1_off24 (k1_t1 : Fin k1_t1_loop.trips) : Fin 2 → Nat :=
  let c0_i32_258 : BitVec 32 := 0#32
  let c0_i32_15 : BitVec 32 := 0#32
  let c1_i32 : BitVec 32 := 1#32
  let arg15 : BitVec 32 := Scf.iv c0_i32_15 c1_i32 k1_t1
  let v492 : BitVec 32 := Scalar.addi c0_i32_258 arg15
  let c16_i32_259 : BitVec 32 := 16#32
  let v493 : BitVec 32 := Scalar.addi v492 c16_i32_259
  let v494 : Index := Scalar.indexCast v493
  let c80_260 : Index := 80#32
  ![v494.toNat, 80]
def k1_off25 (k1_t1 : Fin k1_t1_loop.trips) (c0_i32_262 : BitVec 32) : Fin 3 → Nat :=
  let c0_i32_15 : BitVec 32 := 0#32
  let c1_i32 : BitVec 32 := 1#32
  let arg15 : BitVec 32 := Scf.iv c0_i32_15 c1_i32 k1_t1
  let c4_i32_261 : BitVec 32 := 4#32
  let v497 : BitVec 32 := Scalar.muli arg15 c4_i32_261
  let v498 : BitVec 32 := Scalar.addi v497 c0_i32_262
  let v499 : Index := Scalar.indexCast v498
  let c0_i32_263 : BitVec 32 := 0#32
  let v500 : Index := Scalar.indexCast c0_i32_263
  let c80_264 : Index := 80#32
  ![v499.toNat, 0, 80]
def k1_off26 (k1_t1 : Fin k1_t1_loop.trips) (c0_i32_267 : BitVec 32) : Fin 3 → Nat :=
  let c0_i32_15 : BitVec 32 := 0#32
  let c1_i32 : BitVec 32 := 1#32
  let arg15 : BitVec 32 := Scf.iv c0_i32_15 c1_i32 k1_t1
  let c16_i32_265 : BitVec 32 := 16#32
  let v506 : BitVec 32 := Scalar.addi arg15 c16_i32_265
  let c4_i32_266 : BitVec 32 := 4#32
  let v507 : BitVec 32 := Scalar.muli v506 c4_i32_266
  let v508 : BitVec 32 := Scalar.addi v507 c0_i32_267
  let v509 : Index := Scalar.indexCast v508
  let c0_i32_268 : BitVec 32 := 0#32
  let v510 : Index := Scalar.indexCast c0_i32_268
  let c80_269 : Index := 80#32
  ![v509.toNat, 0, 80]
def k1_off27 (k1_t1 : Fin k1_t1_loop.trips) : Fin 2 → Nat :=
  let c0_i32_297 : BitVec 32 := 0#32
  let c0_i32_15 : BitVec 32 := 0#32
  let c1_i32 : BitVec 32 := 1#32
  let arg15 : BitVec 32 := Scf.iv c0_i32_15 c1_i32 k1_t1
  let v573 : BitVec 32 := Scalar.addi c0_i32_297 arg15
  let v574 : Index := Scalar.indexCast v573
  let c96_298 : Index := 96#32
  ![v574.toNat, 96]
def k1_off28 (k1_t1 : Fin k1_t1_loop.trips) : Fin 2 → Nat :=
  let c0_i32_299 : BitVec 32 := 0#32
  let c0_i32_15 : BitVec 32 := 0#32
  let c1_i32 : BitVec 32 := 1#32
  let arg15 : BitVec 32 := Scf.iv c0_i32_15 c1_i32 k1_t1
  let v577 : BitVec 32 := Scalar.addi c0_i32_299 arg15
  let c16_i32_300 : BitVec 32 := 16#32
  let v578 : BitVec 32 := Scalar.addi v577 c16_i32_300
  let v579 : Index := Scalar.indexCast v578
  let c96_301 : Index := 96#32
  ![v579.toNat, 96]
def k1_off29 (k1_t1 : Fin k1_t1_loop.trips) (c0_i32_303 : BitVec 32) : Fin 3 → Nat :=
  let c0_i32_15 : BitVec 32 := 0#32
  let c1_i32 : BitVec 32 := 1#32
  let arg15 : BitVec 32 := Scf.iv c0_i32_15 c1_i32 k1_t1
  let c4_i32_302 : BitVec 32 := 4#32
  let v582 : BitVec 32 := Scalar.muli arg15 c4_i32_302
  let v583 : BitVec 32 := Scalar.addi v582 c0_i32_303
  let v584 : Index := Scalar.indexCast v583
  let c0_i32_304 : BitVec 32 := 0#32
  let v585 : Index := Scalar.indexCast c0_i32_304
  let c96_305 : Index := 96#32
  ![v584.toNat, 0, 96]
def k1_off30 (k1_t1 : Fin k1_t1_loop.trips) (c0_i32_308 : BitVec 32) : Fin 3 → Nat :=
  let c0_i32_15 : BitVec 32 := 0#32
  let c1_i32 : BitVec 32 := 1#32
  let arg15 : BitVec 32 := Scf.iv c0_i32_15 c1_i32 k1_t1
  let c16_i32_306 : BitVec 32 := 16#32
  let v591 : BitVec 32 := Scalar.addi arg15 c16_i32_306
  let c4_i32_307 : BitVec 32 := 4#32
  let v592 : BitVec 32 := Scalar.muli v591 c4_i32_307
  let v593 : BitVec 32 := Scalar.addi v592 c0_i32_308
  let v594 : Index := Scalar.indexCast v593
  let c0_i32_309 : BitVec 32 := 0#32
  let v595 : Index := Scalar.indexCast c0_i32_309
  let c96_310 : Index := 96#32
  ![v594.toNat, 0, 96]
def k1_off31 (k1_t1 : Fin k1_t1_loop.trips) : Fin 2 → Nat :=
  let c0_i32_338 : BitVec 32 := 0#32
  let c0_i32_15 : BitVec 32 := 0#32
  let c1_i32 : BitVec 32 := 1#32
  let arg15 : BitVec 32 := Scf.iv c0_i32_15 c1_i32 k1_t1
  let v658 : BitVec 32 := Scalar.addi c0_i32_338 arg15
  let v659 : Index := Scalar.indexCast v658
  let c112_339 : Index := 112#32
  ![v659.toNat, 112]
def k1_off32 (k1_t1 : Fin k1_t1_loop.trips) : Fin 2 → Nat :=
  let c0_i32_340 : BitVec 32 := 0#32
  let c0_i32_15 : BitVec 32 := 0#32
  let c1_i32 : BitVec 32 := 1#32
  let arg15 : BitVec 32 := Scf.iv c0_i32_15 c1_i32 k1_t1
  let v662 : BitVec 32 := Scalar.addi c0_i32_340 arg15
  let c16_i32_341 : BitVec 32 := 16#32
  let v663 : BitVec 32 := Scalar.addi v662 c16_i32_341
  let v664 : Index := Scalar.indexCast v663
  let c112_342 : Index := 112#32
  ![v664.toNat, 112]
def k1_off33 (k1_t1 : Fin k1_t1_loop.trips) (c0_i32_344 : BitVec 32) : Fin 3 → Nat :=
  let c0_i32_15 : BitVec 32 := 0#32
  let c1_i32 : BitVec 32 := 1#32
  let arg15 : BitVec 32 := Scf.iv c0_i32_15 c1_i32 k1_t1
  let c4_i32_343 : BitVec 32 := 4#32
  let v667 : BitVec 32 := Scalar.muli arg15 c4_i32_343
  let v668 : BitVec 32 := Scalar.addi v667 c0_i32_344
  let v669 : Index := Scalar.indexCast v668
  let c0_i32_345 : BitVec 32 := 0#32
  let v670 : Index := Scalar.indexCast c0_i32_345
  let c112_346 : Index := 112#32
  ![v669.toNat, 0, 112]
def k1_off34 (k1_t1 : Fin k1_t1_loop.trips) (c0_i32_349 : BitVec 32) : Fin 3 → Nat :=
  let c0_i32_15 : BitVec 32 := 0#32
  let c1_i32 : BitVec 32 := 1#32
  let arg15 : BitVec 32 := Scf.iv c0_i32_15 c1_i32 k1_t1
  let c16_i32_347 : BitVec 32 := 16#32
  let v676 : BitVec 32 := Scalar.addi arg15 c16_i32_347
  let c4_i32_348 : BitVec 32 := 4#32
  let v677 : BitVec 32 := Scalar.muli v676 c4_i32_348
  let v678 : BitVec 32 := Scalar.addi v677 c0_i32_349
  let v679 : Index := Scalar.indexCast v678
  let c0_i32_350 : BitVec 32 := 0#32
  let v680 : Index := Scalar.indexCast c0_i32_350
  let c112_351 : Index := 112#32
  ![v679.toNat, 0, 112]
def k1_off35 (k1_t1 : Fin k1_t1_loop.trips) : Fin 2 → Nat :=
  let c0_i32_379 : BitVec 32 := 0#32
  let c0_i32_15 : BitVec 32 := 0#32
  let c1_i32 : BitVec 32 := 1#32
  let arg15 : BitVec 32 := Scf.iv c0_i32_15 c1_i32 k1_t1
  let v743 : BitVec 32 := Scalar.addi c0_i32_379 arg15
  let v744 : Index := Scalar.indexCast v743
  let c128 : Index := 128#32
  ![v744.toNat, 128]
def k1_off36 (k1_t1 : Fin k1_t1_loop.trips) : Fin 2 → Nat :=
  let c0_i32_380 : BitVec 32 := 0#32
  let c0_i32_15 : BitVec 32 := 0#32
  let c1_i32 : BitVec 32 := 1#32
  let arg15 : BitVec 32 := Scf.iv c0_i32_15 c1_i32 k1_t1
  let v747 : BitVec 32 := Scalar.addi c0_i32_380 arg15
  let c16_i32_381 : BitVec 32 := 16#32
  let v748 : BitVec 32 := Scalar.addi v747 c16_i32_381
  let v749 : Index := Scalar.indexCast v748
  let c128_382 : Index := 128#32
  ![v749.toNat, 128]
def k1_off37 (k1_t1 : Fin k1_t1_loop.trips) (c0_i32_384 : BitVec 32) : Fin 3 → Nat :=
  let c0_i32_15 : BitVec 32 := 0#32
  let c1_i32 : BitVec 32 := 1#32
  let arg15 : BitVec 32 := Scf.iv c0_i32_15 c1_i32 k1_t1
  let c4_i32_383 : BitVec 32 := 4#32
  let v752 : BitVec 32 := Scalar.muli arg15 c4_i32_383
  let v753 : BitVec 32 := Scalar.addi v752 c0_i32_384
  let v754 : Index := Scalar.indexCast v753
  let c1_i32_385 : BitVec 32 := 1#32
  let v755 : Index := Scalar.indexCast c1_i32_385
  let c0_386 : Index := 0#32
  ![v754.toNat, 1, 0]
def k1_off38 (k1_t1 : Fin k1_t1_loop.trips) (c0_i32_389 : BitVec 32) : Fin 3 → Nat :=
  let c0_i32_15 : BitVec 32 := 0#32
  let c1_i32 : BitVec 32 := 1#32
  let arg15 : BitVec 32 := Scf.iv c0_i32_15 c1_i32 k1_t1
  let c16_i32_387 : BitVec 32 := 16#32
  let v761 : BitVec 32 := Scalar.addi arg15 c16_i32_387
  let c4_i32_388 : BitVec 32 := 4#32
  let v762 : BitVec 32 := Scalar.muli v761 c4_i32_388
  let v763 : BitVec 32 := Scalar.addi v762 c0_i32_389
  let v764 : Index := Scalar.indexCast v763
  let c1_i32_390 : BitVec 32 := 1#32
  let v765 : Index := Scalar.indexCast c1_i32_390
  let c0_391 : Index := 0#32
  ![v764.toNat, 1, 0]
def k1_off39 (k1_t1 : Fin k1_t1_loop.trips) : Fin 2 → Nat :=
  let c0_i32_419 : BitVec 32 := 0#32
  let c0_i32_15 : BitVec 32 := 0#32
  let c1_i32 : BitVec 32 := 1#32
  let arg15 : BitVec 32 := Scf.iv c0_i32_15 c1_i32 k1_t1
  let v828 : BitVec 32 := Scalar.addi c0_i32_419 arg15
  let v829 : Index := Scalar.indexCast v828
  let c144 : Index := 144#32
  ![v829.toNat, 144]
def k1_off40 (k1_t1 : Fin k1_t1_loop.trips) : Fin 2 → Nat :=
  let c0_i32_420 : BitVec 32 := 0#32
  let c0_i32_15 : BitVec 32 := 0#32
  let c1_i32 : BitVec 32 := 1#32
  let arg15 : BitVec 32 := Scf.iv c0_i32_15 c1_i32 k1_t1
  let v832 : BitVec 32 := Scalar.addi c0_i32_420 arg15
  let c16_i32_421 : BitVec 32 := 16#32
  let v833 : BitVec 32 := Scalar.addi v832 c16_i32_421
  let v834 : Index := Scalar.indexCast v833
  let c144_422 : Index := 144#32
  ![v834.toNat, 144]
def k1_off41 (k1_t1 : Fin k1_t1_loop.trips) (c0_i32_424 : BitVec 32) : Fin 3 → Nat :=
  let c0_i32_15 : BitVec 32 := 0#32
  let c1_i32 : BitVec 32 := 1#32
  let arg15 : BitVec 32 := Scf.iv c0_i32_15 c1_i32 k1_t1
  let c4_i32_423 : BitVec 32 := 4#32
  let v837 : BitVec 32 := Scalar.muli arg15 c4_i32_423
  let v838 : BitVec 32 := Scalar.addi v837 c0_i32_424
  let v839 : Index := Scalar.indexCast v838
  let c1_i32_425 : BitVec 32 := 1#32
  let v840 : Index := Scalar.indexCast c1_i32_425
  let c16_426 : Index := 16#32
  ![v839.toNat, 1, 16]
def k1_off42 (k1_t1 : Fin k1_t1_loop.trips) (c0_i32_429 : BitVec 32) : Fin 3 → Nat :=
  let c0_i32_15 : BitVec 32 := 0#32
  let c1_i32 : BitVec 32 := 1#32
  let arg15 : BitVec 32 := Scf.iv c0_i32_15 c1_i32 k1_t1
  let c16_i32_427 : BitVec 32 := 16#32
  let v846 : BitVec 32 := Scalar.addi arg15 c16_i32_427
  let c4_i32_428 : BitVec 32 := 4#32
  let v847 : BitVec 32 := Scalar.muli v846 c4_i32_428
  let v848 : BitVec 32 := Scalar.addi v847 c0_i32_429
  let v849 : Index := Scalar.indexCast v848
  let c1_i32_430 : BitVec 32 := 1#32
  let v850 : Index := Scalar.indexCast c1_i32_430
  let c16_431 : Index := 16#32
  ![v849.toNat, 1, 16]
def k1_off43 (k1_t1 : Fin k1_t1_loop.trips) : Fin 2 → Nat :=
  let c0_i32_459 : BitVec 32 := 0#32
  let c0_i32_15 : BitVec 32 := 0#32
  let c1_i32 : BitVec 32 := 1#32
  let arg15 : BitVec 32 := Scf.iv c0_i32_15 c1_i32 k1_t1
  let v913 : BitVec 32 := Scalar.addi c0_i32_459 arg15
  let v914 : Index := Scalar.indexCast v913
  let c160 : Index := 160#32
  ![v914.toNat, 160]
def k1_off44 (k1_t1 : Fin k1_t1_loop.trips) : Fin 2 → Nat :=
  let c0_i32_460 : BitVec 32 := 0#32
  let c0_i32_15 : BitVec 32 := 0#32
  let c1_i32 : BitVec 32 := 1#32
  let arg15 : BitVec 32 := Scf.iv c0_i32_15 c1_i32 k1_t1
  let v917 : BitVec 32 := Scalar.addi c0_i32_460 arg15
  let c16_i32_461 : BitVec 32 := 16#32
  let v918 : BitVec 32 := Scalar.addi v917 c16_i32_461
  let v919 : Index := Scalar.indexCast v918
  let c160_462 : Index := 160#32
  ![v919.toNat, 160]
def k1_off45 (k1_t1 : Fin k1_t1_loop.trips) (c0_i32_464 : BitVec 32) : Fin 3 → Nat :=
  let c0_i32_15 : BitVec 32 := 0#32
  let c1_i32 : BitVec 32 := 1#32
  let arg15 : BitVec 32 := Scf.iv c0_i32_15 c1_i32 k1_t1
  let c4_i32_463 : BitVec 32 := 4#32
  let v922 : BitVec 32 := Scalar.muli arg15 c4_i32_463
  let v923 : BitVec 32 := Scalar.addi v922 c0_i32_464
  let v924 : Index := Scalar.indexCast v923
  let c1_i32_465 : BitVec 32 := 1#32
  let v925 : Index := Scalar.indexCast c1_i32_465
  let c32_466 : Index := 32#32
  ![v924.toNat, 1, 32]
def k1_off46 (k1_t1 : Fin k1_t1_loop.trips) (c0_i32_469 : BitVec 32) : Fin 3 → Nat :=
  let c0_i32_15 : BitVec 32 := 0#32
  let c1_i32 : BitVec 32 := 1#32
  let arg15 : BitVec 32 := Scf.iv c0_i32_15 c1_i32 k1_t1
  let c16_i32_467 : BitVec 32 := 16#32
  let v931 : BitVec 32 := Scalar.addi arg15 c16_i32_467
  let c4_i32_468 : BitVec 32 := 4#32
  let v932 : BitVec 32 := Scalar.muli v931 c4_i32_468
  let v933 : BitVec 32 := Scalar.addi v932 c0_i32_469
  let v934 : Index := Scalar.indexCast v933
  let c1_i32_470 : BitVec 32 := 1#32
  let v935 : Index := Scalar.indexCast c1_i32_470
  let c32_471 : Index := 32#32
  ![v934.toNat, 1, 32]
def k1_off47 (k1_t1 : Fin k1_t1_loop.trips) : Fin 2 → Nat :=
  let c0_i32_499 : BitVec 32 := 0#32
  let c0_i32_15 : BitVec 32 := 0#32
  let c1_i32 : BitVec 32 := 1#32
  let arg15 : BitVec 32 := Scf.iv c0_i32_15 c1_i32 k1_t1
  let v998 : BitVec 32 := Scalar.addi c0_i32_499 arg15
  let v999 : Index := Scalar.indexCast v998
  let c176 : Index := 176#32
  ![v999.toNat, 176]
def k1_off48 (k1_t1 : Fin k1_t1_loop.trips) : Fin 2 → Nat :=
  let c0_i32_500 : BitVec 32 := 0#32
  let c0_i32_15 : BitVec 32 := 0#32
  let c1_i32 : BitVec 32 := 1#32
  let arg15 : BitVec 32 := Scf.iv c0_i32_15 c1_i32 k1_t1
  let v1002 : BitVec 32 := Scalar.addi c0_i32_500 arg15
  let c16_i32_501 : BitVec 32 := 16#32
  let v1003 : BitVec 32 := Scalar.addi v1002 c16_i32_501
  let v1004 : Index := Scalar.indexCast v1003
  let c176_502 : Index := 176#32
  ![v1004.toNat, 176]
def k1_off49 (k1_t1 : Fin k1_t1_loop.trips) (c0_i32_504 : BitVec 32) : Fin 3 → Nat :=
  let c0_i32_15 : BitVec 32 := 0#32
  let c1_i32 : BitVec 32 := 1#32
  let arg15 : BitVec 32 := Scf.iv c0_i32_15 c1_i32 k1_t1
  let c4_i32_503 : BitVec 32 := 4#32
  let v1007 : BitVec 32 := Scalar.muli arg15 c4_i32_503
  let v1008 : BitVec 32 := Scalar.addi v1007 c0_i32_504
  let v1009 : Index := Scalar.indexCast v1008
  let c1_i32_505 : BitVec 32 := 1#32
  let v1010 : Index := Scalar.indexCast c1_i32_505
  let c48_506 : Index := 48#32
  ![v1009.toNat, 1, 48]
def k1_off50 (k1_t1 : Fin k1_t1_loop.trips) (c0_i32_509 : BitVec 32) : Fin 3 → Nat :=
  let c0_i32_15 : BitVec 32 := 0#32
  let c1_i32 : BitVec 32 := 1#32
  let arg15 : BitVec 32 := Scf.iv c0_i32_15 c1_i32 k1_t1
  let c16_i32_507 : BitVec 32 := 16#32
  let v1016 : BitVec 32 := Scalar.addi arg15 c16_i32_507
  let c4_i32_508 : BitVec 32 := 4#32
  let v1017 : BitVec 32 := Scalar.muli v1016 c4_i32_508
  let v1018 : BitVec 32 := Scalar.addi v1017 c0_i32_509
  let v1019 : Index := Scalar.indexCast v1018
  let c1_i32_510 : BitVec 32 := 1#32
  let v1020 : Index := Scalar.indexCast c1_i32_510
  let c48_511 : Index := 48#32
  ![v1019.toNat, 1, 48]
def k1_off51 (k1_t1 : Fin k1_t1_loop.trips) : Fin 2 → Nat :=
  let c0_i32_539 : BitVec 32 := 0#32
  let c0_i32_15 : BitVec 32 := 0#32
  let c1_i32 : BitVec 32 := 1#32
  let arg15 : BitVec 32 := Scf.iv c0_i32_15 c1_i32 k1_t1
  let v1083 : BitVec 32 := Scalar.addi c0_i32_539 arg15
  let v1084 : Index := Scalar.indexCast v1083
  let c192 : Index := 192#32
  ![v1084.toNat, 192]
def k1_off52 (k1_t1 : Fin k1_t1_loop.trips) : Fin 2 → Nat :=
  let c0_i32_540 : BitVec 32 := 0#32
  let c0_i32_15 : BitVec 32 := 0#32
  let c1_i32 : BitVec 32 := 1#32
  let arg15 : BitVec 32 := Scf.iv c0_i32_15 c1_i32 k1_t1
  let v1087 : BitVec 32 := Scalar.addi c0_i32_540 arg15
  let c16_i32_541 : BitVec 32 := 16#32
  let v1088 : BitVec 32 := Scalar.addi v1087 c16_i32_541
  let v1089 : Index := Scalar.indexCast v1088
  let c192_542 : Index := 192#32
  ![v1089.toNat, 192]
def k1_off53 (k1_t1 : Fin k1_t1_loop.trips) (c0_i32_544 : BitVec 32) : Fin 3 → Nat :=
  let c0_i32_15 : BitVec 32 := 0#32
  let c1_i32 : BitVec 32 := 1#32
  let arg15 : BitVec 32 := Scf.iv c0_i32_15 c1_i32 k1_t1
  let c4_i32_543 : BitVec 32 := 4#32
  let v1092 : BitVec 32 := Scalar.muli arg15 c4_i32_543
  let v1093 : BitVec 32 := Scalar.addi v1092 c0_i32_544
  let v1094 : Index := Scalar.indexCast v1093
  let c1_i32_545 : BitVec 32 := 1#32
  let v1095 : Index := Scalar.indexCast c1_i32_545
  let c64_546 : Index := 64#32
  ![v1094.toNat, 1, 64]
def k1_off54 (k1_t1 : Fin k1_t1_loop.trips) (c0_i32_549 : BitVec 32) : Fin 3 → Nat :=
  let c0_i32_15 : BitVec 32 := 0#32
  let c1_i32 : BitVec 32 := 1#32
  let arg15 : BitVec 32 := Scf.iv c0_i32_15 c1_i32 k1_t1
  let c16_i32_547 : BitVec 32 := 16#32
  let v1101 : BitVec 32 := Scalar.addi arg15 c16_i32_547
  let c4_i32_548 : BitVec 32 := 4#32
  let v1102 : BitVec 32 := Scalar.muli v1101 c4_i32_548
  let v1103 : BitVec 32 := Scalar.addi v1102 c0_i32_549
  let v1104 : Index := Scalar.indexCast v1103
  let c1_i32_550 : BitVec 32 := 1#32
  let v1105 : Index := Scalar.indexCast c1_i32_550
  let c64_551 : Index := 64#32
  ![v1104.toNat, 1, 64]
def k1_off55 (k1_t1 : Fin k1_t1_loop.trips) : Fin 2 → Nat :=
  let c0_i32_579 : BitVec 32 := 0#32
  let c0_i32_15 : BitVec 32 := 0#32
  let c1_i32 : BitVec 32 := 1#32
  let arg15 : BitVec 32 := Scf.iv c0_i32_15 c1_i32 k1_t1
  let v1168 : BitVec 32 := Scalar.addi c0_i32_579 arg15
  let v1169 : Index := Scalar.indexCast v1168
  let c208 : Index := 208#32
  ![v1169.toNat, 208]
def k1_off56 (k1_t1 : Fin k1_t1_loop.trips) : Fin 2 → Nat :=
  let c0_i32_580 : BitVec 32 := 0#32
  let c0_i32_15 : BitVec 32 := 0#32
  let c1_i32 : BitVec 32 := 1#32
  let arg15 : BitVec 32 := Scf.iv c0_i32_15 c1_i32 k1_t1
  let v1172 : BitVec 32 := Scalar.addi c0_i32_580 arg15
  let c16_i32_581 : BitVec 32 := 16#32
  let v1173 : BitVec 32 := Scalar.addi v1172 c16_i32_581
  let v1174 : Index := Scalar.indexCast v1173
  let c208_582 : Index := 208#32
  ![v1174.toNat, 208]
def k1_off57 (k1_t1 : Fin k1_t1_loop.trips) (c0_i32_584 : BitVec 32) : Fin 3 → Nat :=
  let c0_i32_15 : BitVec 32 := 0#32
  let c1_i32 : BitVec 32 := 1#32
  let arg15 : BitVec 32 := Scf.iv c0_i32_15 c1_i32 k1_t1
  let c4_i32_583 : BitVec 32 := 4#32
  let v1177 : BitVec 32 := Scalar.muli arg15 c4_i32_583
  let v1178 : BitVec 32 := Scalar.addi v1177 c0_i32_584
  let v1179 : Index := Scalar.indexCast v1178
  let c1_i32_585 : BitVec 32 := 1#32
  let v1180 : Index := Scalar.indexCast c1_i32_585
  let c80_586 : Index := 80#32
  ![v1179.toNat, 1, 80]
def k1_off58 (k1_t1 : Fin k1_t1_loop.trips) (c0_i32_589 : BitVec 32) : Fin 3 → Nat :=
  let c0_i32_15 : BitVec 32 := 0#32
  let c1_i32 : BitVec 32 := 1#32
  let arg15 : BitVec 32 := Scf.iv c0_i32_15 c1_i32 k1_t1
  let c16_i32_587 : BitVec 32 := 16#32
  let v1186 : BitVec 32 := Scalar.addi arg15 c16_i32_587
  let c4_i32_588 : BitVec 32 := 4#32
  let v1187 : BitVec 32 := Scalar.muli v1186 c4_i32_588
  let v1188 : BitVec 32 := Scalar.addi v1187 c0_i32_589
  let v1189 : Index := Scalar.indexCast v1188
  let c1_i32_590 : BitVec 32 := 1#32
  let v1190 : Index := Scalar.indexCast c1_i32_590
  let c80_591 : Index := 80#32
  ![v1189.toNat, 1, 80]
def k1_off59 (k1_t1 : Fin k1_t1_loop.trips) : Fin 2 → Nat :=
  let c0_i32_619 : BitVec 32 := 0#32
  let c0_i32_15 : BitVec 32 := 0#32
  let c1_i32 : BitVec 32 := 1#32
  let arg15 : BitVec 32 := Scf.iv c0_i32_15 c1_i32 k1_t1
  let v1253 : BitVec 32 := Scalar.addi c0_i32_619 arg15
  let v1254 : Index := Scalar.indexCast v1253
  let c224 : Index := 224#32
  ![v1254.toNat, 224]
def k1_off60 (k1_t1 : Fin k1_t1_loop.trips) : Fin 2 → Nat :=
  let c0_i32_620 : BitVec 32 := 0#32
  let c0_i32_15 : BitVec 32 := 0#32
  let c1_i32 : BitVec 32 := 1#32
  let arg15 : BitVec 32 := Scf.iv c0_i32_15 c1_i32 k1_t1
  let v1257 : BitVec 32 := Scalar.addi c0_i32_620 arg15
  let c16_i32_621 : BitVec 32 := 16#32
  let v1258 : BitVec 32 := Scalar.addi v1257 c16_i32_621
  let v1259 : Index := Scalar.indexCast v1258
  let c224_622 : Index := 224#32
  ![v1259.toNat, 224]
def k1_off61 (k1_t1 : Fin k1_t1_loop.trips) (c0_i32_624 : BitVec 32) : Fin 3 → Nat :=
  let c0_i32_15 : BitVec 32 := 0#32
  let c1_i32 : BitVec 32 := 1#32
  let arg15 : BitVec 32 := Scf.iv c0_i32_15 c1_i32 k1_t1
  let c4_i32_623 : BitVec 32 := 4#32
  let v1262 : BitVec 32 := Scalar.muli arg15 c4_i32_623
  let v1263 : BitVec 32 := Scalar.addi v1262 c0_i32_624
  let v1264 : Index := Scalar.indexCast v1263
  let c1_i32_625 : BitVec 32 := 1#32
  let v1265 : Index := Scalar.indexCast c1_i32_625
  let c96_626 : Index := 96#32
  ![v1264.toNat, 1, 96]
def k1_off62 (k1_t1 : Fin k1_t1_loop.trips) (c0_i32_629 : BitVec 32) : Fin 3 → Nat :=
  let c0_i32_15 : BitVec 32 := 0#32
  let c1_i32 : BitVec 32 := 1#32
  let arg15 : BitVec 32 := Scf.iv c0_i32_15 c1_i32 k1_t1
  let c16_i32_627 : BitVec 32 := 16#32
  let v1271 : BitVec 32 := Scalar.addi arg15 c16_i32_627
  let c4_i32_628 : BitVec 32 := 4#32
  let v1272 : BitVec 32 := Scalar.muli v1271 c4_i32_628
  let v1273 : BitVec 32 := Scalar.addi v1272 c0_i32_629
  let v1274 : Index := Scalar.indexCast v1273
  let c1_i32_630 : BitVec 32 := 1#32
  let v1275 : Index := Scalar.indexCast c1_i32_630
  let c96_631 : Index := 96#32
  ![v1274.toNat, 1, 96]
def k1_off63 (k1_t1 : Fin k1_t1_loop.trips) : Fin 2 → Nat :=
  let c0_i32_659 : BitVec 32 := 0#32
  let c0_i32_15 : BitVec 32 := 0#32
  let c1_i32 : BitVec 32 := 1#32
  let arg15 : BitVec 32 := Scf.iv c0_i32_15 c1_i32 k1_t1
  let v1338 : BitVec 32 := Scalar.addi c0_i32_659 arg15
  let v1339 : Index := Scalar.indexCast v1338
  let c240 : Index := 240#32
  ![v1339.toNat, 240]
def k1_off64 (k1_t1 : Fin k1_t1_loop.trips) : Fin 2 → Nat :=
  let c0_i32_660 : BitVec 32 := 0#32
  let c0_i32_15 : BitVec 32 := 0#32
  let c1_i32 : BitVec 32 := 1#32
  let arg15 : BitVec 32 := Scf.iv c0_i32_15 c1_i32 k1_t1
  let v1342 : BitVec 32 := Scalar.addi c0_i32_660 arg15
  let c16_i32_661 : BitVec 32 := 16#32
  let v1343 : BitVec 32 := Scalar.addi v1342 c16_i32_661
  let v1344 : Index := Scalar.indexCast v1343
  let c240_662 : Index := 240#32
  ![v1344.toNat, 240]
def k1_off65 (k1_t1 : Fin k1_t1_loop.trips) (c0_i32_664 : BitVec 32) : Fin 3 → Nat :=
  let c0_i32_15 : BitVec 32 := 0#32
  let c1_i32 : BitVec 32 := 1#32
  let arg15 : BitVec 32 := Scf.iv c0_i32_15 c1_i32 k1_t1
  let c4_i32_663 : BitVec 32 := 4#32
  let v1347 : BitVec 32 := Scalar.muli arg15 c4_i32_663
  let v1348 : BitVec 32 := Scalar.addi v1347 c0_i32_664
  let v1349 : Index := Scalar.indexCast v1348
  let c1_i32_665 : BitVec 32 := 1#32
  let v1350 : Index := Scalar.indexCast c1_i32_665
  let c112_666 : Index := 112#32
  ![v1349.toNat, 1, 112]
def k1_off66 (k1_t1 : Fin k1_t1_loop.trips) (c0_i32_669 : BitVec 32) : Fin 3 → Nat :=
  let c0_i32_15 : BitVec 32 := 0#32
  let c1_i32 : BitVec 32 := 1#32
  let arg15 : BitVec 32 := Scf.iv c0_i32_15 c1_i32 k1_t1
  let c16_i32_667 : BitVec 32 := 16#32
  let v1356 : BitVec 32 := Scalar.addi arg15 c16_i32_667
  let c4_i32_668 : BitVec 32 := 4#32
  let v1357 : BitVec 32 := Scalar.muli v1356 c4_i32_668
  let v1358 : BitVec 32 := Scalar.addi v1357 c0_i32_669
  let v1359 : Index := Scalar.indexCast v1358
  let c1_i32_670 : BitVec 32 := 1#32
  let v1360 : Index := Scalar.indexCast c1_i32_670
  let c112_671 : Index := 112#32
  ![v1359.toNat, 1, 112]

def k1_chk1 (v1427 : IVec S16 32) : Prop :=
  (∀ a x, ((![v1427] : Fin 1 → IVec S16 32) a x).toNat < S16.size a)
theorem k1_idx1_inb : ∀ (v1427 : IVec S16 32) (k1_hw1 : k1_chk1 v1427), ∀ a x, ((![v1427] : Fin 1 → IVec S16 32) a x).toNat < S16.size a := fun v1427 k1_hw1 => k1_hw1

def k1_chk2 (v1434 : IVec S16 32) : Prop :=
  (∀ a x, ((![v1434] : Fin 1 → IVec S16 32) a x).toNat < S16.size a)
theorem k1_idx2_inb : ∀ (v1434 : IVec S16 32) (k1_hw2 : k1_chk2 v1434), ∀ a x, ((![v1434] : Fin 1 → IVec S16 32) a x).toNat < S16.size a := fun v1434 k1_hw2 => k1_hw2

def k1_chk3 (v1441 : IVec S16 32) : Prop :=
  (∀ a x, ((![v1441] : Fin 1 → IVec S16 32) a x).toNat < S16.size a)
theorem k1_idx3_inb : ∀ (v1441 : IVec S16 32) (k1_hw3 : k1_chk3 v1441), ∀ a x, ((![v1441] : Fin 1 → IVec S16 32) a x).toNat < S16.size a := fun v1441 k1_hw3 => k1_hw3

def k1_chk4 (v1448 : IVec S16 32) : Prop :=
  (∀ a x, ((![v1448] : Fin 1 → IVec S16 32) a x).toNat < S16.size a)
theorem k1_idx4_inb : ∀ (v1448 : IVec S16 32) (k1_hw4 : k1_chk4 v1448), ∀ a x, ((![v1448] : Fin 1 → IVec S16 32) a x).toNat < S16.size a := fun v1448 k1_hw4 => k1_hw4

def k1_chk5 (v1455 : IVec S16 32) : Prop :=
  (∀ a x, ((![v1455] : Fin 1 → IVec S16 32) a x).toNat < S16.size a)
theorem k1_idx5_inb : ∀ (v1455 : IVec S16 32) (k1_hw5 : k1_chk5 v1455), ∀ a x, ((![v1455] : Fin 1 → IVec S16 32) a x).toNat < S16.size a := fun v1455 k1_hw5 => k1_hw5

def k1_chk6 (v1462 : IVec S16 32) : Prop :=
  (∀ a x, ((![v1462] : Fin 1 → IVec S16 32) a x).toNat < S16.size a)
theorem k1_idx6_inb : ∀ (v1462 : IVec S16 32) (k1_hw6 : k1_chk6 v1462), ∀ a x, ((![v1462] : Fin 1 → IVec S16 32) a x).toNat < S16.size a := fun v1462 k1_hw6 => k1_hw6

def k1_chk7 (v1469 : IVec S16 32) : Prop :=
  (∀ a x, ((![v1469] : Fin 1 → IVec S16 32) a x).toNat < S16.size a)
theorem k1_idx7_inb : ∀ (v1469 : IVec S16 32) (k1_hw7 : k1_chk7 v1469), ∀ a x, ((![v1469] : Fin 1 → IVec S16 32) a x).toNat < S16.size a := fun v1469 k1_hw7 => k1_hw7

def k1_chk8 (v1476 : IVec S16 32) : Prop :=
  (∀ a x, ((![v1476] : Fin 1 → IVec S16 32) a x).toNat < S16.size a)
theorem k1_idx8_inb : ∀ (v1476 : IVec S16 32) (k1_hw8 : k1_chk8 v1476), ∀ a x, ((![v1476] : Fin 1 → IVec S16 32) a x).toNat < S16.size a := fun v1476 k1_hw8 => k1_hw8

def k1_chk9 (v1483 : IVec S16 32) : Prop :=
  (∀ a x, ((![v1483] : Fin 1 → IVec S16 32) a x).toNat < S16.size a)
theorem k1_idx9_inb : ∀ (v1483 : IVec S16 32) (k1_hw9 : k1_chk9 v1483), ∀ a x, ((![v1483] : Fin 1 → IVec S16 32) a x).toNat < S16.size a := fun v1483 k1_hw9 => k1_hw9

def k1_chk10 (v1490 : IVec S16 32) : Prop :=
  (∀ a x, ((![v1490] : Fin 1 → IVec S16 32) a x).toNat < S16.size a)
theorem k1_idx10_inb : ∀ (v1490 : IVec S16 32) (k1_hw10 : k1_chk10 v1490), ∀ a x, ((![v1490] : Fin 1 → IVec S16 32) a x).toNat < S16.size a := fun v1490 k1_hw10 => k1_hw10

def k1_chk11 (v1497 : IVec S16 32) : Prop :=
  (∀ a x, ((![v1497] : Fin 1 → IVec S16 32) a x).toNat < S16.size a)
theorem k1_idx11_inb : ∀ (v1497 : IVec S16 32) (k1_hw11 : k1_chk11 v1497), ∀ a x, ((![v1497] : Fin 1 → IVec S16 32) a x).toNat < S16.size a := fun v1497 k1_hw11 => k1_hw11

def k1_chk12 (v1504 : IVec S16 32) : Prop :=
  (∀ a x, ((![v1504] : Fin 1 → IVec S16 32) a x).toNat < S16.size a)
theorem k1_idx12_inb : ∀ (v1504 : IVec S16 32) (k1_hw12 : k1_chk12 v1504), ∀ a x, ((![v1504] : Fin 1 → IVec S16 32) a x).toNat < S16.size a := fun v1504 k1_hw12 => k1_hw12

def k1_chk13 (v1512 : IVec S16 32) : Prop :=
  (∀ a x, ((![v1512] : Fin 1 → IVec S16 32) a x).toNat < S16.size a)
theorem k1_idx13_inb : ∀ (v1512 : IVec S16 32) (k1_hw13 : k1_chk13 v1512), ∀ a x, ((![v1512] : Fin 1 → IVec S16 32) a x).toNat < S16.size a := fun v1512 k1_hw13 => k1_hw13

def k1_chk14 (v1519 : IVec S16 32) : Prop :=
  (∀ a x, ((![v1519] : Fin 1 → IVec S16 32) a x).toNat < S16.size a)
theorem k1_idx14_inb : ∀ (v1519 : IVec S16 32) (k1_hw14 : k1_chk14 v1519), ∀ a x, ((![v1519] : Fin 1 → IVec S16 32) a x).toNat < S16.size a := fun v1519 k1_hw14 => k1_hw14

def k1_chk15 (v1526 : IVec S16 32) : Prop :=
  (∀ a x, ((![v1526] : Fin 1 → IVec S16 32) a x).toNat < S16.size a)
theorem k1_idx15_inb : ∀ (v1526 : IVec S16 32) (k1_hw15 : k1_chk15 v1526), ∀ a x, ((![v1526] : Fin 1 → IVec S16 32) a x).toNat < S16.size a := fun v1526 k1_hw15 => k1_hw15

def k1_chk16 (v1533 : IVec S16 32) : Prop :=
  (∀ a x, ((![v1533] : Fin 1 → IVec S16 32) a x).toNat < S16.size a)
theorem k1_idx16_inb : ∀ (v1533 : IVec S16 32) (k1_hw16 : k1_chk16 v1533), ∀ a x, ((![v1533] : Fin 1 → IVec S16 32) a x).toNat < S16.size a := fun v1533 k1_hw16 => k1_hw16

def k1_chk17 (v1541 : IVec S16 32) : Prop :=
  (∀ a x, ((![v1541] : Fin 1 → IVec S16 32) a x).toNat < S16.size a)
theorem k1_idx17_inb : ∀ (v1541 : IVec S16 32) (k1_hw17 : k1_chk17 v1541), ∀ a x, ((![v1541] : Fin 1 → IVec S16 32) a x).toNat < S16.size a := fun v1541 k1_hw17 => k1_hw17

def k1_chk18 (v1548 : IVec S16 32) : Prop :=
  (∀ a x, ((![v1548] : Fin 1 → IVec S16 32) a x).toNat < S16.size a)
theorem k1_idx18_inb : ∀ (v1548 : IVec S16 32) (k1_hw18 : k1_chk18 v1548), ∀ a x, ((![v1548] : Fin 1 → IVec S16 32) a x).toNat < S16.size a := fun v1548 k1_hw18 => k1_hw18

def k1_chk19 (v1555 : IVec S16 32) : Prop :=
  (∀ a x, ((![v1555] : Fin 1 → IVec S16 32) a x).toNat < S16.size a)
theorem k1_idx19_inb : ∀ (v1555 : IVec S16 32) (k1_hw19 : k1_chk19 v1555), ∀ a x, ((![v1555] : Fin 1 → IVec S16 32) a x).toNat < S16.size a := fun v1555 k1_hw19 => k1_hw19

def k1_chk20 (v1562 : IVec S16 32) : Prop :=
  (∀ a x, ((![v1562] : Fin 1 → IVec S16 32) a x).toNat < S16.size a)
theorem k1_idx20_inb : ∀ (v1562 : IVec S16 32) (k1_hw20 : k1_chk20 v1562), ∀ a x, ((![v1562] : Fin 1 → IVec S16 32) a x).toNat < S16.size a := fun v1562 k1_hw20 => k1_hw20

def k1_chk21 (v1570 : IVec S16 32) : Prop :=
  (∀ a x, ((![v1570] : Fin 1 → IVec S16 32) a x).toNat < S16.size a)
theorem k1_idx21_inb : ∀ (v1570 : IVec S16 32) (k1_hw21 : k1_chk21 v1570), ∀ a x, ((![v1570] : Fin 1 → IVec S16 32) a x).toNat < S16.size a := fun v1570 k1_hw21 => k1_hw21

def k1_chk22 (v1577 : IVec S16 32) : Prop :=
  (∀ a x, ((![v1577] : Fin 1 → IVec S16 32) a x).toNat < S16.size a)
theorem k1_idx22_inb : ∀ (v1577 : IVec S16 32) (k1_hw22 : k1_chk22 v1577), ∀ a x, ((![v1577] : Fin 1 → IVec S16 32) a x).toNat < S16.size a := fun v1577 k1_hw22 => k1_hw22

def k1_chk23 (v1584 : IVec S16 32) : Prop :=
  (∀ a x, ((![v1584] : Fin 1 → IVec S16 32) a x).toNat < S16.size a)
theorem k1_idx23_inb : ∀ (v1584 : IVec S16 32) (k1_hw23 : k1_chk23 v1584), ∀ a x, ((![v1584] : Fin 1 → IVec S16 32) a x).toNat < S16.size a := fun v1584 k1_hw23 => k1_hw23

def k1_chk24 (v1591 : IVec S16 32) : Prop :=
  (∀ a x, ((![v1591] : Fin 1 → IVec S16 32) a x).toNat < S16.size a)
theorem k1_idx24_inb : ∀ (v1591 : IVec S16 32) (k1_hw24 : k1_chk24 v1591), ∀ a x, ((![v1591] : Fin 1 → IVec S16 32) a x).toNat < S16.size a := fun v1591 k1_hw24 => k1_hw24

def k1_chk25 (v1599 : IVec S16 32) : Prop :=
  (∀ a x, ((![v1599] : Fin 1 → IVec S16 32) a x).toNat < S16.size a)
theorem k1_idx25_inb : ∀ (v1599 : IVec S16 32) (k1_hw25 : k1_chk25 v1599), ∀ a x, ((![v1599] : Fin 1 → IVec S16 32) a x).toNat < S16.size a := fun v1599 k1_hw25 => k1_hw25

def k1_chk26 (v1606 : IVec S16 32) : Prop :=
  (∀ a x, ((![v1606] : Fin 1 → IVec S16 32) a x).toNat < S16.size a)
theorem k1_idx26_inb : ∀ (v1606 : IVec S16 32) (k1_hw26 : k1_chk26 v1606), ∀ a x, ((![v1606] : Fin 1 → IVec S16 32) a x).toNat < S16.size a := fun v1606 k1_hw26 => k1_hw26

def k1_chk27 (v1613 : IVec S16 32) : Prop :=
  (∀ a x, ((![v1613] : Fin 1 → IVec S16 32) a x).toNat < S16.size a)
theorem k1_idx27_inb : ∀ (v1613 : IVec S16 32) (k1_hw27 : k1_chk27 v1613), ∀ a x, ((![v1613] : Fin 1 → IVec S16 32) a x).toNat < S16.size a := fun v1613 k1_hw27 => k1_hw27

def k1_chk28 (v1620 : IVec S16 32) : Prop :=
  (∀ a x, ((![v1620] : Fin 1 → IVec S16 32) a x).toNat < S16.size a)
theorem k1_idx28_inb : ∀ (v1620 : IVec S16 32) (k1_hw28 : k1_chk28 v1620), ∀ a x, ((![v1620] : Fin 1 → IVec S16 32) a x).toNat < S16.size a := fun v1620 k1_hw28 => k1_hw28

def k1_chk29 (v1628 : IVec S16 32) : Prop :=
  (∀ a x, ((![v1628] : Fin 1 → IVec S16 32) a x).toNat < S16.size a)
theorem k1_idx29_inb : ∀ (v1628 : IVec S16 32) (k1_hw29 : k1_chk29 v1628), ∀ a x, ((![v1628] : Fin 1 → IVec S16 32) a x).toNat < S16.size a := fun v1628 k1_hw29 => k1_hw29

def k1_chk30 (v1635 : IVec S16 32) : Prop :=
  (∀ a x, ((![v1635] : Fin 1 → IVec S16 32) a x).toNat < S16.size a)
theorem k1_idx30_inb : ∀ (v1635 : IVec S16 32) (k1_hw30 : k1_chk30 v1635), ∀ a x, ((![v1635] : Fin 1 → IVec S16 32) a x).toNat < S16.size a := fun v1635 k1_hw30 => k1_hw30

def k1_chk31 (v1642 : IVec S16 32) : Prop :=
  (∀ a x, ((![v1642] : Fin 1 → IVec S16 32) a x).toNat < S16.size a)
theorem k1_idx31_inb : ∀ (v1642 : IVec S16 32) (k1_hw31 : k1_chk31 v1642), ∀ a x, ((![v1642] : Fin 1 → IVec S16 32) a x).toNat < S16.size a := fun v1642 k1_hw31 => k1_hw31

def k1_chk32 (v1649 : IVec S16 32) : Prop :=
  (∀ a x, ((![v1649] : Fin 1 → IVec S16 32) a x).toNat < S16.size a)
theorem k1_idx32_inb : ∀ (v1649 : IVec S16 32) (k1_hw32 : k1_chk32 v1649), ∀ a x, ((![v1649] : Fin 1 → IVec S16 32) a x).toNat < S16.size a := fun v1649 k1_hw32 => k1_hw32
@[reducible] def k1_t2_loop : Scf.Loop 32 :=
  let c0_i32_25 : BitVec 32 := 0#32
  let c16_i32_26 : BitVec 32 := 16#32
  let v29 : BitVec 32 := Scalar.addi c0_i32_25 c16_i32_26
  let c1_i32_27 : BitVec 32 := 1#32
  ⟨c0_i32_25, v29, c1_i32_27⟩
def k1_off67 (k1_t2 : Fin k1_t2_loop.trips) : Fin 2 → Nat :=
  let c32_i32 : BitVec 32 := 32#32
  let c0_i32_25 : BitVec 32 := 0#32
  let c1_i32_27 : BitVec 32 := 1#32
  let arg15 : BitVec 32 := Scf.iv c0_i32_25 c1_i32_27 k1_t2
  let v63 : BitVec 32 := Scalar.addi c32_i32 arg15
  let v64 : Index := Scalar.indexCast v63
  let c0_52 : Index := 0#32
  ![v64.toNat, 0]
def k1_off68 (k1_t2 : Fin k1_t2_loop.trips) : Fin 2 → Nat :=
  let c32_i32_53 : BitVec 32 := 32#32
  let c0_i32_25 : BitVec 32 := 0#32
  let c1_i32_27 : BitVec 32 := 1#32
  let arg15 : BitVec 32 := Scf.iv c0_i32_25 c1_i32_27 k1_t2
  let v67 : BitVec 32 := Scalar.addi c32_i32_53 arg15
  let c16_i32_54 : BitVec 32 := 16#32
  let v68 : BitVec 32 := Scalar.addi v67 c16_i32_54
  let v69 : Index := Scalar.indexCast v68
  let c0_55 : Index := 0#32
  ![v69.toNat, 0]
def k1_off69 (k1_t2 : Fin k1_t2_loop.trips) (c0_i32_57 : BitVec 32) : Fin 3 → Nat :=
  let c0_i32_25 : BitVec 32 := 0#32
  let c1_i32_27 : BitVec 32 := 1#32
  let arg15 : BitVec 32 := Scf.iv c0_i32_25 c1_i32_27 k1_t2
  let c4_i32_56 : BitVec 32 := 4#32
  let v72 : BitVec 32 := Scalar.muli arg15 c4_i32_56
  let v73 : BitVec 32 := Scalar.addi v72 c0_i32_57
  let v74 : Index := Scalar.indexCast v73
  let c0_i32_58 : BitVec 32 := 0#32
  let v75 : Index := Scalar.indexCast c0_i32_58
  let c0_59 : Index := 0#32
  ![v74.toNat, 0, 0]
def k1_off70 (k1_t2 : Fin k1_t2_loop.trips) (c0_i32_62 : BitVec 32) : Fin 3 → Nat :=
  let c0_i32_25 : BitVec 32 := 0#32
  let c1_i32_27 : BitVec 32 := 1#32
  let arg15 : BitVec 32 := Scf.iv c0_i32_25 c1_i32_27 k1_t2
  let c16_i32_60 : BitVec 32 := 16#32
  let v81 : BitVec 32 := Scalar.addi arg15 c16_i32_60
  let c4_i32_61 : BitVec 32 := 4#32
  let v82 : BitVec 32 := Scalar.muli v81 c4_i32_61
  let v83 : BitVec 32 := Scalar.addi v82 c0_i32_62
  let v84 : Index := Scalar.indexCast v83
  let c0_i32_63 : BitVec 32 := 0#32
  let v85 : Index := Scalar.indexCast c0_i32_63
  let c0_64 : Index := 0#32
  ![v84.toNat, 0, 0]
def k1_off71 (k1_t2 : Fin k1_t2_loop.trips) : Fin 2 → Nat :=
  let c32_i32_91 : BitVec 32 := 32#32
  let c0_i32_25 : BitVec 32 := 0#32
  let c1_i32_27 : BitVec 32 := 1#32
  let arg15 : BitVec 32 := Scf.iv c0_i32_25 c1_i32_27 k1_t2
  let v148 : BitVec 32 := Scalar.addi c32_i32_91 arg15
  let v149 : Index := Scalar.indexCast v148
  let c16_92 : Index := 16#32
  ![v149.toNat, 16]
def k1_off72 (k1_t2 : Fin k1_t2_loop.trips) : Fin 2 → Nat :=
  let c32_i32_93 : BitVec 32 := 32#32
  let c0_i32_25 : BitVec 32 := 0#32
  let c1_i32_27 : BitVec 32 := 1#32
  let arg15 : BitVec 32 := Scf.iv c0_i32_25 c1_i32_27 k1_t2
  let v152 : BitVec 32 := Scalar.addi c32_i32_93 arg15
  let c16_i32_94 : BitVec 32 := 16#32
  let v153 : BitVec 32 := Scalar.addi v152 c16_i32_94
  let v154 : Index := Scalar.indexCast v153
  let c16_95 : Index := 16#32
  ![v154.toNat, 16]
def k1_off73 (k1_t2 : Fin k1_t2_loop.trips) (c0_i32_97 : BitVec 32) : Fin 3 → Nat :=
  let c0_i32_25 : BitVec 32 := 0#32
  let c1_i32_27 : BitVec 32 := 1#32
  let arg15 : BitVec 32 := Scf.iv c0_i32_25 c1_i32_27 k1_t2
  let c4_i32_96 : BitVec 32 := 4#32
  let v157 : BitVec 32 := Scalar.muli arg15 c4_i32_96
  let v158 : BitVec 32 := Scalar.addi v157 c0_i32_97
  let v159 : Index := Scalar.indexCast v158
  let c0_i32_98 : BitVec 32 := 0#32
  let v160 : Index := Scalar.indexCast c0_i32_98
  let c16_99 : Index := 16#32
  ![v159.toNat, 0, 16]
def k1_off74 (k1_t2 : Fin k1_t2_loop.trips) (c0_i32_102 : BitVec 32) : Fin 3 → Nat :=
  let c0_i32_25 : BitVec 32 := 0#32
  let c1_i32_27 : BitVec 32 := 1#32
  let arg15 : BitVec 32 := Scf.iv c0_i32_25 c1_i32_27 k1_t2
  let c16_i32_100 : BitVec 32 := 16#32
  let v166 : BitVec 32 := Scalar.addi arg15 c16_i32_100
  let c4_i32_101 : BitVec 32 := 4#32
  let v167 : BitVec 32 := Scalar.muli v166 c4_i32_101
  let v168 : BitVec 32 := Scalar.addi v167 c0_i32_102
  let v169 : Index := Scalar.indexCast v168
  let c0_i32_103 : BitVec 32 := 0#32
  let v170 : Index := Scalar.indexCast c0_i32_103
  let c16_104 : Index := 16#32
  ![v169.toNat, 0, 16]
def k1_off75 (k1_t2 : Fin k1_t2_loop.trips) : Fin 2 → Nat :=
  let c32_i32_132 : BitVec 32 := 32#32
  let c0_i32_25 : BitVec 32 := 0#32
  let c1_i32_27 : BitVec 32 := 1#32
  let arg15 : BitVec 32 := Scf.iv c0_i32_25 c1_i32_27 k1_t2
  let v233 : BitVec 32 := Scalar.addi c32_i32_132 arg15
  let v234 : Index := Scalar.indexCast v233
  let c32_133 : Index := 32#32
  ![v234.toNat, 32]
def k1_off76 (k1_t2 : Fin k1_t2_loop.trips) : Fin 2 → Nat :=
  let c32_i32_134 : BitVec 32 := 32#32
  let c0_i32_25 : BitVec 32 := 0#32
  let c1_i32_27 : BitVec 32 := 1#32
  let arg15 : BitVec 32 := Scf.iv c0_i32_25 c1_i32_27 k1_t2
  let v237 : BitVec 32 := Scalar.addi c32_i32_134 arg15
  let c16_i32_135 : BitVec 32 := 16#32
  let v238 : BitVec 32 := Scalar.addi v237 c16_i32_135
  let v239 : Index := Scalar.indexCast v238
  let c32_136 : Index := 32#32
  ![v239.toNat, 32]
def k1_off77 (k1_t2 : Fin k1_t2_loop.trips) (c0_i32_138 : BitVec 32) : Fin 3 → Nat :=
  let c0_i32_25 : BitVec 32 := 0#32
  let c1_i32_27 : BitVec 32 := 1#32
  let arg15 : BitVec 32 := Scf.iv c0_i32_25 c1_i32_27 k1_t2
  let c4_i32_137 : BitVec 32 := 4#32
  let v242 : BitVec 32 := Scalar.muli arg15 c4_i32_137
  let v243 : BitVec 32 := Scalar.addi v242 c0_i32_138
  let v244 : Index := Scalar.indexCast v243
  let c0_i32_139 : BitVec 32 := 0#32
  let v245 : Index := Scalar.indexCast c0_i32_139
  let c32_140 : Index := 32#32
  ![v244.toNat, 0, 32]
def k1_off78 (k1_t2 : Fin k1_t2_loop.trips) (c0_i32_143 : BitVec 32) : Fin 3 → Nat :=
  let c0_i32_25 : BitVec 32 := 0#32
  let c1_i32_27 : BitVec 32 := 1#32
  let arg15 : BitVec 32 := Scf.iv c0_i32_25 c1_i32_27 k1_t2
  let c16_i32_141 : BitVec 32 := 16#32
  let v251 : BitVec 32 := Scalar.addi arg15 c16_i32_141
  let c4_i32_142 : BitVec 32 := 4#32
  let v252 : BitVec 32 := Scalar.muli v251 c4_i32_142
  let v253 : BitVec 32 := Scalar.addi v252 c0_i32_143
  let v254 : Index := Scalar.indexCast v253
  let c0_i32_144 : BitVec 32 := 0#32
  let v255 : Index := Scalar.indexCast c0_i32_144
  let c32_145 : Index := 32#32
  ![v254.toNat, 0, 32]
def k1_off79 (k1_t2 : Fin k1_t2_loop.trips) : Fin 2 → Nat :=
  let c32_i32_173 : BitVec 32 := 32#32
  let c0_i32_25 : BitVec 32 := 0#32
  let c1_i32_27 : BitVec 32 := 1#32
  let arg15 : BitVec 32 := Scf.iv c0_i32_25 c1_i32_27 k1_t2
  let v318 : BitVec 32 := Scalar.addi c32_i32_173 arg15
  let v319 : Index := Scalar.indexCast v318
  let c48_174 : Index := 48#32
  ![v319.toNat, 48]
def k1_off80 (k1_t2 : Fin k1_t2_loop.trips) : Fin 2 → Nat :=
  let c32_i32_175 : BitVec 32 := 32#32
  let c0_i32_25 : BitVec 32 := 0#32
  let c1_i32_27 : BitVec 32 := 1#32
  let arg15 : BitVec 32 := Scf.iv c0_i32_25 c1_i32_27 k1_t2
  let v322 : BitVec 32 := Scalar.addi c32_i32_175 arg15
  let c16_i32_176 : BitVec 32 := 16#32
  let v323 : BitVec 32 := Scalar.addi v322 c16_i32_176
  let v324 : Index := Scalar.indexCast v323
  let c48_177 : Index := 48#32
  ![v324.toNat, 48]
def k1_off81 (k1_t2 : Fin k1_t2_loop.trips) (c0_i32_179 : BitVec 32) : Fin 3 → Nat :=
  let c0_i32_25 : BitVec 32 := 0#32
  let c1_i32_27 : BitVec 32 := 1#32
  let arg15 : BitVec 32 := Scf.iv c0_i32_25 c1_i32_27 k1_t2
  let c4_i32_178 : BitVec 32 := 4#32
  let v327 : BitVec 32 := Scalar.muli arg15 c4_i32_178
  let v328 : BitVec 32 := Scalar.addi v327 c0_i32_179
  let v329 : Index := Scalar.indexCast v328
  let c0_i32_180 : BitVec 32 := 0#32
  let v330 : Index := Scalar.indexCast c0_i32_180
  let c48_181 : Index := 48#32
  ![v329.toNat, 0, 48]
def k1_off82 (k1_t2 : Fin k1_t2_loop.trips) (c0_i32_184 : BitVec 32) : Fin 3 → Nat :=
  let c0_i32_25 : BitVec 32 := 0#32
  let c1_i32_27 : BitVec 32 := 1#32
  let arg15 : BitVec 32 := Scf.iv c0_i32_25 c1_i32_27 k1_t2
  let c16_i32_182 : BitVec 32 := 16#32
  let v336 : BitVec 32 := Scalar.addi arg15 c16_i32_182
  let c4_i32_183 : BitVec 32 := 4#32
  let v337 : BitVec 32 := Scalar.muli v336 c4_i32_183
  let v338 : BitVec 32 := Scalar.addi v337 c0_i32_184
  let v339 : Index := Scalar.indexCast v338
  let c0_i32_185 : BitVec 32 := 0#32
  let v340 : Index := Scalar.indexCast c0_i32_185
  let c48_186 : Index := 48#32
  ![v339.toNat, 0, 48]
def k1_off83 (k1_t2 : Fin k1_t2_loop.trips) : Fin 2 → Nat :=
  let c32_i32_214 : BitVec 32 := 32#32
  let c0_i32_25 : BitVec 32 := 0#32
  let c1_i32_27 : BitVec 32 := 1#32
  let arg15 : BitVec 32 := Scf.iv c0_i32_25 c1_i32_27 k1_t2
  let v403 : BitVec 32 := Scalar.addi c32_i32_214 arg15
  let v404 : Index := Scalar.indexCast v403
  let c64_215 : Index := 64#32
  ![v404.toNat, 64]
def k1_off84 (k1_t2 : Fin k1_t2_loop.trips) : Fin 2 → Nat :=
  let c32_i32_216 : BitVec 32 := 32#32
  let c0_i32_25 : BitVec 32 := 0#32
  let c1_i32_27 : BitVec 32 := 1#32
  let arg15 : BitVec 32 := Scf.iv c0_i32_25 c1_i32_27 k1_t2
  let v407 : BitVec 32 := Scalar.addi c32_i32_216 arg15
  let c16_i32_217 : BitVec 32 := 16#32
  let v408 : BitVec 32 := Scalar.addi v407 c16_i32_217
  let v409 : Index := Scalar.indexCast v408
  let c64_218 : Index := 64#32
  ![v409.toNat, 64]
def k1_off85 (k1_t2 : Fin k1_t2_loop.trips) (c0_i32_220 : BitVec 32) : Fin 3 → Nat :=
  let c0_i32_25 : BitVec 32 := 0#32
  let c1_i32_27 : BitVec 32 := 1#32
  let arg15 : BitVec 32 := Scf.iv c0_i32_25 c1_i32_27 k1_t2
  let c4_i32_219 : BitVec 32 := 4#32
  let v412 : BitVec 32 := Scalar.muli arg15 c4_i32_219
  let v413 : BitVec 32 := Scalar.addi v412 c0_i32_220
  let v414 : Index := Scalar.indexCast v413
  let c0_i32_221 : BitVec 32 := 0#32
  let v415 : Index := Scalar.indexCast c0_i32_221
  let c64_222 : Index := 64#32
  ![v414.toNat, 0, 64]
def k1_off86 (k1_t2 : Fin k1_t2_loop.trips) (c0_i32_225 : BitVec 32) : Fin 3 → Nat :=
  let c0_i32_25 : BitVec 32 := 0#32
  let c1_i32_27 : BitVec 32 := 1#32
  let arg15 : BitVec 32 := Scf.iv c0_i32_25 c1_i32_27 k1_t2
  let c16_i32_223 : BitVec 32 := 16#32
  let v421 : BitVec 32 := Scalar.addi arg15 c16_i32_223
  let c4_i32_224 : BitVec 32 := 4#32
  let v422 : BitVec 32 := Scalar.muli v421 c4_i32_224
  let v423 : BitVec 32 := Scalar.addi v422 c0_i32_225
  let v424 : Index := Scalar.indexCast v423
  let c0_i32_226 : BitVec 32 := 0#32
  let v425 : Index := Scalar.indexCast c0_i32_226
  let c64_227 : Index := 64#32
  ![v424.toNat, 0, 64]
def k1_off87 (k1_t2 : Fin k1_t2_loop.trips) : Fin 2 → Nat :=
  let c32_i32_255 : BitVec 32 := 32#32
  let c0_i32_25 : BitVec 32 := 0#32
  let c1_i32_27 : BitVec 32 := 1#32
  let arg15 : BitVec 32 := Scf.iv c0_i32_25 c1_i32_27 k1_t2
  let v488 : BitVec 32 := Scalar.addi c32_i32_255 arg15
  let v489 : Index := Scalar.indexCast v488
  let c80_256 : Index := 80#32
  ![v489.toNat, 80]
def k1_off88 (k1_t2 : Fin k1_t2_loop.trips) : Fin 2 → Nat :=
  let c32_i32_257 : BitVec 32 := 32#32
  let c0_i32_25 : BitVec 32 := 0#32
  let c1_i32_27 : BitVec 32 := 1#32
  let arg15 : BitVec 32 := Scf.iv c0_i32_25 c1_i32_27 k1_t2
  let v492 : BitVec 32 := Scalar.addi c32_i32_257 arg15
  let c16_i32_258 : BitVec 32 := 16#32
  let v493 : BitVec 32 := Scalar.addi v492 c16_i32_258
  let v494 : Index := Scalar.indexCast v493
  let c80_259 : Index := 80#32
  ![v494.toNat, 80]
def k1_off89 (k1_t2 : Fin k1_t2_loop.trips) (c0_i32_261 : BitVec 32) : Fin 3 → Nat :=
  let c0_i32_25 : BitVec 32 := 0#32
  let c1_i32_27 : BitVec 32 := 1#32
  let arg15 : BitVec 32 := Scf.iv c0_i32_25 c1_i32_27 k1_t2
  let c4_i32_260 : BitVec 32 := 4#32
  let v497 : BitVec 32 := Scalar.muli arg15 c4_i32_260
  let v498 : BitVec 32 := Scalar.addi v497 c0_i32_261
  let v499 : Index := Scalar.indexCast v498
  let c0_i32_262 : BitVec 32 := 0#32
  let v500 : Index := Scalar.indexCast c0_i32_262
  let c80_263 : Index := 80#32
  ![v499.toNat, 0, 80]
def k1_off90 (k1_t2 : Fin k1_t2_loop.trips) (c0_i32_266 : BitVec 32) : Fin 3 → Nat :=
  let c0_i32_25 : BitVec 32 := 0#32
  let c1_i32_27 : BitVec 32 := 1#32
  let arg15 : BitVec 32 := Scf.iv c0_i32_25 c1_i32_27 k1_t2
  let c16_i32_264 : BitVec 32 := 16#32
  let v506 : BitVec 32 := Scalar.addi arg15 c16_i32_264
  let c4_i32_265 : BitVec 32 := 4#32
  let v507 : BitVec 32 := Scalar.muli v506 c4_i32_265
  let v508 : BitVec 32 := Scalar.addi v507 c0_i32_266
  let v509 : Index := Scalar.indexCast v508
  let c0_i32_267 : BitVec 32 := 0#32
  let v510 : Index := Scalar.indexCast c0_i32_267
  let c80_268 : Index := 80#32
  ![v509.toNat, 0, 80]
def k1_off91 (k1_t2 : Fin k1_t2_loop.trips) : Fin 2 → Nat :=
  let c32_i32_296 : BitVec 32 := 32#32
  let c0_i32_25 : BitVec 32 := 0#32
  let c1_i32_27 : BitVec 32 := 1#32
  let arg15 : BitVec 32 := Scf.iv c0_i32_25 c1_i32_27 k1_t2
  let v573 : BitVec 32 := Scalar.addi c32_i32_296 arg15
  let v574 : Index := Scalar.indexCast v573
  let c96_297 : Index := 96#32
  ![v574.toNat, 96]
def k1_off92 (k1_t2 : Fin k1_t2_loop.trips) : Fin 2 → Nat :=
  let c32_i32_298 : BitVec 32 := 32#32
  let c0_i32_25 : BitVec 32 := 0#32
  let c1_i32_27 : BitVec 32 := 1#32
  let arg15 : BitVec 32 := Scf.iv c0_i32_25 c1_i32_27 k1_t2
  let v577 : BitVec 32 := Scalar.addi c32_i32_298 arg15
  let c16_i32_299 : BitVec 32 := 16#32
  let v578 : BitVec 32 := Scalar.addi v577 c16_i32_299
  let v579 : Index := Scalar.indexCast v578
  let c96_300 : Index := 96#32
  ![v579.toNat, 96]
def k1_off93 (k1_t2 : Fin k1_t2_loop.trips) (c0_i32_302 : BitVec 32) : Fin 3 → Nat :=
  let c0_i32_25 : BitVec 32 := 0#32
  let c1_i32_27 : BitVec 32 := 1#32
  let arg15 : BitVec 32 := Scf.iv c0_i32_25 c1_i32_27 k1_t2
  let c4_i32_301 : BitVec 32 := 4#32
  let v582 : BitVec 32 := Scalar.muli arg15 c4_i32_301
  let v583 : BitVec 32 := Scalar.addi v582 c0_i32_302
  let v584 : Index := Scalar.indexCast v583
  let c0_i32_303 : BitVec 32 := 0#32
  let v585 : Index := Scalar.indexCast c0_i32_303
  let c96_304 : Index := 96#32
  ![v584.toNat, 0, 96]
def k1_off94 (k1_t2 : Fin k1_t2_loop.trips) (c0_i32_307 : BitVec 32) : Fin 3 → Nat :=
  let c0_i32_25 : BitVec 32 := 0#32
  let c1_i32_27 : BitVec 32 := 1#32
  let arg15 : BitVec 32 := Scf.iv c0_i32_25 c1_i32_27 k1_t2
  let c16_i32_305 : BitVec 32 := 16#32
  let v591 : BitVec 32 := Scalar.addi arg15 c16_i32_305
  let c4_i32_306 : BitVec 32 := 4#32
  let v592 : BitVec 32 := Scalar.muli v591 c4_i32_306
  let v593 : BitVec 32 := Scalar.addi v592 c0_i32_307
  let v594 : Index := Scalar.indexCast v593
  let c0_i32_308 : BitVec 32 := 0#32
  let v595 : Index := Scalar.indexCast c0_i32_308
  let c96_309 : Index := 96#32
  ![v594.toNat, 0, 96]
def k1_off95 (k1_t2 : Fin k1_t2_loop.trips) : Fin 2 → Nat :=
  let c32_i32_337 : BitVec 32 := 32#32
  let c0_i32_25 : BitVec 32 := 0#32
  let c1_i32_27 : BitVec 32 := 1#32
  let arg15 : BitVec 32 := Scf.iv c0_i32_25 c1_i32_27 k1_t2
  let v658 : BitVec 32 := Scalar.addi c32_i32_337 arg15
  let v659 : Index := Scalar.indexCast v658
  let c112_338 : Index := 112#32
  ![v659.toNat, 112]
def k1_off96 (k1_t2 : Fin k1_t2_loop.trips) : Fin 2 → Nat :=
  let c32_i32_339 : BitVec 32 := 32#32
  let c0_i32_25 : BitVec 32 := 0#32
  let c1_i32_27 : BitVec 32 := 1#32
  let arg15 : BitVec 32 := Scf.iv c0_i32_25 c1_i32_27 k1_t2
  let v662 : BitVec 32 := Scalar.addi c32_i32_339 arg15
  let c16_i32_340 : BitVec 32 := 16#32
  let v663 : BitVec 32 := Scalar.addi v662 c16_i32_340
  let v664 : Index := Scalar.indexCast v663
  let c112_341 : Index := 112#32
  ![v664.toNat, 112]
def k1_off97 (k1_t2 : Fin k1_t2_loop.trips) (c0_i32_343 : BitVec 32) : Fin 3 → Nat :=
  let c0_i32_25 : BitVec 32 := 0#32
  let c1_i32_27 : BitVec 32 := 1#32
  let arg15 : BitVec 32 := Scf.iv c0_i32_25 c1_i32_27 k1_t2
  let c4_i32_342 : BitVec 32 := 4#32
  let v667 : BitVec 32 := Scalar.muli arg15 c4_i32_342
  let v668 : BitVec 32 := Scalar.addi v667 c0_i32_343
  let v669 : Index := Scalar.indexCast v668
  let c0_i32_344 : BitVec 32 := 0#32
  let v670 : Index := Scalar.indexCast c0_i32_344
  let c112_345 : Index := 112#32
  ![v669.toNat, 0, 112]
def k1_off98 (k1_t2 : Fin k1_t2_loop.trips) (c0_i32_348 : BitVec 32) : Fin 3 → Nat :=
  let c0_i32_25 : BitVec 32 := 0#32
  let c1_i32_27 : BitVec 32 := 1#32
  let arg15 : BitVec 32 := Scf.iv c0_i32_25 c1_i32_27 k1_t2
  let c16_i32_346 : BitVec 32 := 16#32
  let v676 : BitVec 32 := Scalar.addi arg15 c16_i32_346
  let c4_i32_347 : BitVec 32 := 4#32
  let v677 : BitVec 32 := Scalar.muli v676 c4_i32_347
  let v678 : BitVec 32 := Scalar.addi v677 c0_i32_348
  let v679 : Index := Scalar.indexCast v678
  let c0_i32_349 : BitVec 32 := 0#32
  let v680 : Index := Scalar.indexCast c0_i32_349
  let c112_350 : Index := 112#32
  ![v679.toNat, 0, 112]
def k1_off99 (k1_t2 : Fin k1_t2_loop.trips) : Fin 2 → Nat :=
  let c32_i32_378 : BitVec 32 := 32#32
  let c0_i32_25 : BitVec 32 := 0#32
  let c1_i32_27 : BitVec 32 := 1#32
  let arg15 : BitVec 32 := Scf.iv c0_i32_25 c1_i32_27 k1_t2
  let v743 : BitVec 32 := Scalar.addi c32_i32_378 arg15
  let v744 : Index := Scalar.indexCast v743
  let c128 : Index := 128#32
  ![v744.toNat, 128]
def k1_off100 (k1_t2 : Fin k1_t2_loop.trips) : Fin 2 → Nat :=
  let c32_i32_379 : BitVec 32 := 32#32
  let c0_i32_25 : BitVec 32 := 0#32
  let c1_i32_27 : BitVec 32 := 1#32
  let arg15 : BitVec 32 := Scf.iv c0_i32_25 c1_i32_27 k1_t2
  let v747 : BitVec 32 := Scalar.addi c32_i32_379 arg15
  let c16_i32_380 : BitVec 32 := 16#32
  let v748 : BitVec 32 := Scalar.addi v747 c16_i32_380
  let v749 : Index := Scalar.indexCast v748
  let c128_381 : Index := 128#32
  ![v749.toNat, 128]
def k1_off101 (k1_t2 : Fin k1_t2_loop.trips) (c0_i32_383 : BitVec 32) : Fin 3 → Nat :=
  let c0_i32_25 : BitVec 32 := 0#32
  let c1_i32_27 : BitVec 32 := 1#32
  let arg15 : BitVec 32 := Scf.iv c0_i32_25 c1_i32_27 k1_t2
  let c4_i32_382 : BitVec 32 := 4#32
  let v752 : BitVec 32 := Scalar.muli arg15 c4_i32_382
  let v753 : BitVec 32 := Scalar.addi v752 c0_i32_383
  let v754 : Index := Scalar.indexCast v753
  let c1_i32_384 : BitVec 32 := 1#32
  let v755 : Index := Scalar.indexCast c1_i32_384
  let c0_385 : Index := 0#32
  ![v754.toNat, 1, 0]
def k1_off102 (k1_t2 : Fin k1_t2_loop.trips) (c0_i32_388 : BitVec 32) : Fin 3 → Nat :=
  let c0_i32_25 : BitVec 32 := 0#32
  let c1_i32_27 : BitVec 32 := 1#32
  let arg15 : BitVec 32 := Scf.iv c0_i32_25 c1_i32_27 k1_t2
  let c16_i32_386 : BitVec 32 := 16#32
  let v761 : BitVec 32 := Scalar.addi arg15 c16_i32_386
  let c4_i32_387 : BitVec 32 := 4#32
  let v762 : BitVec 32 := Scalar.muli v761 c4_i32_387
  let v763 : BitVec 32 := Scalar.addi v762 c0_i32_388
  let v764 : Index := Scalar.indexCast v763
  let c1_i32_389 : BitVec 32 := 1#32
  let v765 : Index := Scalar.indexCast c1_i32_389
  let c0_390 : Index := 0#32
  ![v764.toNat, 1, 0]
def k1_off103 (k1_t2 : Fin k1_t2_loop.trips) : Fin 2 → Nat :=
  let c32_i32_418 : BitVec 32 := 32#32
  let c0_i32_25 : BitVec 32 := 0#32
  let c1_i32_27 : BitVec 32 := 1#32
  let arg15 : BitVec 32 := Scf.iv c0_i32_25 c1_i32_27 k1_t2
  let v828 : BitVec 32 := Scalar.addi c32_i32_418 arg15
  let v829 : Index := Scalar.indexCast v828
  let c144 : Index := 144#32
  ![v829.toNat, 144]
def k1_off104 (k1_t2 : Fin k1_t2_loop.trips) : Fin 2 → Nat :=
  let c32_i32_419 : BitVec 32 := 32#32
  let c0_i32_25 : BitVec 32 := 0#32
  let c1_i32_27 : BitVec 32 := 1#32
  let arg15 : BitVec 32 := Scf.iv c0_i32_25 c1_i32_27 k1_t2
  let v832 : BitVec 32 := Scalar.addi c32_i32_419 arg15
  let c16_i32_420 : BitVec 32 := 16#32
  let v833 : BitVec 32 := Scalar.addi v832 c16_i32_420
  let v834 : Index := Scalar.indexCast v833
  let c144_421 : Index := 144#32
  ![v834.toNat, 144]
def k1_off105 (k1_t2 : Fin k1_t2_loop.trips) (c0_i32_423 : BitVec 32) : Fin 3 → Nat :=
  let c0_i32_25 : BitVec 32 := 0#32
  let c1_i32_27 : BitVec 32 := 1#32
  let arg15 : BitVec 32 := Scf.iv c0_i32_25 c1_i32_27 k1_t2
  let c4_i32_422 : BitVec 32 := 4#32
  let v837 : BitVec 32 := Scalar.muli arg15 c4_i32_422
  let v838 : BitVec 32 := Scalar.addi v837 c0_i32_423
  let v839 : Index := Scalar.indexCast v838
  let c1_i32_424 : BitVec 32 := 1#32
  let v840 : Index := Scalar.indexCast c1_i32_424
  let c16_425 : Index := 16#32
  ![v839.toNat, 1, 16]
def k1_off106 (k1_t2 : Fin k1_t2_loop.trips) (c0_i32_428 : BitVec 32) : Fin 3 → Nat :=
  let c0_i32_25 : BitVec 32 := 0#32
  let c1_i32_27 : BitVec 32 := 1#32
  let arg15 : BitVec 32 := Scf.iv c0_i32_25 c1_i32_27 k1_t2
  let c16_i32_426 : BitVec 32 := 16#32
  let v846 : BitVec 32 := Scalar.addi arg15 c16_i32_426
  let c4_i32_427 : BitVec 32 := 4#32
  let v847 : BitVec 32 := Scalar.muli v846 c4_i32_427
  let v848 : BitVec 32 := Scalar.addi v847 c0_i32_428
  let v849 : Index := Scalar.indexCast v848
  let c1_i32_429 : BitVec 32 := 1#32
  let v850 : Index := Scalar.indexCast c1_i32_429
  let c16_430 : Index := 16#32
  ![v849.toNat, 1, 16]
def k1_off107 (k1_t2 : Fin k1_t2_loop.trips) : Fin 2 → Nat :=
  let c32_i32_458 : BitVec 32 := 32#32
  let c0_i32_25 : BitVec 32 := 0#32
  let c1_i32_27 : BitVec 32 := 1#32
  let arg15 : BitVec 32 := Scf.iv c0_i32_25 c1_i32_27 k1_t2
  let v913 : BitVec 32 := Scalar.addi c32_i32_458 arg15
  let v914 : Index := Scalar.indexCast v913
  let c160 : Index := 160#32
  ![v914.toNat, 160]
def k1_off108 (k1_t2 : Fin k1_t2_loop.trips) : Fin 2 → Nat :=
  let c32_i32_459 : BitVec 32 := 32#32
  let c0_i32_25 : BitVec 32 := 0#32
  let c1_i32_27 : BitVec 32 := 1#32
  let arg15 : BitVec 32 := Scf.iv c0_i32_25 c1_i32_27 k1_t2
  let v917 : BitVec 32 := Scalar.addi c32_i32_459 arg15
  let c16_i32_460 : BitVec 32 := 16#32
  let v918 : BitVec 32 := Scalar.addi v917 c16_i32_460
  let v919 : Index := Scalar.indexCast v918
  let c160_461 : Index := 160#32
  ![v919.toNat, 160]
def k1_off109 (k1_t2 : Fin k1_t2_loop.trips) (c0_i32_463 : BitVec 32) : Fin 3 → Nat :=
  let c0_i32_25 : BitVec 32 := 0#32
  let c1_i32_27 : BitVec 32 := 1#32
  let arg15 : BitVec 32 := Scf.iv c0_i32_25 c1_i32_27 k1_t2
  let c4_i32_462 : BitVec 32 := 4#32
  let v922 : BitVec 32 := Scalar.muli arg15 c4_i32_462
  let v923 : BitVec 32 := Scalar.addi v922 c0_i32_463
  let v924 : Index := Scalar.indexCast v923
  let c1_i32_464 : BitVec 32 := 1#32
  let v925 : Index := Scalar.indexCast c1_i32_464
  let c32_465 : Index := 32#32
  ![v924.toNat, 1, 32]
def k1_off110 (k1_t2 : Fin k1_t2_loop.trips) (c0_i32_468 : BitVec 32) : Fin 3 → Nat :=
  let c0_i32_25 : BitVec 32 := 0#32
  let c1_i32_27 : BitVec 32 := 1#32
  let arg15 : BitVec 32 := Scf.iv c0_i32_25 c1_i32_27 k1_t2
  let c16_i32_466 : BitVec 32 := 16#32
  let v931 : BitVec 32 := Scalar.addi arg15 c16_i32_466
  let c4_i32_467 : BitVec 32 := 4#32
  let v932 : BitVec 32 := Scalar.muli v931 c4_i32_467
  let v933 : BitVec 32 := Scalar.addi v932 c0_i32_468
  let v934 : Index := Scalar.indexCast v933
  let c1_i32_469 : BitVec 32 := 1#32
  let v935 : Index := Scalar.indexCast c1_i32_469
  let c32_470 : Index := 32#32
  ![v934.toNat, 1, 32]
def k1_off111 (k1_t2 : Fin k1_t2_loop.trips) : Fin 2 → Nat :=
  let c32_i32_498 : BitVec 32 := 32#32
  let c0_i32_25 : BitVec 32 := 0#32
  let c1_i32_27 : BitVec 32 := 1#32
  let arg15 : BitVec 32 := Scf.iv c0_i32_25 c1_i32_27 k1_t2
  let v998 : BitVec 32 := Scalar.addi c32_i32_498 arg15
  let v999 : Index := Scalar.indexCast v998
  let c176 : Index := 176#32
  ![v999.toNat, 176]
def k1_off112 (k1_t2 : Fin k1_t2_loop.trips) : Fin 2 → Nat :=
  let c32_i32_499 : BitVec 32 := 32#32
  let c0_i32_25 : BitVec 32 := 0#32
  let c1_i32_27 : BitVec 32 := 1#32
  let arg15 : BitVec 32 := Scf.iv c0_i32_25 c1_i32_27 k1_t2
  let v1002 : BitVec 32 := Scalar.addi c32_i32_499 arg15
  let c16_i32_500 : BitVec 32 := 16#32
  let v1003 : BitVec 32 := Scalar.addi v1002 c16_i32_500
  let v1004 : Index := Scalar.indexCast v1003
  let c176_501 : Index := 176#32
  ![v1004.toNat, 176]
def k1_off113 (k1_t2 : Fin k1_t2_loop.trips) (c0_i32_503 : BitVec 32) : Fin 3 → Nat :=
  let c0_i32_25 : BitVec 32 := 0#32
  let c1_i32_27 : BitVec 32 := 1#32
  let arg15 : BitVec 32 := Scf.iv c0_i32_25 c1_i32_27 k1_t2
  let c4_i32_502 : BitVec 32 := 4#32
  let v1007 : BitVec 32 := Scalar.muli arg15 c4_i32_502
  let v1008 : BitVec 32 := Scalar.addi v1007 c0_i32_503
  let v1009 : Index := Scalar.indexCast v1008
  let c1_i32_504 : BitVec 32 := 1#32
  let v1010 : Index := Scalar.indexCast c1_i32_504
  let c48_505 : Index := 48#32
  ![v1009.toNat, 1, 48]
def k1_off114 (k1_t2 : Fin k1_t2_loop.trips) (c0_i32_508 : BitVec 32) : Fin 3 → Nat :=
  let c0_i32_25 : BitVec 32 := 0#32
  let c1_i32_27 : BitVec 32 := 1#32
  let arg15 : BitVec 32 := Scf.iv c0_i32_25 c1_i32_27 k1_t2
  let c16_i32_506 : BitVec 32 := 16#32
  let v1016 : BitVec 32 := Scalar.addi arg15 c16_i32_506
  let c4_i32_507 : BitVec 32 := 4#32
  let v1017 : BitVec 32 := Scalar.muli v1016 c4_i32_507
  let v1018 : BitVec 32 := Scalar.addi v1017 c0_i32_508
  let v1019 : Index := Scalar.indexCast v1018
  let c1_i32_509 : BitVec 32 := 1#32
  let v1020 : Index := Scalar.indexCast c1_i32_509
  let c48_510 : Index := 48#32
  ![v1019.toNat, 1, 48]
def k1_off115 (k1_t2 : Fin k1_t2_loop.trips) : Fin 2 → Nat :=
  let c32_i32_538 : BitVec 32 := 32#32
  let c0_i32_25 : BitVec 32 := 0#32
  let c1_i32_27 : BitVec 32 := 1#32
  let arg15 : BitVec 32 := Scf.iv c0_i32_25 c1_i32_27 k1_t2
  let v1083 : BitVec 32 := Scalar.addi c32_i32_538 arg15
  let v1084 : Index := Scalar.indexCast v1083
  let c192 : Index := 192#32
  ![v1084.toNat, 192]
def k1_off116 (k1_t2 : Fin k1_t2_loop.trips) : Fin 2 → Nat :=
  let c32_i32_539 : BitVec 32 := 32#32
  let c0_i32_25 : BitVec 32 := 0#32
  let c1_i32_27 : BitVec 32 := 1#32
  let arg15 : BitVec 32 := Scf.iv c0_i32_25 c1_i32_27 k1_t2
  let v1087 : BitVec 32 := Scalar.addi c32_i32_539 arg15
  let c16_i32_540 : BitVec 32 := 16#32
  let v1088 : BitVec 32 := Scalar.addi v1087 c16_i32_540
  let v1089 : Index := Scalar.indexCast v1088
  let c192_541 : Index := 192#32
  ![v1089.toNat, 192]
def k1_off117 (k1_t2 : Fin k1_t2_loop.trips) (c0_i32_543 : BitVec 32) : Fin 3 → Nat :=
  let c0_i32_25 : BitVec 32 := 0#32
  let c1_i32_27 : BitVec 32 := 1#32
  let arg15 : BitVec 32 := Scf.iv c0_i32_25 c1_i32_27 k1_t2
  let c4_i32_542 : BitVec 32 := 4#32
  let v1092 : BitVec 32 := Scalar.muli arg15 c4_i32_542
  let v1093 : BitVec 32 := Scalar.addi v1092 c0_i32_543
  let v1094 : Index := Scalar.indexCast v1093
  let c1_i32_544 : BitVec 32 := 1#32
  let v1095 : Index := Scalar.indexCast c1_i32_544
  let c64_545 : Index := 64#32
  ![v1094.toNat, 1, 64]
def k1_off118 (k1_t2 : Fin k1_t2_loop.trips) (c0_i32_548 : BitVec 32) : Fin 3 → Nat :=
  let c0_i32_25 : BitVec 32 := 0#32
  let c1_i32_27 : BitVec 32 := 1#32
  let arg15 : BitVec 32 := Scf.iv c0_i32_25 c1_i32_27 k1_t2
  let c16_i32_546 : BitVec 32 := 16#32
  let v1101 : BitVec 32 := Scalar.addi arg15 c16_i32_546
  let c4_i32_547 : BitVec 32 := 4#32
  let v1102 : BitVec 32 := Scalar.muli v1101 c4_i32_547
  let v1103 : BitVec 32 := Scalar.addi v1102 c0_i32_548
  let v1104 : Index := Scalar.indexCast v1103
  let c1_i32_549 : BitVec 32 := 1#32
  let v1105 : Index := Scalar.indexCast c1_i32_549
  let c64_550 : Index := 64#32
  ![v1104.toNat, 1, 64]
def k1_off119 (k1_t2 : Fin k1_t2_loop.trips) : Fin 2 → Nat :=
  let c32_i32_578 : BitVec 32 := 32#32
  let c0_i32_25 : BitVec 32 := 0#32
  let c1_i32_27 : BitVec 32 := 1#32
  let arg15 : BitVec 32 := Scf.iv c0_i32_25 c1_i32_27 k1_t2
  let v1168 : BitVec 32 := Scalar.addi c32_i32_578 arg15
  let v1169 : Index := Scalar.indexCast v1168
  let c208 : Index := 208#32
  ![v1169.toNat, 208]
def k1_off120 (k1_t2 : Fin k1_t2_loop.trips) : Fin 2 → Nat :=
  let c32_i32_579 : BitVec 32 := 32#32
  let c0_i32_25 : BitVec 32 := 0#32
  let c1_i32_27 : BitVec 32 := 1#32
  let arg15 : BitVec 32 := Scf.iv c0_i32_25 c1_i32_27 k1_t2
  let v1172 : BitVec 32 := Scalar.addi c32_i32_579 arg15
  let c16_i32_580 : BitVec 32 := 16#32
  let v1173 : BitVec 32 := Scalar.addi v1172 c16_i32_580
  let v1174 : Index := Scalar.indexCast v1173
  let c208_581 : Index := 208#32
  ![v1174.toNat, 208]
def k1_off121 (k1_t2 : Fin k1_t2_loop.trips) (c0_i32_583 : BitVec 32) : Fin 3 → Nat :=
  let c0_i32_25 : BitVec 32 := 0#32
  let c1_i32_27 : BitVec 32 := 1#32
  let arg15 : BitVec 32 := Scf.iv c0_i32_25 c1_i32_27 k1_t2
  let c4_i32_582 : BitVec 32 := 4#32
  let v1177 : BitVec 32 := Scalar.muli arg15 c4_i32_582
  let v1178 : BitVec 32 := Scalar.addi v1177 c0_i32_583
  let v1179 : Index := Scalar.indexCast v1178
  let c1_i32_584 : BitVec 32 := 1#32
  let v1180 : Index := Scalar.indexCast c1_i32_584
  let c80_585 : Index := 80#32
  ![v1179.toNat, 1, 80]
def k1_off122 (k1_t2 : Fin k1_t2_loop.trips) (c0_i32_588 : BitVec 32) : Fin 3 → Nat :=
  let c0_i32_25 : BitVec 32 := 0#32
  let c1_i32_27 : BitVec 32 := 1#32
  let arg15 : BitVec 32 := Scf.iv c0_i32_25 c1_i32_27 k1_t2
  let c16_i32_586 : BitVec 32 := 16#32
  let v1186 : BitVec 32 := Scalar.addi arg15 c16_i32_586
  let c4_i32_587 : BitVec 32 := 4#32
  let v1187 : BitVec 32 := Scalar.muli v1186 c4_i32_587
  let v1188 : BitVec 32 := Scalar.addi v1187 c0_i32_588
  let v1189 : Index := Scalar.indexCast v1188
  let c1_i32_589 : BitVec 32 := 1#32
  let v1190 : Index := Scalar.indexCast c1_i32_589
  let c80_590 : Index := 80#32
  ![v1189.toNat, 1, 80]
def k1_off123 (k1_t2 : Fin k1_t2_loop.trips) : Fin 2 → Nat :=
  let c32_i32_618 : BitVec 32 := 32#32
  let c0_i32_25 : BitVec 32 := 0#32
  let c1_i32_27 : BitVec 32 := 1#32
  let arg15 : BitVec 32 := Scf.iv c0_i32_25 c1_i32_27 k1_t2
  let v1253 : BitVec 32 := Scalar.addi c32_i32_618 arg15
  let v1254 : Index := Scalar.indexCast v1253
  let c224 : Index := 224#32
  ![v1254.toNat, 224]
def k1_off124 (k1_t2 : Fin k1_t2_loop.trips) : Fin 2 → Nat :=
  let c32_i32_619 : BitVec 32 := 32#32
  let c0_i32_25 : BitVec 32 := 0#32
  let c1_i32_27 : BitVec 32 := 1#32
  let arg15 : BitVec 32 := Scf.iv c0_i32_25 c1_i32_27 k1_t2
  let v1257 : BitVec 32 := Scalar.addi c32_i32_619 arg15
  let c16_i32_620 : BitVec 32 := 16#32
  let v1258 : BitVec 32 := Scalar.addi v1257 c16_i32_620
  let v1259 : Index := Scalar.indexCast v1258
  let c224_621 : Index := 224#32
  ![v1259.toNat, 224]
def k1_off125 (k1_t2 : Fin k1_t2_loop.trips) (c0_i32_623 : BitVec 32) : Fin 3 → Nat :=
  let c0_i32_25 : BitVec 32 := 0#32
  let c1_i32_27 : BitVec 32 := 1#32
  let arg15 : BitVec 32 := Scf.iv c0_i32_25 c1_i32_27 k1_t2
  let c4_i32_622 : BitVec 32 := 4#32
  let v1262 : BitVec 32 := Scalar.muli arg15 c4_i32_622
  let v1263 : BitVec 32 := Scalar.addi v1262 c0_i32_623
  let v1264 : Index := Scalar.indexCast v1263
  let c1_i32_624 : BitVec 32 := 1#32
  let v1265 : Index := Scalar.indexCast c1_i32_624
  let c96_625 : Index := 96#32
  ![v1264.toNat, 1, 96]
def k1_off126 (k1_t2 : Fin k1_t2_loop.trips) (c0_i32_628 : BitVec 32) : Fin 3 → Nat :=
  let c0_i32_25 : BitVec 32 := 0#32
  let c1_i32_27 : BitVec 32 := 1#32
  let arg15 : BitVec 32 := Scf.iv c0_i32_25 c1_i32_27 k1_t2
  let c16_i32_626 : BitVec 32 := 16#32
  let v1271 : BitVec 32 := Scalar.addi arg15 c16_i32_626
  let c4_i32_627 : BitVec 32 := 4#32
  let v1272 : BitVec 32 := Scalar.muli v1271 c4_i32_627
  let v1273 : BitVec 32 := Scalar.addi v1272 c0_i32_628
  let v1274 : Index := Scalar.indexCast v1273
  let c1_i32_629 : BitVec 32 := 1#32
  let v1275 : Index := Scalar.indexCast c1_i32_629
  let c96_630 : Index := 96#32
  ![v1274.toNat, 1, 96]
def k1_off127 (k1_t2 : Fin k1_t2_loop.trips) : Fin 2 → Nat :=
  let c32_i32_658 : BitVec 32 := 32#32
  let c0_i32_25 : BitVec 32 := 0#32
  let c1_i32_27 : BitVec 32 := 1#32
  let arg15 : BitVec 32 := Scf.iv c0_i32_25 c1_i32_27 k1_t2
  let v1338 : BitVec 32 := Scalar.addi c32_i32_658 arg15
  let v1339 : Index := Scalar.indexCast v1338
  let c240 : Index := 240#32
  ![v1339.toNat, 240]
def k1_off128 (k1_t2 : Fin k1_t2_loop.trips) : Fin 2 → Nat :=
  let c32_i32_659 : BitVec 32 := 32#32
  let c0_i32_25 : BitVec 32 := 0#32
  let c1_i32_27 : BitVec 32 := 1#32
  let arg15 : BitVec 32 := Scf.iv c0_i32_25 c1_i32_27 k1_t2
  let v1342 : BitVec 32 := Scalar.addi c32_i32_659 arg15
  let c16_i32_660 : BitVec 32 := 16#32
  let v1343 : BitVec 32 := Scalar.addi v1342 c16_i32_660
  let v1344 : Index := Scalar.indexCast v1343
  let c240_661 : Index := 240#32
  ![v1344.toNat, 240]
def k1_off129 (k1_t2 : Fin k1_t2_loop.trips) (c0_i32_663 : BitVec 32) : Fin 3 → Nat :=
  let c0_i32_25 : BitVec 32 := 0#32
  let c1_i32_27 : BitVec 32 := 1#32
  let arg15 : BitVec 32 := Scf.iv c0_i32_25 c1_i32_27 k1_t2
  let c4_i32_662 : BitVec 32 := 4#32
  let v1347 : BitVec 32 := Scalar.muli arg15 c4_i32_662
  let v1348 : BitVec 32 := Scalar.addi v1347 c0_i32_663
  let v1349 : Index := Scalar.indexCast v1348
  let c1_i32_664 : BitVec 32 := 1#32
  let v1350 : Index := Scalar.indexCast c1_i32_664
  let c112_665 : Index := 112#32
  ![v1349.toNat, 1, 112]
def k1_off130 (k1_t2 : Fin k1_t2_loop.trips) (c0_i32_668 : BitVec 32) : Fin 3 → Nat :=
  let c0_i32_25 : BitVec 32 := 0#32
  let c1_i32_27 : BitVec 32 := 1#32
  let arg15 : BitVec 32 := Scf.iv c0_i32_25 c1_i32_27 k1_t2
  let c16_i32_666 : BitVec 32 := 16#32
  let v1356 : BitVec 32 := Scalar.addi arg15 c16_i32_666
  let c4_i32_667 : BitVec 32 := 4#32
  let v1357 : BitVec 32 := Scalar.muli v1356 c4_i32_667
  let v1358 : BitVec 32 := Scalar.addi v1357 c0_i32_668
  let v1359 : Index := Scalar.indexCast v1358
  let c1_i32_669 : BitVec 32 := 1#32
  let v1360 : Index := Scalar.indexCast c1_i32_669
  let c112_670 : Index := 112#32
  ![v1359.toNat, 1, 112]

def k1_chk33 (v1427 : IVec S16 32) : Prop :=
  (∀ a x, ((![v1427] : Fin 1 → IVec S16 32) a x).toNat < S16.size a)
theorem k1_idx33_inb : ∀ (v1427 : IVec S16 32) (k1_hw33 : k1_chk33 v1427), ∀ a x, ((![v1427] : Fin 1 → IVec S16 32) a x).toNat < S16.size a := fun v1427 k1_hw33 => k1_hw33

def k1_chk34 (v1434 : IVec S16 32) : Prop :=
  (∀ a x, ((![v1434] : Fin 1 → IVec S16 32) a x).toNat < S16.size a)
theorem k1_idx34_inb : ∀ (v1434 : IVec S16 32) (k1_hw34 : k1_chk34 v1434), ∀ a x, ((![v1434] : Fin 1 → IVec S16 32) a x).toNat < S16.size a := fun v1434 k1_hw34 => k1_hw34

def k1_chk35 (v1441 : IVec S16 32) : Prop :=
  (∀ a x, ((![v1441] : Fin 1 → IVec S16 32) a x).toNat < S16.size a)
theorem k1_idx35_inb : ∀ (v1441 : IVec S16 32) (k1_hw35 : k1_chk35 v1441), ∀ a x, ((![v1441] : Fin 1 → IVec S16 32) a x).toNat < S16.size a := fun v1441 k1_hw35 => k1_hw35

def k1_chk36 (v1448 : IVec S16 32) : Prop :=
  (∀ a x, ((![v1448] : Fin 1 → IVec S16 32) a x).toNat < S16.size a)
theorem k1_idx36_inb : ∀ (v1448 : IVec S16 32) (k1_hw36 : k1_chk36 v1448), ∀ a x, ((![v1448] : Fin 1 → IVec S16 32) a x).toNat < S16.size a := fun v1448 k1_hw36 => k1_hw36

def k1_chk37 (v1455 : IVec S16 32) : Prop :=
  (∀ a x, ((![v1455] : Fin 1 → IVec S16 32) a x).toNat < S16.size a)
theorem k1_idx37_inb : ∀ (v1455 : IVec S16 32) (k1_hw37 : k1_chk37 v1455), ∀ a x, ((![v1455] : Fin 1 → IVec S16 32) a x).toNat < S16.size a := fun v1455 k1_hw37 => k1_hw37

def k1_chk38 (v1462 : IVec S16 32) : Prop :=
  (∀ a x, ((![v1462] : Fin 1 → IVec S16 32) a x).toNat < S16.size a)
theorem k1_idx38_inb : ∀ (v1462 : IVec S16 32) (k1_hw38 : k1_chk38 v1462), ∀ a x, ((![v1462] : Fin 1 → IVec S16 32) a x).toNat < S16.size a := fun v1462 k1_hw38 => k1_hw38

def k1_chk39 (v1469 : IVec S16 32) : Prop :=
  (∀ a x, ((![v1469] : Fin 1 → IVec S16 32) a x).toNat < S16.size a)
theorem k1_idx39_inb : ∀ (v1469 : IVec S16 32) (k1_hw39 : k1_chk39 v1469), ∀ a x, ((![v1469] : Fin 1 → IVec S16 32) a x).toNat < S16.size a := fun v1469 k1_hw39 => k1_hw39

def k1_chk40 (v1476 : IVec S16 32) : Prop :=
  (∀ a x, ((![v1476] : Fin 1 → IVec S16 32) a x).toNat < S16.size a)
theorem k1_idx40_inb : ∀ (v1476 : IVec S16 32) (k1_hw40 : k1_chk40 v1476), ∀ a x, ((![v1476] : Fin 1 → IVec S16 32) a x).toNat < S16.size a := fun v1476 k1_hw40 => k1_hw40

def k1_chk41 (v1483 : IVec S16 32) : Prop :=
  (∀ a x, ((![v1483] : Fin 1 → IVec S16 32) a x).toNat < S16.size a)
theorem k1_idx41_inb : ∀ (v1483 : IVec S16 32) (k1_hw41 : k1_chk41 v1483), ∀ a x, ((![v1483] : Fin 1 → IVec S16 32) a x).toNat < S16.size a := fun v1483 k1_hw41 => k1_hw41

def k1_chk42 (v1490 : IVec S16 32) : Prop :=
  (∀ a x, ((![v1490] : Fin 1 → IVec S16 32) a x).toNat < S16.size a)
theorem k1_idx42_inb : ∀ (v1490 : IVec S16 32) (k1_hw42 : k1_chk42 v1490), ∀ a x, ((![v1490] : Fin 1 → IVec S16 32) a x).toNat < S16.size a := fun v1490 k1_hw42 => k1_hw42

def k1_chk43 (v1497 : IVec S16 32) : Prop :=
  (∀ a x, ((![v1497] : Fin 1 → IVec S16 32) a x).toNat < S16.size a)
theorem k1_idx43_inb : ∀ (v1497 : IVec S16 32) (k1_hw43 : k1_chk43 v1497), ∀ a x, ((![v1497] : Fin 1 → IVec S16 32) a x).toNat < S16.size a := fun v1497 k1_hw43 => k1_hw43

def k1_chk44 (v1504 : IVec S16 32) : Prop :=
  (∀ a x, ((![v1504] : Fin 1 → IVec S16 32) a x).toNat < S16.size a)
theorem k1_idx44_inb : ∀ (v1504 : IVec S16 32) (k1_hw44 : k1_chk44 v1504), ∀ a x, ((![v1504] : Fin 1 → IVec S16 32) a x).toNat < S16.size a := fun v1504 k1_hw44 => k1_hw44

def k1_chk45 (v1512 : IVec S16 32) : Prop :=
  (∀ a x, ((![v1512] : Fin 1 → IVec S16 32) a x).toNat < S16.size a)
theorem k1_idx45_inb : ∀ (v1512 : IVec S16 32) (k1_hw45 : k1_chk45 v1512), ∀ a x, ((![v1512] : Fin 1 → IVec S16 32) a x).toNat < S16.size a := fun v1512 k1_hw45 => k1_hw45

def k1_chk46 (v1519 : IVec S16 32) : Prop :=
  (∀ a x, ((![v1519] : Fin 1 → IVec S16 32) a x).toNat < S16.size a)
theorem k1_idx46_inb : ∀ (v1519 : IVec S16 32) (k1_hw46 : k1_chk46 v1519), ∀ a x, ((![v1519] : Fin 1 → IVec S16 32) a x).toNat < S16.size a := fun v1519 k1_hw46 => k1_hw46

def k1_chk47 (v1526 : IVec S16 32) : Prop :=
  (∀ a x, ((![v1526] : Fin 1 → IVec S16 32) a x).toNat < S16.size a)
theorem k1_idx47_inb : ∀ (v1526 : IVec S16 32) (k1_hw47 : k1_chk47 v1526), ∀ a x, ((![v1526] : Fin 1 → IVec S16 32) a x).toNat < S16.size a := fun v1526 k1_hw47 => k1_hw47

def k1_chk48 (v1533 : IVec S16 32) : Prop :=
  (∀ a x, ((![v1533] : Fin 1 → IVec S16 32) a x).toNat < S16.size a)
theorem k1_idx48_inb : ∀ (v1533 : IVec S16 32) (k1_hw48 : k1_chk48 v1533), ∀ a x, ((![v1533] : Fin 1 → IVec S16 32) a x).toNat < S16.size a := fun v1533 k1_hw48 => k1_hw48

def k1_chk49 (v1541 : IVec S16 32) : Prop :=
  (∀ a x, ((![v1541] : Fin 1 → IVec S16 32) a x).toNat < S16.size a)
theorem k1_idx49_inb : ∀ (v1541 : IVec S16 32) (k1_hw49 : k1_chk49 v1541), ∀ a x, ((![v1541] : Fin 1 → IVec S16 32) a x).toNat < S16.size a := fun v1541 k1_hw49 => k1_hw49

def k1_chk50 (v1548 : IVec S16 32) : Prop :=
  (∀ a x, ((![v1548] : Fin 1 → IVec S16 32) a x).toNat < S16.size a)
theorem k1_idx50_inb : ∀ (v1548 : IVec S16 32) (k1_hw50 : k1_chk50 v1548), ∀ a x, ((![v1548] : Fin 1 → IVec S16 32) a x).toNat < S16.size a := fun v1548 k1_hw50 => k1_hw50

def k1_chk51 (v1555 : IVec S16 32) : Prop :=
  (∀ a x, ((![v1555] : Fin 1 → IVec S16 32) a x).toNat < S16.size a)
theorem k1_idx51_inb : ∀ (v1555 : IVec S16 32) (k1_hw51 : k1_chk51 v1555), ∀ a x, ((![v1555] : Fin 1 → IVec S16 32) a x).toNat < S16.size a := fun v1555 k1_hw51 => k1_hw51

def k1_chk52 (v1562 : IVec S16 32) : Prop :=
  (∀ a x, ((![v1562] : Fin 1 → IVec S16 32) a x).toNat < S16.size a)
theorem k1_idx52_inb : ∀ (v1562 : IVec S16 32) (k1_hw52 : k1_chk52 v1562), ∀ a x, ((![v1562] : Fin 1 → IVec S16 32) a x).toNat < S16.size a := fun v1562 k1_hw52 => k1_hw52

def k1_chk53 (v1570 : IVec S16 32) : Prop :=
  (∀ a x, ((![v1570] : Fin 1 → IVec S16 32) a x).toNat < S16.size a)
theorem k1_idx53_inb : ∀ (v1570 : IVec S16 32) (k1_hw53 : k1_chk53 v1570), ∀ a x, ((![v1570] : Fin 1 → IVec S16 32) a x).toNat < S16.size a := fun v1570 k1_hw53 => k1_hw53

def k1_chk54 (v1577 : IVec S16 32) : Prop :=
  (∀ a x, ((![v1577] : Fin 1 → IVec S16 32) a x).toNat < S16.size a)
theorem k1_idx54_inb : ∀ (v1577 : IVec S16 32) (k1_hw54 : k1_chk54 v1577), ∀ a x, ((![v1577] : Fin 1 → IVec S16 32) a x).toNat < S16.size a := fun v1577 k1_hw54 => k1_hw54

def k1_chk55 (v1584 : IVec S16 32) : Prop :=
  (∀ a x, ((![v1584] : Fin 1 → IVec S16 32) a x).toNat < S16.size a)
theorem k1_idx55_inb : ∀ (v1584 : IVec S16 32) (k1_hw55 : k1_chk55 v1584), ∀ a x, ((![v1584] : Fin 1 → IVec S16 32) a x).toNat < S16.size a := fun v1584 k1_hw55 => k1_hw55

def k1_chk56 (v1591 : IVec S16 32) : Prop :=
  (∀ a x, ((![v1591] : Fin 1 → IVec S16 32) a x).toNat < S16.size a)
theorem k1_idx56_inb : ∀ (v1591 : IVec S16 32) (k1_hw56 : k1_chk56 v1591), ∀ a x, ((![v1591] : Fin 1 → IVec S16 32) a x).toNat < S16.size a := fun v1591 k1_hw56 => k1_hw56

def k1_chk57 (v1599 : IVec S16 32) : Prop :=
  (∀ a x, ((![v1599] : Fin 1 → IVec S16 32) a x).toNat < S16.size a)
theorem k1_idx57_inb : ∀ (v1599 : IVec S16 32) (k1_hw57 : k1_chk57 v1599), ∀ a x, ((![v1599] : Fin 1 → IVec S16 32) a x).toNat < S16.size a := fun v1599 k1_hw57 => k1_hw57

def k1_chk58 (v1606 : IVec S16 32) : Prop :=
  (∀ a x, ((![v1606] : Fin 1 → IVec S16 32) a x).toNat < S16.size a)
theorem k1_idx58_inb : ∀ (v1606 : IVec S16 32) (k1_hw58 : k1_chk58 v1606), ∀ a x, ((![v1606] : Fin 1 → IVec S16 32) a x).toNat < S16.size a := fun v1606 k1_hw58 => k1_hw58

def k1_chk59 (v1613 : IVec S16 32) : Prop :=
  (∀ a x, ((![v1613] : Fin 1 → IVec S16 32) a x).toNat < S16.size a)
theorem k1_idx59_inb : ∀ (v1613 : IVec S16 32) (k1_hw59 : k1_chk59 v1613), ∀ a x, ((![v1613] : Fin 1 → IVec S16 32) a x).toNat < S16.size a := fun v1613 k1_hw59 => k1_hw59

def k1_chk60 (v1620 : IVec S16 32) : Prop :=
  (∀ a x, ((![v1620] : Fin 1 → IVec S16 32) a x).toNat < S16.size a)
theorem k1_idx60_inb : ∀ (v1620 : IVec S16 32) (k1_hw60 : k1_chk60 v1620), ∀ a x, ((![v1620] : Fin 1 → IVec S16 32) a x).toNat < S16.size a := fun v1620 k1_hw60 => k1_hw60

def k1_chk61 (v1628 : IVec S16 32) : Prop :=
  (∀ a x, ((![v1628] : Fin 1 → IVec S16 32) a x).toNat < S16.size a)
theorem k1_idx61_inb : ∀ (v1628 : IVec S16 32) (k1_hw61 : k1_chk61 v1628), ∀ a x, ((![v1628] : Fin 1 → IVec S16 32) a x).toNat < S16.size a := fun v1628 k1_hw61 => k1_hw61

def k1_chk62 (v1635 : IVec S16 32) : Prop :=
  (∀ a x, ((![v1635] : Fin 1 → IVec S16 32) a x).toNat < S16.size a)
theorem k1_idx62_inb : ∀ (v1635 : IVec S16 32) (k1_hw62 : k1_chk62 v1635), ∀ a x, ((![v1635] : Fin 1 → IVec S16 32) a x).toNat < S16.size a := fun v1635 k1_hw62 => k1_hw62

def k1_chk63 (v1642 : IVec S16 32) : Prop :=
  (∀ a x, ((![v1642] : Fin 1 → IVec S16 32) a x).toNat < S16.size a)
theorem k1_idx63_inb : ∀ (v1642 : IVec S16 32) (k1_hw63 : k1_chk63 v1642), ∀ a x, ((![v1642] : Fin 1 → IVec S16 32) a x).toNat < S16.size a := fun v1642 k1_hw63 => k1_hw63

def k1_chk64 (v1649 : IVec S16 32) : Prop :=
  (∀ a x, ((![v1649] : Fin 1 → IVec S16 32) a x).toNat < S16.size a)
theorem k1_idx64_inb : ∀ (v1649 : IVec S16 32) (k1_hw64 : k1_chk64 v1649), ∀ a x, ((![v1649] : Fin 1 → IVec S16 32) a x).toNat < S16.size a := fun v1649 k1_hw64 => k1_hw64
@[reducible] def k1_t3_loop : Scf.Loop 32 :=
  let c0_i32_37 : BitVec 32 := 0#32
  let c16_i32_38 : BitVec 32 := 16#32
  let v42 : BitVec 32 := Scalar.addi c0_i32_37 c16_i32_38
  let c1_i32_39 : BitVec 32 := 1#32
  ⟨c0_i32_37, v42, c1_i32_39⟩
def k1_off131 (k1_t3 : Fin k1_t3_loop.trips) : Fin 2 → Nat :=
  let c64_i32 : BitVec 32 := 64#32
  let c0_i32_37 : BitVec 32 := 0#32
  let c1_i32_39 : BitVec 32 := 1#32
  let arg15 : BitVec 32 := Scf.iv c0_i32_37 c1_i32_39 k1_t3
  let v63 : BitVec 32 := Scalar.addi c64_i32 arg15
  let v64 : Index := Scalar.indexCast v63
  let c0_52 : Index := 0#32
  ![v64.toNat, 0]
def k1_off132 (k1_t3 : Fin k1_t3_loop.trips) : Fin 2 → Nat :=
  let c64_i32_53 : BitVec 32 := 64#32
  let c0_i32_37 : BitVec 32 := 0#32
  let c1_i32_39 : BitVec 32 := 1#32
  let arg15 : BitVec 32 := Scf.iv c0_i32_37 c1_i32_39 k1_t3
  let v67 : BitVec 32 := Scalar.addi c64_i32_53 arg15
  let c16_i32_54 : BitVec 32 := 16#32
  let v68 : BitVec 32 := Scalar.addi v67 c16_i32_54
  let v69 : Index := Scalar.indexCast v68
  let c0_55 : Index := 0#32
  ![v69.toNat, 0]
def k1_off133 (k1_t3 : Fin k1_t3_loop.trips) (c0_i32_57 : BitVec 32) : Fin 3 → Nat :=
  let c0_i32_37 : BitVec 32 := 0#32
  let c1_i32_39 : BitVec 32 := 1#32
  let arg15 : BitVec 32 := Scf.iv c0_i32_37 c1_i32_39 k1_t3
  let c4_i32_56 : BitVec 32 := 4#32
  let v72 : BitVec 32 := Scalar.muli arg15 c4_i32_56
  let v73 : BitVec 32 := Scalar.addi v72 c0_i32_57
  let v74 : Index := Scalar.indexCast v73
  let c0_i32_58 : BitVec 32 := 0#32
  let v75 : Index := Scalar.indexCast c0_i32_58
  let c0_59 : Index := 0#32
  ![v74.toNat, 0, 0]
def k1_off134 (k1_t3 : Fin k1_t3_loop.trips) (c0_i32_62 : BitVec 32) : Fin 3 → Nat :=
  let c0_i32_37 : BitVec 32 := 0#32
  let c1_i32_39 : BitVec 32 := 1#32
  let arg15 : BitVec 32 := Scf.iv c0_i32_37 c1_i32_39 k1_t3
  let c16_i32_60 : BitVec 32 := 16#32
  let v81 : BitVec 32 := Scalar.addi arg15 c16_i32_60
  let c4_i32_61 : BitVec 32 := 4#32
  let v82 : BitVec 32 := Scalar.muli v81 c4_i32_61
  let v83 : BitVec 32 := Scalar.addi v82 c0_i32_62
  let v84 : Index := Scalar.indexCast v83
  let c0_i32_63 : BitVec 32 := 0#32
  let v85 : Index := Scalar.indexCast c0_i32_63
  let c0_64 : Index := 0#32
  ![v84.toNat, 0, 0]
def k1_off135 (k1_t3 : Fin k1_t3_loop.trips) : Fin 2 → Nat :=
  let c64_i32_91 : BitVec 32 := 64#32
  let c0_i32_37 : BitVec 32 := 0#32
  let c1_i32_39 : BitVec 32 := 1#32
  let arg15 : BitVec 32 := Scf.iv c0_i32_37 c1_i32_39 k1_t3
  let v148 : BitVec 32 := Scalar.addi c64_i32_91 arg15
  let v149 : Index := Scalar.indexCast v148
  let c16_92 : Index := 16#32
  ![v149.toNat, 16]
def k1_off136 (k1_t3 : Fin k1_t3_loop.trips) : Fin 2 → Nat :=
  let c64_i32_93 : BitVec 32 := 64#32
  let c0_i32_37 : BitVec 32 := 0#32
  let c1_i32_39 : BitVec 32 := 1#32
  let arg15 : BitVec 32 := Scf.iv c0_i32_37 c1_i32_39 k1_t3
  let v152 : BitVec 32 := Scalar.addi c64_i32_93 arg15
  let c16_i32_94 : BitVec 32 := 16#32
  let v153 : BitVec 32 := Scalar.addi v152 c16_i32_94
  let v154 : Index := Scalar.indexCast v153
  let c16_95 : Index := 16#32
  ![v154.toNat, 16]
def k1_off137 (k1_t3 : Fin k1_t3_loop.trips) (c0_i32_97 : BitVec 32) : Fin 3 → Nat :=
  let c0_i32_37 : BitVec 32 := 0#32
  let c1_i32_39 : BitVec 32 := 1#32
  let arg15 : BitVec 32 := Scf.iv c0_i32_37 c1_i32_39 k1_t3
  let c4_i32_96 : BitVec 32 := 4#32
  let v157 : BitVec 32 := Scalar.muli arg15 c4_i32_96
  let v158 : BitVec 32 := Scalar.addi v157 c0_i32_97
  let v159 : Index := Scalar.indexCast v158
  let c0_i32_98 : BitVec 32 := 0#32
  let v160 : Index := Scalar.indexCast c0_i32_98
  let c16_99 : Index := 16#32
  ![v159.toNat, 0, 16]
def k1_off138 (k1_t3 : Fin k1_t3_loop.trips) (c0_i32_102 : BitVec 32) : Fin 3 → Nat :=
  let c0_i32_37 : BitVec 32 := 0#32
  let c1_i32_39 : BitVec 32 := 1#32
  let arg15 : BitVec 32 := Scf.iv c0_i32_37 c1_i32_39 k1_t3
  let c16_i32_100 : BitVec 32 := 16#32
  let v166 : BitVec 32 := Scalar.addi arg15 c16_i32_100
  let c4_i32_101 : BitVec 32 := 4#32
  let v167 : BitVec 32 := Scalar.muli v166 c4_i32_101
  let v168 : BitVec 32 := Scalar.addi v167 c0_i32_102
  let v169 : Index := Scalar.indexCast v168
  let c0_i32_103 : BitVec 32 := 0#32
  let v170 : Index := Scalar.indexCast c0_i32_103
  let c16_104 : Index := 16#32
  ![v169.toNat, 0, 16]
def k1_off139 (k1_t3 : Fin k1_t3_loop.trips) : Fin 2 → Nat :=
  let c64_i32_132 : BitVec 32 := 64#32
  let c0_i32_37 : BitVec 32 := 0#32
  let c1_i32_39 : BitVec 32 := 1#32
  let arg15 : BitVec 32 := Scf.iv c0_i32_37 c1_i32_39 k1_t3
  let v233 : BitVec 32 := Scalar.addi c64_i32_132 arg15
  let v234 : Index := Scalar.indexCast v233
  let c32_133 : Index := 32#32
  ![v234.toNat, 32]
def k1_off140 (k1_t3 : Fin k1_t3_loop.trips) : Fin 2 → Nat :=
  let c64_i32_134 : BitVec 32 := 64#32
  let c0_i32_37 : BitVec 32 := 0#32
  let c1_i32_39 : BitVec 32 := 1#32
  let arg15 : BitVec 32 := Scf.iv c0_i32_37 c1_i32_39 k1_t3
  let v237 : BitVec 32 := Scalar.addi c64_i32_134 arg15
  let c16_i32_135 : BitVec 32 := 16#32
  let v238 : BitVec 32 := Scalar.addi v237 c16_i32_135
  let v239 : Index := Scalar.indexCast v238
  let c32_136 : Index := 32#32
  ![v239.toNat, 32]
def k1_off141 (k1_t3 : Fin k1_t3_loop.trips) (c0_i32_138 : BitVec 32) : Fin 3 → Nat :=
  let c0_i32_37 : BitVec 32 := 0#32
  let c1_i32_39 : BitVec 32 := 1#32
  let arg15 : BitVec 32 := Scf.iv c0_i32_37 c1_i32_39 k1_t3
  let c4_i32_137 : BitVec 32 := 4#32
  let v242 : BitVec 32 := Scalar.muli arg15 c4_i32_137
  let v243 : BitVec 32 := Scalar.addi v242 c0_i32_138
  let v244 : Index := Scalar.indexCast v243
  let c0_i32_139 : BitVec 32 := 0#32
  let v245 : Index := Scalar.indexCast c0_i32_139
  let c32_140 : Index := 32#32
  ![v244.toNat, 0, 32]
def k1_off142 (k1_t3 : Fin k1_t3_loop.trips) (c0_i32_143 : BitVec 32) : Fin 3 → Nat :=
  let c0_i32_37 : BitVec 32 := 0#32
  let c1_i32_39 : BitVec 32 := 1#32
  let arg15 : BitVec 32 := Scf.iv c0_i32_37 c1_i32_39 k1_t3
  let c16_i32_141 : BitVec 32 := 16#32
  let v251 : BitVec 32 := Scalar.addi arg15 c16_i32_141
  let c4_i32_142 : BitVec 32 := 4#32
  let v252 : BitVec 32 := Scalar.muli v251 c4_i32_142
  let v253 : BitVec 32 := Scalar.addi v252 c0_i32_143
  let v254 : Index := Scalar.indexCast v253
  let c0_i32_144 : BitVec 32 := 0#32
  let v255 : Index := Scalar.indexCast c0_i32_144
  let c32_145 : Index := 32#32
  ![v254.toNat, 0, 32]
def k1_off143 (k1_t3 : Fin k1_t3_loop.trips) : Fin 2 → Nat :=
  let c64_i32_173 : BitVec 32 := 64#32
  let c0_i32_37 : BitVec 32 := 0#32
  let c1_i32_39 : BitVec 32 := 1#32
  let arg15 : BitVec 32 := Scf.iv c0_i32_37 c1_i32_39 k1_t3
  let v318 : BitVec 32 := Scalar.addi c64_i32_173 arg15
  let v319 : Index := Scalar.indexCast v318
  let c48_174 : Index := 48#32
  ![v319.toNat, 48]
def k1_off144 (k1_t3 : Fin k1_t3_loop.trips) : Fin 2 → Nat :=
  let c64_i32_175 : BitVec 32 := 64#32
  let c0_i32_37 : BitVec 32 := 0#32
  let c1_i32_39 : BitVec 32 := 1#32
  let arg15 : BitVec 32 := Scf.iv c0_i32_37 c1_i32_39 k1_t3
  let v322 : BitVec 32 := Scalar.addi c64_i32_175 arg15
  let c16_i32_176 : BitVec 32 := 16#32
  let v323 : BitVec 32 := Scalar.addi v322 c16_i32_176
  let v324 : Index := Scalar.indexCast v323
  let c48_177 : Index := 48#32
  ![v324.toNat, 48]
def k1_off145 (k1_t3 : Fin k1_t3_loop.trips) (c0_i32_179 : BitVec 32) : Fin 3 → Nat :=
  let c0_i32_37 : BitVec 32 := 0#32
  let c1_i32_39 : BitVec 32 := 1#32
  let arg15 : BitVec 32 := Scf.iv c0_i32_37 c1_i32_39 k1_t3
  let c4_i32_178 : BitVec 32 := 4#32
  let v327 : BitVec 32 := Scalar.muli arg15 c4_i32_178
  let v328 : BitVec 32 := Scalar.addi v327 c0_i32_179
  let v329 : Index := Scalar.indexCast v328
  let c0_i32_180 : BitVec 32 := 0#32
  let v330 : Index := Scalar.indexCast c0_i32_180
  let c48_181 : Index := 48#32
  ![v329.toNat, 0, 48]
def k1_off146 (k1_t3 : Fin k1_t3_loop.trips) (c0_i32_184 : BitVec 32) : Fin 3 → Nat :=
  let c0_i32_37 : BitVec 32 := 0#32
  let c1_i32_39 : BitVec 32 := 1#32
  let arg15 : BitVec 32 := Scf.iv c0_i32_37 c1_i32_39 k1_t3
  let c16_i32_182 : BitVec 32 := 16#32
  let v336 : BitVec 32 := Scalar.addi arg15 c16_i32_182
  let c4_i32_183 : BitVec 32 := 4#32
  let v337 : BitVec 32 := Scalar.muli v336 c4_i32_183
  let v338 : BitVec 32 := Scalar.addi v337 c0_i32_184
  let v339 : Index := Scalar.indexCast v338
  let c0_i32_185 : BitVec 32 := 0#32
  let v340 : Index := Scalar.indexCast c0_i32_185
  let c48_186 : Index := 48#32
  ![v339.toNat, 0, 48]
def k1_off147 (k1_t3 : Fin k1_t3_loop.trips) : Fin 2 → Nat :=
  let c64_i32_214 : BitVec 32 := 64#32
  let c0_i32_37 : BitVec 32 := 0#32
  let c1_i32_39 : BitVec 32 := 1#32
  let arg15 : BitVec 32 := Scf.iv c0_i32_37 c1_i32_39 k1_t3
  let v403 : BitVec 32 := Scalar.addi c64_i32_214 arg15
  let v404 : Index := Scalar.indexCast v403
  let c64_215 : Index := 64#32
  ![v404.toNat, 64]
def k1_off148 (k1_t3 : Fin k1_t3_loop.trips) : Fin 2 → Nat :=
  let c64_i32_216 : BitVec 32 := 64#32
  let c0_i32_37 : BitVec 32 := 0#32
  let c1_i32_39 : BitVec 32 := 1#32
  let arg15 : BitVec 32 := Scf.iv c0_i32_37 c1_i32_39 k1_t3
  let v407 : BitVec 32 := Scalar.addi c64_i32_216 arg15
  let c16_i32_217 : BitVec 32 := 16#32
  let v408 : BitVec 32 := Scalar.addi v407 c16_i32_217
  let v409 : Index := Scalar.indexCast v408
  let c64_218 : Index := 64#32
  ![v409.toNat, 64]
def k1_off149 (k1_t3 : Fin k1_t3_loop.trips) (c0_i32_220 : BitVec 32) : Fin 3 → Nat :=
  let c0_i32_37 : BitVec 32 := 0#32
  let c1_i32_39 : BitVec 32 := 1#32
  let arg15 : BitVec 32 := Scf.iv c0_i32_37 c1_i32_39 k1_t3
  let c4_i32_219 : BitVec 32 := 4#32
  let v412 : BitVec 32 := Scalar.muli arg15 c4_i32_219
  let v413 : BitVec 32 := Scalar.addi v412 c0_i32_220
  let v414 : Index := Scalar.indexCast v413
  let c0_i32_221 : BitVec 32 := 0#32
  let v415 : Index := Scalar.indexCast c0_i32_221
  let c64_222 : Index := 64#32
  ![v414.toNat, 0, 64]
def k1_off150 (k1_t3 : Fin k1_t3_loop.trips) (c0_i32_225 : BitVec 32) : Fin 3 → Nat :=
  let c0_i32_37 : BitVec 32 := 0#32
  let c1_i32_39 : BitVec 32 := 1#32
  let arg15 : BitVec 32 := Scf.iv c0_i32_37 c1_i32_39 k1_t3
  let c16_i32_223 : BitVec 32 := 16#32
  let v421 : BitVec 32 := Scalar.addi arg15 c16_i32_223
  let c4_i32_224 : BitVec 32 := 4#32
  let v422 : BitVec 32 := Scalar.muli v421 c4_i32_224
  let v423 : BitVec 32 := Scalar.addi v422 c0_i32_225
  let v424 : Index := Scalar.indexCast v423
  let c0_i32_226 : BitVec 32 := 0#32
  let v425 : Index := Scalar.indexCast c0_i32_226
  let c64_227 : Index := 64#32
  ![v424.toNat, 0, 64]
def k1_off151 (k1_t3 : Fin k1_t3_loop.trips) : Fin 2 → Nat :=
  let c64_i32_255 : BitVec 32 := 64#32
  let c0_i32_37 : BitVec 32 := 0#32
  let c1_i32_39 : BitVec 32 := 1#32
  let arg15 : BitVec 32 := Scf.iv c0_i32_37 c1_i32_39 k1_t3
  let v488 : BitVec 32 := Scalar.addi c64_i32_255 arg15
  let v489 : Index := Scalar.indexCast v488
  let c80_256 : Index := 80#32
  ![v489.toNat, 80]
def k1_off152 (k1_t3 : Fin k1_t3_loop.trips) : Fin 2 → Nat :=
  let c64_i32_257 : BitVec 32 := 64#32
  let c0_i32_37 : BitVec 32 := 0#32
  let c1_i32_39 : BitVec 32 := 1#32
  let arg15 : BitVec 32 := Scf.iv c0_i32_37 c1_i32_39 k1_t3
  let v492 : BitVec 32 := Scalar.addi c64_i32_257 arg15
  let c16_i32_258 : BitVec 32 := 16#32
  let v493 : BitVec 32 := Scalar.addi v492 c16_i32_258
  let v494 : Index := Scalar.indexCast v493
  let c80_259 : Index := 80#32
  ![v494.toNat, 80]
def k1_off153 (k1_t3 : Fin k1_t3_loop.trips) (c0_i32_261 : BitVec 32) : Fin 3 → Nat :=
  let c0_i32_37 : BitVec 32 := 0#32
  let c1_i32_39 : BitVec 32 := 1#32
  let arg15 : BitVec 32 := Scf.iv c0_i32_37 c1_i32_39 k1_t3
  let c4_i32_260 : BitVec 32 := 4#32
  let v497 : BitVec 32 := Scalar.muli arg15 c4_i32_260
  let v498 : BitVec 32 := Scalar.addi v497 c0_i32_261
  let v499 : Index := Scalar.indexCast v498
  let c0_i32_262 : BitVec 32 := 0#32
  let v500 : Index := Scalar.indexCast c0_i32_262
  let c80_263 : Index := 80#32
  ![v499.toNat, 0, 80]
def k1_off154 (k1_t3 : Fin k1_t3_loop.trips) (c0_i32_266 : BitVec 32) : Fin 3 → Nat :=
  let c0_i32_37 : BitVec 32 := 0#32
  let c1_i32_39 : BitVec 32 := 1#32
  let arg15 : BitVec 32 := Scf.iv c0_i32_37 c1_i32_39 k1_t3
  let c16_i32_264 : BitVec 32 := 16#32
  let v506 : BitVec 32 := Scalar.addi arg15 c16_i32_264
  let c4_i32_265 : BitVec 32 := 4#32
  let v507 : BitVec 32 := Scalar.muli v506 c4_i32_265
  let v508 : BitVec 32 := Scalar.addi v507 c0_i32_266
  let v509 : Index := Scalar.indexCast v508
  let c0_i32_267 : BitVec 32 := 0#32
  let v510 : Index := Scalar.indexCast c0_i32_267
  let c80_268 : Index := 80#32
  ![v509.toNat, 0, 80]
def k1_off155 (k1_t3 : Fin k1_t3_loop.trips) : Fin 2 → Nat :=
  let c64_i32_296 : BitVec 32 := 64#32
  let c0_i32_37 : BitVec 32 := 0#32
  let c1_i32_39 : BitVec 32 := 1#32
  let arg15 : BitVec 32 := Scf.iv c0_i32_37 c1_i32_39 k1_t3
  let v573 : BitVec 32 := Scalar.addi c64_i32_296 arg15
  let v574 : Index := Scalar.indexCast v573
  let c96_297 : Index := 96#32
  ![v574.toNat, 96]
def k1_off156 (k1_t3 : Fin k1_t3_loop.trips) : Fin 2 → Nat :=
  let c64_i32_298 : BitVec 32 := 64#32
  let c0_i32_37 : BitVec 32 := 0#32
  let c1_i32_39 : BitVec 32 := 1#32
  let arg15 : BitVec 32 := Scf.iv c0_i32_37 c1_i32_39 k1_t3
  let v577 : BitVec 32 := Scalar.addi c64_i32_298 arg15
  let c16_i32_299 : BitVec 32 := 16#32
  let v578 : BitVec 32 := Scalar.addi v577 c16_i32_299
  let v579 : Index := Scalar.indexCast v578
  let c96_300 : Index := 96#32
  ![v579.toNat, 96]
def k1_off157 (k1_t3 : Fin k1_t3_loop.trips) (c0_i32_302 : BitVec 32) : Fin 3 → Nat :=
  let c0_i32_37 : BitVec 32 := 0#32
  let c1_i32_39 : BitVec 32 := 1#32
  let arg15 : BitVec 32 := Scf.iv c0_i32_37 c1_i32_39 k1_t3
  let c4_i32_301 : BitVec 32 := 4#32
  let v582 : BitVec 32 := Scalar.muli arg15 c4_i32_301
  let v583 : BitVec 32 := Scalar.addi v582 c0_i32_302
  let v584 : Index := Scalar.indexCast v583
  let c0_i32_303 : BitVec 32 := 0#32
  let v585 : Index := Scalar.indexCast c0_i32_303
  let c96_304 : Index := 96#32
  ![v584.toNat, 0, 96]
def k1_off158 (k1_t3 : Fin k1_t3_loop.trips) (c0_i32_307 : BitVec 32) : Fin 3 → Nat :=
  let c0_i32_37 : BitVec 32 := 0#32
  let c1_i32_39 : BitVec 32 := 1#32
  let arg15 : BitVec 32 := Scf.iv c0_i32_37 c1_i32_39 k1_t3
  let c16_i32_305 : BitVec 32 := 16#32
  let v591 : BitVec 32 := Scalar.addi arg15 c16_i32_305
  let c4_i32_306 : BitVec 32 := 4#32
  let v592 : BitVec 32 := Scalar.muli v591 c4_i32_306
  let v593 : BitVec 32 := Scalar.addi v592 c0_i32_307
  let v594 : Index := Scalar.indexCast v593
  let c0_i32_308 : BitVec 32 := 0#32
  let v595 : Index := Scalar.indexCast c0_i32_308
  let c96_309 : Index := 96#32
  ![v594.toNat, 0, 96]
def k1_off159 (k1_t3 : Fin k1_t3_loop.trips) : Fin 2 → Nat :=
  let c64_i32_337 : BitVec 32 := 64#32
  let c0_i32_37 : BitVec 32 := 0#32
  let c1_i32_39 : BitVec 32 := 1#32
  let arg15 : BitVec 32 := Scf.iv c0_i32_37 c1_i32_39 k1_t3
  let v658 : BitVec 32 := Scalar.addi c64_i32_337 arg15
  let v659 : Index := Scalar.indexCast v658
  let c112_338 : Index := 112#32
  ![v659.toNat, 112]
def k1_off160 (k1_t3 : Fin k1_t3_loop.trips) : Fin 2 → Nat :=
  let c64_i32_339 : BitVec 32 := 64#32
  let c0_i32_37 : BitVec 32 := 0#32
  let c1_i32_39 : BitVec 32 := 1#32
  let arg15 : BitVec 32 := Scf.iv c0_i32_37 c1_i32_39 k1_t3
  let v662 : BitVec 32 := Scalar.addi c64_i32_339 arg15
  let c16_i32_340 : BitVec 32 := 16#32
  let v663 : BitVec 32 := Scalar.addi v662 c16_i32_340
  let v664 : Index := Scalar.indexCast v663
  let c112_341 : Index := 112#32
  ![v664.toNat, 112]
def k1_off161 (k1_t3 : Fin k1_t3_loop.trips) (c0_i32_343 : BitVec 32) : Fin 3 → Nat :=
  let c0_i32_37 : BitVec 32 := 0#32
  let c1_i32_39 : BitVec 32 := 1#32
  let arg15 : BitVec 32 := Scf.iv c0_i32_37 c1_i32_39 k1_t3
  let c4_i32_342 : BitVec 32 := 4#32
  let v667 : BitVec 32 := Scalar.muli arg15 c4_i32_342
  let v668 : BitVec 32 := Scalar.addi v667 c0_i32_343
  let v669 : Index := Scalar.indexCast v668
  let c0_i32_344 : BitVec 32 := 0#32
  let v670 : Index := Scalar.indexCast c0_i32_344
  let c112_345 : Index := 112#32
  ![v669.toNat, 0, 112]
def k1_off162 (k1_t3 : Fin k1_t3_loop.trips) (c0_i32_348 : BitVec 32) : Fin 3 → Nat :=
  let c0_i32_37 : BitVec 32 := 0#32
  let c1_i32_39 : BitVec 32 := 1#32
  let arg15 : BitVec 32 := Scf.iv c0_i32_37 c1_i32_39 k1_t3
  let c16_i32_346 : BitVec 32 := 16#32
  let v676 : BitVec 32 := Scalar.addi arg15 c16_i32_346
  let c4_i32_347 : BitVec 32 := 4#32
  let v677 : BitVec 32 := Scalar.muli v676 c4_i32_347
  let v678 : BitVec 32 := Scalar.addi v677 c0_i32_348
  let v679 : Index := Scalar.indexCast v678
  let c0_i32_349 : BitVec 32 := 0#32
  let v680 : Index := Scalar.indexCast c0_i32_349
  let c112_350 : Index := 112#32
  ![v679.toNat, 0, 112]
def k1_off163 (k1_t3 : Fin k1_t3_loop.trips) : Fin 2 → Nat :=
  let c64_i32_378 : BitVec 32 := 64#32
  let c0_i32_37 : BitVec 32 := 0#32
  let c1_i32_39 : BitVec 32 := 1#32
  let arg15 : BitVec 32 := Scf.iv c0_i32_37 c1_i32_39 k1_t3
  let v743 : BitVec 32 := Scalar.addi c64_i32_378 arg15
  let v744 : Index := Scalar.indexCast v743
  let c128 : Index := 128#32
  ![v744.toNat, 128]
def k1_off164 (k1_t3 : Fin k1_t3_loop.trips) : Fin 2 → Nat :=
  let c64_i32_379 : BitVec 32 := 64#32
  let c0_i32_37 : BitVec 32 := 0#32
  let c1_i32_39 : BitVec 32 := 1#32
  let arg15 : BitVec 32 := Scf.iv c0_i32_37 c1_i32_39 k1_t3
  let v747 : BitVec 32 := Scalar.addi c64_i32_379 arg15
  let c16_i32_380 : BitVec 32 := 16#32
  let v748 : BitVec 32 := Scalar.addi v747 c16_i32_380
  let v749 : Index := Scalar.indexCast v748
  let c128_381 : Index := 128#32
  ![v749.toNat, 128]
def k1_off165 (k1_t3 : Fin k1_t3_loop.trips) (c0_i32_383 : BitVec 32) : Fin 3 → Nat :=
  let c0_i32_37 : BitVec 32 := 0#32
  let c1_i32_39 : BitVec 32 := 1#32
  let arg15 : BitVec 32 := Scf.iv c0_i32_37 c1_i32_39 k1_t3
  let c4_i32_382 : BitVec 32 := 4#32
  let v752 : BitVec 32 := Scalar.muli arg15 c4_i32_382
  let v753 : BitVec 32 := Scalar.addi v752 c0_i32_383
  let v754 : Index := Scalar.indexCast v753
  let c1_i32_384 : BitVec 32 := 1#32
  let v755 : Index := Scalar.indexCast c1_i32_384
  let c0_385 : Index := 0#32
  ![v754.toNat, 1, 0]
def k1_off166 (k1_t3 : Fin k1_t3_loop.trips) (c0_i32_388 : BitVec 32) : Fin 3 → Nat :=
  let c0_i32_37 : BitVec 32 := 0#32
  let c1_i32_39 : BitVec 32 := 1#32
  let arg15 : BitVec 32 := Scf.iv c0_i32_37 c1_i32_39 k1_t3
  let c16_i32_386 : BitVec 32 := 16#32
  let v761 : BitVec 32 := Scalar.addi arg15 c16_i32_386
  let c4_i32_387 : BitVec 32 := 4#32
  let v762 : BitVec 32 := Scalar.muli v761 c4_i32_387
  let v763 : BitVec 32 := Scalar.addi v762 c0_i32_388
  let v764 : Index := Scalar.indexCast v763
  let c1_i32_389 : BitVec 32 := 1#32
  let v765 : Index := Scalar.indexCast c1_i32_389
  let c0_390 : Index := 0#32
  ![v764.toNat, 1, 0]
def k1_off167 (k1_t3 : Fin k1_t3_loop.trips) : Fin 2 → Nat :=
  let c64_i32_418 : BitVec 32 := 64#32
  let c0_i32_37 : BitVec 32 := 0#32
  let c1_i32_39 : BitVec 32 := 1#32
  let arg15 : BitVec 32 := Scf.iv c0_i32_37 c1_i32_39 k1_t3
  let v828 : BitVec 32 := Scalar.addi c64_i32_418 arg15
  let v829 : Index := Scalar.indexCast v828
  let c144 : Index := 144#32
  ![v829.toNat, 144]
def k1_off168 (k1_t3 : Fin k1_t3_loop.trips) : Fin 2 → Nat :=
  let c64_i32_419 : BitVec 32 := 64#32
  let c0_i32_37 : BitVec 32 := 0#32
  let c1_i32_39 : BitVec 32 := 1#32
  let arg15 : BitVec 32 := Scf.iv c0_i32_37 c1_i32_39 k1_t3
  let v832 : BitVec 32 := Scalar.addi c64_i32_419 arg15
  let c16_i32_420 : BitVec 32 := 16#32
  let v833 : BitVec 32 := Scalar.addi v832 c16_i32_420
  let v834 : Index := Scalar.indexCast v833
  let c144_421 : Index := 144#32
  ![v834.toNat, 144]
def k1_off169 (k1_t3 : Fin k1_t3_loop.trips) (c0_i32_423 : BitVec 32) : Fin 3 → Nat :=
  let c0_i32_37 : BitVec 32 := 0#32
  let c1_i32_39 : BitVec 32 := 1#32
  let arg15 : BitVec 32 := Scf.iv c0_i32_37 c1_i32_39 k1_t3
  let c4_i32_422 : BitVec 32 := 4#32
  let v837 : BitVec 32 := Scalar.muli arg15 c4_i32_422
  let v838 : BitVec 32 := Scalar.addi v837 c0_i32_423
  let v839 : Index := Scalar.indexCast v838
  let c1_i32_424 : BitVec 32 := 1#32
  let v840 : Index := Scalar.indexCast c1_i32_424
  let c16_425 : Index := 16#32
  ![v839.toNat, 1, 16]
def k1_off170 (k1_t3 : Fin k1_t3_loop.trips) (c0_i32_428 : BitVec 32) : Fin 3 → Nat :=
  let c0_i32_37 : BitVec 32 := 0#32
  let c1_i32_39 : BitVec 32 := 1#32
  let arg15 : BitVec 32 := Scf.iv c0_i32_37 c1_i32_39 k1_t3
  let c16_i32_426 : BitVec 32 := 16#32
  let v846 : BitVec 32 := Scalar.addi arg15 c16_i32_426
  let c4_i32_427 : BitVec 32 := 4#32
  let v847 : BitVec 32 := Scalar.muli v846 c4_i32_427
  let v848 : BitVec 32 := Scalar.addi v847 c0_i32_428
  let v849 : Index := Scalar.indexCast v848
  let c1_i32_429 : BitVec 32 := 1#32
  let v850 : Index := Scalar.indexCast c1_i32_429
  let c16_430 : Index := 16#32
  ![v849.toNat, 1, 16]
def k1_off171 (k1_t3 : Fin k1_t3_loop.trips) : Fin 2 → Nat :=
  let c64_i32_458 : BitVec 32 := 64#32
  let c0_i32_37 : BitVec 32 := 0#32
  let c1_i32_39 : BitVec 32 := 1#32
  let arg15 : BitVec 32 := Scf.iv c0_i32_37 c1_i32_39 k1_t3
  let v913 : BitVec 32 := Scalar.addi c64_i32_458 arg15
  let v914 : Index := Scalar.indexCast v913
  let c160 : Index := 160#32
  ![v914.toNat, 160]
def k1_off172 (k1_t3 : Fin k1_t3_loop.trips) : Fin 2 → Nat :=
  let c64_i32_459 : BitVec 32 := 64#32
  let c0_i32_37 : BitVec 32 := 0#32
  let c1_i32_39 : BitVec 32 := 1#32
  let arg15 : BitVec 32 := Scf.iv c0_i32_37 c1_i32_39 k1_t3
  let v917 : BitVec 32 := Scalar.addi c64_i32_459 arg15
  let c16_i32_460 : BitVec 32 := 16#32
  let v918 : BitVec 32 := Scalar.addi v917 c16_i32_460
  let v919 : Index := Scalar.indexCast v918
  let c160_461 : Index := 160#32
  ![v919.toNat, 160]
def k1_off173 (k1_t3 : Fin k1_t3_loop.trips) (c0_i32_463 : BitVec 32) : Fin 3 → Nat :=
  let c0_i32_37 : BitVec 32 := 0#32
  let c1_i32_39 : BitVec 32 := 1#32
  let arg15 : BitVec 32 := Scf.iv c0_i32_37 c1_i32_39 k1_t3
  let c4_i32_462 : BitVec 32 := 4#32
  let v922 : BitVec 32 := Scalar.muli arg15 c4_i32_462
  let v923 : BitVec 32 := Scalar.addi v922 c0_i32_463
  let v924 : Index := Scalar.indexCast v923
  let c1_i32_464 : BitVec 32 := 1#32
  let v925 : Index := Scalar.indexCast c1_i32_464
  let c32_465 : Index := 32#32
  ![v924.toNat, 1, 32]
def k1_off174 (k1_t3 : Fin k1_t3_loop.trips) (c0_i32_468 : BitVec 32) : Fin 3 → Nat :=
  let c0_i32_37 : BitVec 32 := 0#32
  let c1_i32_39 : BitVec 32 := 1#32
  let arg15 : BitVec 32 := Scf.iv c0_i32_37 c1_i32_39 k1_t3
  let c16_i32_466 : BitVec 32 := 16#32
  let v931 : BitVec 32 := Scalar.addi arg15 c16_i32_466
  let c4_i32_467 : BitVec 32 := 4#32
  let v932 : BitVec 32 := Scalar.muli v931 c4_i32_467
  let v933 : BitVec 32 := Scalar.addi v932 c0_i32_468
  let v934 : Index := Scalar.indexCast v933
  let c1_i32_469 : BitVec 32 := 1#32
  let v935 : Index := Scalar.indexCast c1_i32_469
  let c32_470 : Index := 32#32
  ![v934.toNat, 1, 32]
def k1_off175 (k1_t3 : Fin k1_t3_loop.trips) : Fin 2 → Nat :=
  let c64_i32_498 : BitVec 32 := 64#32
  let c0_i32_37 : BitVec 32 := 0#32
  let c1_i32_39 : BitVec 32 := 1#32
  let arg15 : BitVec 32 := Scf.iv c0_i32_37 c1_i32_39 k1_t3
  let v998 : BitVec 32 := Scalar.addi c64_i32_498 arg15
  let v999 : Index := Scalar.indexCast v998
  let c176 : Index := 176#32
  ![v999.toNat, 176]
def k1_off176 (k1_t3 : Fin k1_t3_loop.trips) : Fin 2 → Nat :=
  let c64_i32_499 : BitVec 32 := 64#32
  let c0_i32_37 : BitVec 32 := 0#32
  let c1_i32_39 : BitVec 32 := 1#32
  let arg15 : BitVec 32 := Scf.iv c0_i32_37 c1_i32_39 k1_t3
  let v1002 : BitVec 32 := Scalar.addi c64_i32_499 arg15
  let c16_i32_500 : BitVec 32 := 16#32
  let v1003 : BitVec 32 := Scalar.addi v1002 c16_i32_500
  let v1004 : Index := Scalar.indexCast v1003
  let c176_501 : Index := 176#32
  ![v1004.toNat, 176]
def k1_off177 (k1_t3 : Fin k1_t3_loop.trips) (c0_i32_503 : BitVec 32) : Fin 3 → Nat :=
  let c0_i32_37 : BitVec 32 := 0#32
  let c1_i32_39 : BitVec 32 := 1#32
  let arg15 : BitVec 32 := Scf.iv c0_i32_37 c1_i32_39 k1_t3
  let c4_i32_502 : BitVec 32 := 4#32
  let v1007 : BitVec 32 := Scalar.muli arg15 c4_i32_502
  let v1008 : BitVec 32 := Scalar.addi v1007 c0_i32_503
  let v1009 : Index := Scalar.indexCast v1008
  let c1_i32_504 : BitVec 32 := 1#32
  let v1010 : Index := Scalar.indexCast c1_i32_504
  let c48_505 : Index := 48#32
  ![v1009.toNat, 1, 48]
def k1_off178 (k1_t3 : Fin k1_t3_loop.trips) (c0_i32_508 : BitVec 32) : Fin 3 → Nat :=
  let c0_i32_37 : BitVec 32 := 0#32
  let c1_i32_39 : BitVec 32 := 1#32
  let arg15 : BitVec 32 := Scf.iv c0_i32_37 c1_i32_39 k1_t3
  let c16_i32_506 : BitVec 32 := 16#32
  let v1016 : BitVec 32 := Scalar.addi arg15 c16_i32_506
  let c4_i32_507 : BitVec 32 := 4#32
  let v1017 : BitVec 32 := Scalar.muli v1016 c4_i32_507
  let v1018 : BitVec 32 := Scalar.addi v1017 c0_i32_508
  let v1019 : Index := Scalar.indexCast v1018
  let c1_i32_509 : BitVec 32 := 1#32
  let v1020 : Index := Scalar.indexCast c1_i32_509
  let c48_510 : Index := 48#32
  ![v1019.toNat, 1, 48]
def k1_off179 (k1_t3 : Fin k1_t3_loop.trips) : Fin 2 → Nat :=
  let c64_i32_538 : BitVec 32 := 64#32
  let c0_i32_37 : BitVec 32 := 0#32
  let c1_i32_39 : BitVec 32 := 1#32
  let arg15 : BitVec 32 := Scf.iv c0_i32_37 c1_i32_39 k1_t3
  let v1083 : BitVec 32 := Scalar.addi c64_i32_538 arg15
  let v1084 : Index := Scalar.indexCast v1083
  let c192 : Index := 192#32
  ![v1084.toNat, 192]
def k1_off180 (k1_t3 : Fin k1_t3_loop.trips) : Fin 2 → Nat :=
  let c64_i32_539 : BitVec 32 := 64#32
  let c0_i32_37 : BitVec 32 := 0#32
  let c1_i32_39 : BitVec 32 := 1#32
  let arg15 : BitVec 32 := Scf.iv c0_i32_37 c1_i32_39 k1_t3
  let v1087 : BitVec 32 := Scalar.addi c64_i32_539 arg15
  let c16_i32_540 : BitVec 32 := 16#32
  let v1088 : BitVec 32 := Scalar.addi v1087 c16_i32_540
  let v1089 : Index := Scalar.indexCast v1088
  let c192_541 : Index := 192#32
  ![v1089.toNat, 192]
def k1_off181 (k1_t3 : Fin k1_t3_loop.trips) (c0_i32_543 : BitVec 32) : Fin 3 → Nat :=
  let c0_i32_37 : BitVec 32 := 0#32
  let c1_i32_39 : BitVec 32 := 1#32
  let arg15 : BitVec 32 := Scf.iv c0_i32_37 c1_i32_39 k1_t3
  let c4_i32_542 : BitVec 32 := 4#32
  let v1092 : BitVec 32 := Scalar.muli arg15 c4_i32_542
  let v1093 : BitVec 32 := Scalar.addi v1092 c0_i32_543
  let v1094 : Index := Scalar.indexCast v1093
  let c1_i32_544 : BitVec 32 := 1#32
  let v1095 : Index := Scalar.indexCast c1_i32_544
  let c64_545 : Index := 64#32
  ![v1094.toNat, 1, 64]
def k1_off182 (k1_t3 : Fin k1_t3_loop.trips) (c0_i32_548 : BitVec 32) : Fin 3 → Nat :=
  let c0_i32_37 : BitVec 32 := 0#32
  let c1_i32_39 : BitVec 32 := 1#32
  let arg15 : BitVec 32 := Scf.iv c0_i32_37 c1_i32_39 k1_t3
  let c16_i32_546 : BitVec 32 := 16#32
  let v1101 : BitVec 32 := Scalar.addi arg15 c16_i32_546
  let c4_i32_547 : BitVec 32 := 4#32
  let v1102 : BitVec 32 := Scalar.muli v1101 c4_i32_547
  let v1103 : BitVec 32 := Scalar.addi v1102 c0_i32_548
  let v1104 : Index := Scalar.indexCast v1103
  let c1_i32_549 : BitVec 32 := 1#32
  let v1105 : Index := Scalar.indexCast c1_i32_549
  let c64_550 : Index := 64#32
  ![v1104.toNat, 1, 64]
def k1_off183 (k1_t3 : Fin k1_t3_loop.trips) : Fin 2 → Nat :=
  let c64_i32_578 : BitVec 32 := 64#32
  let c0_i32_37 : BitVec 32 := 0#32
  let c1_i32_39 : BitVec 32 := 1#32
  let arg15 : BitVec 32 := Scf.iv c0_i32_37 c1_i32_39 k1_t3
  let v1168 : BitVec 32 := Scalar.addi c64_i32_578 arg15
  let v1169 : Index := Scalar.indexCast v1168
  let c208 : Index := 208#32
  ![v1169.toNat, 208]
def k1_off184 (k1_t3 : Fin k1_t3_loop.trips) : Fin 2 → Nat :=
  let c64_i32_579 : BitVec 32 := 64#32
  let c0_i32_37 : BitVec 32 := 0#32
  let c1_i32_39 : BitVec 32 := 1#32
  let arg15 : BitVec 32 := Scf.iv c0_i32_37 c1_i32_39 k1_t3
  let v1172 : BitVec 32 := Scalar.addi c64_i32_579 arg15
  let c16_i32_580 : BitVec 32 := 16#32
  let v1173 : BitVec 32 := Scalar.addi v1172 c16_i32_580
  let v1174 : Index := Scalar.indexCast v1173
  let c208_581 : Index := 208#32
  ![v1174.toNat, 208]
def k1_off185 (k1_t3 : Fin k1_t3_loop.trips) (c0_i32_583 : BitVec 32) : Fin 3 → Nat :=
  let c0_i32_37 : BitVec 32 := 0#32
  let c1_i32_39 : BitVec 32 := 1#32
  let arg15 : BitVec 32 := Scf.iv c0_i32_37 c1_i32_39 k1_t3
  let c4_i32_582 : BitVec 32 := 4#32
  let v1177 : BitVec 32 := Scalar.muli arg15 c4_i32_582
  let v1178 : BitVec 32 := Scalar.addi v1177 c0_i32_583
  let v1179 : Index := Scalar.indexCast v1178
  let c1_i32_584 : BitVec 32 := 1#32
  let v1180 : Index := Scalar.indexCast c1_i32_584
  let c80_585 : Index := 80#32
  ![v1179.toNat, 1, 80]
def k1_off186 (k1_t3 : Fin k1_t3_loop.trips) (c0_i32_588 : BitVec 32) : Fin 3 → Nat :=
  let c0_i32_37 : BitVec 32 := 0#32
  let c1_i32_39 : BitVec 32 := 1#32
  let arg15 : BitVec 32 := Scf.iv c0_i32_37 c1_i32_39 k1_t3
  let c16_i32_586 : BitVec 32 := 16#32
  let v1186 : BitVec 32 := Scalar.addi arg15 c16_i32_586
  let c4_i32_587 : BitVec 32 := 4#32
  let v1187 : BitVec 32 := Scalar.muli v1186 c4_i32_587
  let v1188 : BitVec 32 := Scalar.addi v1187 c0_i32_588
  let v1189 : Index := Scalar.indexCast v1188
  let c1_i32_589 : BitVec 32 := 1#32
  let v1190 : Index := Scalar.indexCast c1_i32_589
  let c80_590 : Index := 80#32
  ![v1189.toNat, 1, 80]
def k1_off187 (k1_t3 : Fin k1_t3_loop.trips) : Fin 2 → Nat :=
  let c64_i32_618 : BitVec 32 := 64#32
  let c0_i32_37 : BitVec 32 := 0#32
  let c1_i32_39 : BitVec 32 := 1#32
  let arg15 : BitVec 32 := Scf.iv c0_i32_37 c1_i32_39 k1_t3
  let v1253 : BitVec 32 := Scalar.addi c64_i32_618 arg15
  let v1254 : Index := Scalar.indexCast v1253
  let c224 : Index := 224#32
  ![v1254.toNat, 224]
def k1_off188 (k1_t3 : Fin k1_t3_loop.trips) : Fin 2 → Nat :=
  let c64_i32_619 : BitVec 32 := 64#32
  let c0_i32_37 : BitVec 32 := 0#32
  let c1_i32_39 : BitVec 32 := 1#32
  let arg15 : BitVec 32 := Scf.iv c0_i32_37 c1_i32_39 k1_t3
  let v1257 : BitVec 32 := Scalar.addi c64_i32_619 arg15
  let c16_i32_620 : BitVec 32 := 16#32
  let v1258 : BitVec 32 := Scalar.addi v1257 c16_i32_620
  let v1259 : Index := Scalar.indexCast v1258
  let c224_621 : Index := 224#32
  ![v1259.toNat, 224]
def k1_off189 (k1_t3 : Fin k1_t3_loop.trips) (c0_i32_623 : BitVec 32) : Fin 3 → Nat :=
  let c0_i32_37 : BitVec 32 := 0#32
  let c1_i32_39 : BitVec 32 := 1#32
  let arg15 : BitVec 32 := Scf.iv c0_i32_37 c1_i32_39 k1_t3
  let c4_i32_622 : BitVec 32 := 4#32
  let v1262 : BitVec 32 := Scalar.muli arg15 c4_i32_622
  let v1263 : BitVec 32 := Scalar.addi v1262 c0_i32_623
  let v1264 : Index := Scalar.indexCast v1263
  let c1_i32_624 : BitVec 32 := 1#32
  let v1265 : Index := Scalar.indexCast c1_i32_624
  let c96_625 : Index := 96#32
  ![v1264.toNat, 1, 96]
def k1_off190 (k1_t3 : Fin k1_t3_loop.trips) (c0_i32_628 : BitVec 32) : Fin 3 → Nat :=
  let c0_i32_37 : BitVec 32 := 0#32
  let c1_i32_39 : BitVec 32 := 1#32
  let arg15 : BitVec 32 := Scf.iv c0_i32_37 c1_i32_39 k1_t3
  let c16_i32_626 : BitVec 32 := 16#32
  let v1271 : BitVec 32 := Scalar.addi arg15 c16_i32_626
  let c4_i32_627 : BitVec 32 := 4#32
  let v1272 : BitVec 32 := Scalar.muli v1271 c4_i32_627
  let v1273 : BitVec 32 := Scalar.addi v1272 c0_i32_628
  let v1274 : Index := Scalar.indexCast v1273
  let c1_i32_629 : BitVec 32 := 1#32
  let v1275 : Index := Scalar.indexCast c1_i32_629
  let c96_630 : Index := 96#32
  ![v1274.toNat, 1, 96]
def k1_off191 (k1_t3 : Fin k1_t3_loop.trips) : Fin 2 → Nat :=
  let c64_i32_658 : BitVec 32 := 64#32
  let c0_i32_37 : BitVec 32 := 0#32
  let c1_i32_39 : BitVec 32 := 1#32
  let arg15 : BitVec 32 := Scf.iv c0_i32_37 c1_i32_39 k1_t3
  let v1338 : BitVec 32 := Scalar.addi c64_i32_658 arg15
  let v1339 : Index := Scalar.indexCast v1338
  let c240 : Index := 240#32
  ![v1339.toNat, 240]
def k1_off192 (k1_t3 : Fin k1_t3_loop.trips) : Fin 2 → Nat :=
  let c64_i32_659 : BitVec 32 := 64#32
  let c0_i32_37 : BitVec 32 := 0#32
  let c1_i32_39 : BitVec 32 := 1#32
  let arg15 : BitVec 32 := Scf.iv c0_i32_37 c1_i32_39 k1_t3
  let v1342 : BitVec 32 := Scalar.addi c64_i32_659 arg15
  let c16_i32_660 : BitVec 32 := 16#32
  let v1343 : BitVec 32 := Scalar.addi v1342 c16_i32_660
  let v1344 : Index := Scalar.indexCast v1343
  let c240_661 : Index := 240#32
  ![v1344.toNat, 240]
def k1_off193 (k1_t3 : Fin k1_t3_loop.trips) (c0_i32_663 : BitVec 32) : Fin 3 → Nat :=
  let c0_i32_37 : BitVec 32 := 0#32
  let c1_i32_39 : BitVec 32 := 1#32
  let arg15 : BitVec 32 := Scf.iv c0_i32_37 c1_i32_39 k1_t3
  let c4_i32_662 : BitVec 32 := 4#32
  let v1347 : BitVec 32 := Scalar.muli arg15 c4_i32_662
  let v1348 : BitVec 32 := Scalar.addi v1347 c0_i32_663
  let v1349 : Index := Scalar.indexCast v1348
  let c1_i32_664 : BitVec 32 := 1#32
  let v1350 : Index := Scalar.indexCast c1_i32_664
  let c112_665 : Index := 112#32
  ![v1349.toNat, 1, 112]
def k1_off194 (k1_t3 : Fin k1_t3_loop.trips) (c0_i32_668 : BitVec 32) : Fin 3 → Nat :=
  let c0_i32_37 : BitVec 32 := 0#32
  let c1_i32_39 : BitVec 32 := 1#32
  let arg15 : BitVec 32 := Scf.iv c0_i32_37 c1_i32_39 k1_t3
  let c16_i32_666 : BitVec 32 := 16#32
  let v1356 : BitVec 32 := Scalar.addi arg15 c16_i32_666
  let c4_i32_667 : BitVec 32 := 4#32
  let v1357 : BitVec 32 := Scalar.muli v1356 c4_i32_667
  let v1358 : BitVec 32 := Scalar.addi v1357 c0_i32_668
  let v1359 : Index := Scalar.indexCast v1358
  let c1_i32_669 : BitVec 32 := 1#32
  let v1360 : Index := Scalar.indexCast c1_i32_669
  let c112_670 : Index := 112#32
  ![v1359.toNat, 1, 112]

def k1_chk65 (v1427 : IVec S16 32) : Prop :=
  (∀ a x, ((![v1427] : Fin 1 → IVec S16 32) a x).toNat < S16.size a)
theorem k1_idx65_inb : ∀ (v1427 : IVec S16 32) (k1_hw65 : k1_chk65 v1427), ∀ a x, ((![v1427] : Fin 1 → IVec S16 32) a x).toNat < S16.size a := fun v1427 k1_hw65 => k1_hw65

def k1_chk66 (v1434 : IVec S16 32) : Prop :=
  (∀ a x, ((![v1434] : Fin 1 → IVec S16 32) a x).toNat < S16.size a)
theorem k1_idx66_inb : ∀ (v1434 : IVec S16 32) (k1_hw66 : k1_chk66 v1434), ∀ a x, ((![v1434] : Fin 1 → IVec S16 32) a x).toNat < S16.size a := fun v1434 k1_hw66 => k1_hw66

def k1_chk67 (v1441 : IVec S16 32) : Prop :=
  (∀ a x, ((![v1441] : Fin 1 → IVec S16 32) a x).toNat < S16.size a)
theorem k1_idx67_inb : ∀ (v1441 : IVec S16 32) (k1_hw67 : k1_chk67 v1441), ∀ a x, ((![v1441] : Fin 1 → IVec S16 32) a x).toNat < S16.size a := fun v1441 k1_hw67 => k1_hw67

def k1_chk68 (v1448 : IVec S16 32) : Prop :=
  (∀ a x, ((![v1448] : Fin 1 → IVec S16 32) a x).toNat < S16.size a)
theorem k1_idx68_inb : ∀ (v1448 : IVec S16 32) (k1_hw68 : k1_chk68 v1448), ∀ a x, ((![v1448] : Fin 1 → IVec S16 32) a x).toNat < S16.size a := fun v1448 k1_hw68 => k1_hw68

def k1_chk69 (v1455 : IVec S16 32) : Prop :=
  (∀ a x, ((![v1455] : Fin 1 → IVec S16 32) a x).toNat < S16.size a)
theorem k1_idx69_inb : ∀ (v1455 : IVec S16 32) (k1_hw69 : k1_chk69 v1455), ∀ a x, ((![v1455] : Fin 1 → IVec S16 32) a x).toNat < S16.size a := fun v1455 k1_hw69 => k1_hw69

def k1_chk70 (v1462 : IVec S16 32) : Prop :=
  (∀ a x, ((![v1462] : Fin 1 → IVec S16 32) a x).toNat < S16.size a)
theorem k1_idx70_inb : ∀ (v1462 : IVec S16 32) (k1_hw70 : k1_chk70 v1462), ∀ a x, ((![v1462] : Fin 1 → IVec S16 32) a x).toNat < S16.size a := fun v1462 k1_hw70 => k1_hw70

def k1_chk71 (v1469 : IVec S16 32) : Prop :=
  (∀ a x, ((![v1469] : Fin 1 → IVec S16 32) a x).toNat < S16.size a)
theorem k1_idx71_inb : ∀ (v1469 : IVec S16 32) (k1_hw71 : k1_chk71 v1469), ∀ a x, ((![v1469] : Fin 1 → IVec S16 32) a x).toNat < S16.size a := fun v1469 k1_hw71 => k1_hw71

def k1_chk72 (v1476 : IVec S16 32) : Prop :=
  (∀ a x, ((![v1476] : Fin 1 → IVec S16 32) a x).toNat < S16.size a)
theorem k1_idx72_inb : ∀ (v1476 : IVec S16 32) (k1_hw72 : k1_chk72 v1476), ∀ a x, ((![v1476] : Fin 1 → IVec S16 32) a x).toNat < S16.size a := fun v1476 k1_hw72 => k1_hw72

def k1_chk73 (v1483 : IVec S16 32) : Prop :=
  (∀ a x, ((![v1483] : Fin 1 → IVec S16 32) a x).toNat < S16.size a)
theorem k1_idx73_inb : ∀ (v1483 : IVec S16 32) (k1_hw73 : k1_chk73 v1483), ∀ a x, ((![v1483] : Fin 1 → IVec S16 32) a x).toNat < S16.size a := fun v1483 k1_hw73 => k1_hw73

def k1_chk74 (v1490 : IVec S16 32) : Prop :=
  (∀ a x, ((![v1490] : Fin 1 → IVec S16 32) a x).toNat < S16.size a)
theorem k1_idx74_inb : ∀ (v1490 : IVec S16 32) (k1_hw74 : k1_chk74 v1490), ∀ a x, ((![v1490] : Fin 1 → IVec S16 32) a x).toNat < S16.size a := fun v1490 k1_hw74 => k1_hw74

def k1_chk75 (v1497 : IVec S16 32) : Prop :=
  (∀ a x, ((![v1497] : Fin 1 → IVec S16 32) a x).toNat < S16.size a)
theorem k1_idx75_inb : ∀ (v1497 : IVec S16 32) (k1_hw75 : k1_chk75 v1497), ∀ a x, ((![v1497] : Fin 1 → IVec S16 32) a x).toNat < S16.size a := fun v1497 k1_hw75 => k1_hw75

def k1_chk76 (v1504 : IVec S16 32) : Prop :=
  (∀ a x, ((![v1504] : Fin 1 → IVec S16 32) a x).toNat < S16.size a)
theorem k1_idx76_inb : ∀ (v1504 : IVec S16 32) (k1_hw76 : k1_chk76 v1504), ∀ a x, ((![v1504] : Fin 1 → IVec S16 32) a x).toNat < S16.size a := fun v1504 k1_hw76 => k1_hw76

def k1_chk77 (v1512 : IVec S16 32) : Prop :=
  (∀ a x, ((![v1512] : Fin 1 → IVec S16 32) a x).toNat < S16.size a)
theorem k1_idx77_inb : ∀ (v1512 : IVec S16 32) (k1_hw77 : k1_chk77 v1512), ∀ a x, ((![v1512] : Fin 1 → IVec S16 32) a x).toNat < S16.size a := fun v1512 k1_hw77 => k1_hw77

def k1_chk78 (v1519 : IVec S16 32) : Prop :=
  (∀ a x, ((![v1519] : Fin 1 → IVec S16 32) a x).toNat < S16.size a)
theorem k1_idx78_inb : ∀ (v1519 : IVec S16 32) (k1_hw78 : k1_chk78 v1519), ∀ a x, ((![v1519] : Fin 1 → IVec S16 32) a x).toNat < S16.size a := fun v1519 k1_hw78 => k1_hw78

def k1_chk79 (v1526 : IVec S16 32) : Prop :=
  (∀ a x, ((![v1526] : Fin 1 → IVec S16 32) a x).toNat < S16.size a)
theorem k1_idx79_inb : ∀ (v1526 : IVec S16 32) (k1_hw79 : k1_chk79 v1526), ∀ a x, ((![v1526] : Fin 1 → IVec S16 32) a x).toNat < S16.size a := fun v1526 k1_hw79 => k1_hw79

def k1_chk80 (v1533 : IVec S16 32) : Prop :=
  (∀ a x, ((![v1533] : Fin 1 → IVec S16 32) a x).toNat < S16.size a)
theorem k1_idx80_inb : ∀ (v1533 : IVec S16 32) (k1_hw80 : k1_chk80 v1533), ∀ a x, ((![v1533] : Fin 1 → IVec S16 32) a x).toNat < S16.size a := fun v1533 k1_hw80 => k1_hw80

def k1_chk81 (v1541 : IVec S16 32) : Prop :=
  (∀ a x, ((![v1541] : Fin 1 → IVec S16 32) a x).toNat < S16.size a)
theorem k1_idx81_inb : ∀ (v1541 : IVec S16 32) (k1_hw81 : k1_chk81 v1541), ∀ a x, ((![v1541] : Fin 1 → IVec S16 32) a x).toNat < S16.size a := fun v1541 k1_hw81 => k1_hw81

def k1_chk82 (v1548 : IVec S16 32) : Prop :=
  (∀ a x, ((![v1548] : Fin 1 → IVec S16 32) a x).toNat < S16.size a)
theorem k1_idx82_inb : ∀ (v1548 : IVec S16 32) (k1_hw82 : k1_chk82 v1548), ∀ a x, ((![v1548] : Fin 1 → IVec S16 32) a x).toNat < S16.size a := fun v1548 k1_hw82 => k1_hw82

def k1_chk83 (v1555 : IVec S16 32) : Prop :=
  (∀ a x, ((![v1555] : Fin 1 → IVec S16 32) a x).toNat < S16.size a)
theorem k1_idx83_inb : ∀ (v1555 : IVec S16 32) (k1_hw83 : k1_chk83 v1555), ∀ a x, ((![v1555] : Fin 1 → IVec S16 32) a x).toNat < S16.size a := fun v1555 k1_hw83 => k1_hw83

def k1_chk84 (v1562 : IVec S16 32) : Prop :=
  (∀ a x, ((![v1562] : Fin 1 → IVec S16 32) a x).toNat < S16.size a)
theorem k1_idx84_inb : ∀ (v1562 : IVec S16 32) (k1_hw84 : k1_chk84 v1562), ∀ a x, ((![v1562] : Fin 1 → IVec S16 32) a x).toNat < S16.size a := fun v1562 k1_hw84 => k1_hw84

def k1_chk85 (v1570 : IVec S16 32) : Prop :=
  (∀ a x, ((![v1570] : Fin 1 → IVec S16 32) a x).toNat < S16.size a)
theorem k1_idx85_inb : ∀ (v1570 : IVec S16 32) (k1_hw85 : k1_chk85 v1570), ∀ a x, ((![v1570] : Fin 1 → IVec S16 32) a x).toNat < S16.size a := fun v1570 k1_hw85 => k1_hw85

def k1_chk86 (v1577 : IVec S16 32) : Prop :=
  (∀ a x, ((![v1577] : Fin 1 → IVec S16 32) a x).toNat < S16.size a)
theorem k1_idx86_inb : ∀ (v1577 : IVec S16 32) (k1_hw86 : k1_chk86 v1577), ∀ a x, ((![v1577] : Fin 1 → IVec S16 32) a x).toNat < S16.size a := fun v1577 k1_hw86 => k1_hw86

def k1_chk87 (v1584 : IVec S16 32) : Prop :=
  (∀ a x, ((![v1584] : Fin 1 → IVec S16 32) a x).toNat < S16.size a)
theorem k1_idx87_inb : ∀ (v1584 : IVec S16 32) (k1_hw87 : k1_chk87 v1584), ∀ a x, ((![v1584] : Fin 1 → IVec S16 32) a x).toNat < S16.size a := fun v1584 k1_hw87 => k1_hw87

def k1_chk88 (v1591 : IVec S16 32) : Prop :=
  (∀ a x, ((![v1591] : Fin 1 → IVec S16 32) a x).toNat < S16.size a)
theorem k1_idx88_inb : ∀ (v1591 : IVec S16 32) (k1_hw88 : k1_chk88 v1591), ∀ a x, ((![v1591] : Fin 1 → IVec S16 32) a x).toNat < S16.size a := fun v1591 k1_hw88 => k1_hw88

def k1_chk89 (v1599 : IVec S16 32) : Prop :=
  (∀ a x, ((![v1599] : Fin 1 → IVec S16 32) a x).toNat < S16.size a)
theorem k1_idx89_inb : ∀ (v1599 : IVec S16 32) (k1_hw89 : k1_chk89 v1599), ∀ a x, ((![v1599] : Fin 1 → IVec S16 32) a x).toNat < S16.size a := fun v1599 k1_hw89 => k1_hw89

def k1_chk90 (v1606 : IVec S16 32) : Prop :=
  (∀ a x, ((![v1606] : Fin 1 → IVec S16 32) a x).toNat < S16.size a)
theorem k1_idx90_inb : ∀ (v1606 : IVec S16 32) (k1_hw90 : k1_chk90 v1606), ∀ a x, ((![v1606] : Fin 1 → IVec S16 32) a x).toNat < S16.size a := fun v1606 k1_hw90 => k1_hw90

def k1_chk91 (v1613 : IVec S16 32) : Prop :=
  (∀ a x, ((![v1613] : Fin 1 → IVec S16 32) a x).toNat < S16.size a)
theorem k1_idx91_inb : ∀ (v1613 : IVec S16 32) (k1_hw91 : k1_chk91 v1613), ∀ a x, ((![v1613] : Fin 1 → IVec S16 32) a x).toNat < S16.size a := fun v1613 k1_hw91 => k1_hw91

def k1_chk92 (v1620 : IVec S16 32) : Prop :=
  (∀ a x, ((![v1620] : Fin 1 → IVec S16 32) a x).toNat < S16.size a)
theorem k1_idx92_inb : ∀ (v1620 : IVec S16 32) (k1_hw92 : k1_chk92 v1620), ∀ a x, ((![v1620] : Fin 1 → IVec S16 32) a x).toNat < S16.size a := fun v1620 k1_hw92 => k1_hw92

def k1_chk93 (v1628 : IVec S16 32) : Prop :=
  (∀ a x, ((![v1628] : Fin 1 → IVec S16 32) a x).toNat < S16.size a)
theorem k1_idx93_inb : ∀ (v1628 : IVec S16 32) (k1_hw93 : k1_chk93 v1628), ∀ a x, ((![v1628] : Fin 1 → IVec S16 32) a x).toNat < S16.size a := fun v1628 k1_hw93 => k1_hw93

def k1_chk94 (v1635 : IVec S16 32) : Prop :=
  (∀ a x, ((![v1635] : Fin 1 → IVec S16 32) a x).toNat < S16.size a)
theorem k1_idx94_inb : ∀ (v1635 : IVec S16 32) (k1_hw94 : k1_chk94 v1635), ∀ a x, ((![v1635] : Fin 1 → IVec S16 32) a x).toNat < S16.size a := fun v1635 k1_hw94 => k1_hw94

def k1_chk95 (v1642 : IVec S16 32) : Prop :=
  (∀ a x, ((![v1642] : Fin 1 → IVec S16 32) a x).toNat < S16.size a)
theorem k1_idx95_inb : ∀ (v1642 : IVec S16 32) (k1_hw95 : k1_chk95 v1642), ∀ a x, ((![v1642] : Fin 1 → IVec S16 32) a x).toNat < S16.size a := fun v1642 k1_hw95 => k1_hw95

def k1_chk96 (v1649 : IVec S16 32) : Prop :=
  (∀ a x, ((![v1649] : Fin 1 → IVec S16 32) a x).toNat < S16.size a)
theorem k1_idx96_inb : ∀ (v1649 : IVec S16 32) (k1_hw96 : k1_chk96 v1649), ∀ a x, ((![v1649] : Fin 1 → IVec S16 32) a x).toNat < S16.size a := fun v1649 k1_hw96 => k1_hw96
@[reducible] def k1_t4_loop : Scf.Loop 32 :=
  let c0_i32_46 : BitVec 32 := 0#32
  let c16_i32_47 : BitVec 32 := 16#32
  let v53 : BitVec 32 := Scalar.addi c0_i32_46 c16_i32_47
  let c1_i32_48 : BitVec 32 := 1#32
  ⟨c0_i32_46, v53, c1_i32_48⟩
def k1_off195 (k1_t4 : Fin k1_t4_loop.trips) : Fin 2 → Nat :=
  let c96_i32 : BitVec 32 := 96#32
  let c0_i32_46 : BitVec 32 := 0#32
  let c1_i32_48 : BitVec 32 := 1#32
  let arg15 : BitVec 32 := Scf.iv c0_i32_46 c1_i32_48 k1_t4
  let v63 : BitVec 32 := Scalar.addi c96_i32 arg15
  let v64 : Index := Scalar.indexCast v63
  let c0_52 : Index := 0#32
  ![v64.toNat, 0]
def k1_off196 (k1_t4 : Fin k1_t4_loop.trips) : Fin 2 → Nat :=
  let c96_i32_53 : BitVec 32 := 96#32
  let c0_i32_46 : BitVec 32 := 0#32
  let c1_i32_48 : BitVec 32 := 1#32
  let arg15 : BitVec 32 := Scf.iv c0_i32_46 c1_i32_48 k1_t4
  let v67 : BitVec 32 := Scalar.addi c96_i32_53 arg15
  let c16_i32_54 : BitVec 32 := 16#32
  let v68 : BitVec 32 := Scalar.addi v67 c16_i32_54
  let v69 : Index := Scalar.indexCast v68
  let c0_55 : Index := 0#32
  ![v69.toNat, 0]
def k1_off197 (k1_t4 : Fin k1_t4_loop.trips) (c0_i32_57 : BitVec 32) : Fin 3 → Nat :=
  let c0_i32_46 : BitVec 32 := 0#32
  let c1_i32_48 : BitVec 32 := 1#32
  let arg15 : BitVec 32 := Scf.iv c0_i32_46 c1_i32_48 k1_t4
  let c4_i32_56 : BitVec 32 := 4#32
  let v72 : BitVec 32 := Scalar.muli arg15 c4_i32_56
  let v73 : BitVec 32 := Scalar.addi v72 c0_i32_57
  let v74 : Index := Scalar.indexCast v73
  let c0_i32_58 : BitVec 32 := 0#32
  let v75 : Index := Scalar.indexCast c0_i32_58
  let c0_59 : Index := 0#32
  ![v74.toNat, 0, 0]
def k1_off198 (k1_t4 : Fin k1_t4_loop.trips) (c0_i32_62 : BitVec 32) : Fin 3 → Nat :=
  let c0_i32_46 : BitVec 32 := 0#32
  let c1_i32_48 : BitVec 32 := 1#32
  let arg15 : BitVec 32 := Scf.iv c0_i32_46 c1_i32_48 k1_t4
  let c16_i32_60 : BitVec 32 := 16#32
  let v81 : BitVec 32 := Scalar.addi arg15 c16_i32_60
  let c4_i32_61 : BitVec 32 := 4#32
  let v82 : BitVec 32 := Scalar.muli v81 c4_i32_61
  let v83 : BitVec 32 := Scalar.addi v82 c0_i32_62
  let v84 : Index := Scalar.indexCast v83
  let c0_i32_63 : BitVec 32 := 0#32
  let v85 : Index := Scalar.indexCast c0_i32_63
  let c0_64 : Index := 0#32
  ![v84.toNat, 0, 0]
def k1_off199 (k1_t4 : Fin k1_t4_loop.trips) : Fin 2 → Nat :=
  let c96_i32_91 : BitVec 32 := 96#32
  let c0_i32_46 : BitVec 32 := 0#32
  let c1_i32_48 : BitVec 32 := 1#32
  let arg15 : BitVec 32 := Scf.iv c0_i32_46 c1_i32_48 k1_t4
  let v148 : BitVec 32 := Scalar.addi c96_i32_91 arg15
  let v149 : Index := Scalar.indexCast v148
  let c16_92 : Index := 16#32
  ![v149.toNat, 16]
def k1_off200 (k1_t4 : Fin k1_t4_loop.trips) : Fin 2 → Nat :=
  let c96_i32_93 : BitVec 32 := 96#32
  let c0_i32_46 : BitVec 32 := 0#32
  let c1_i32_48 : BitVec 32 := 1#32
  let arg15 : BitVec 32 := Scf.iv c0_i32_46 c1_i32_48 k1_t4
  let v152 : BitVec 32 := Scalar.addi c96_i32_93 arg15
  let c16_i32_94 : BitVec 32 := 16#32
  let v153 : BitVec 32 := Scalar.addi v152 c16_i32_94
  let v154 : Index := Scalar.indexCast v153
  let c16_95 : Index := 16#32
  ![v154.toNat, 16]
def k1_off201 (k1_t4 : Fin k1_t4_loop.trips) (c0_i32_97 : BitVec 32) : Fin 3 → Nat :=
  let c0_i32_46 : BitVec 32 := 0#32
  let c1_i32_48 : BitVec 32 := 1#32
  let arg15 : BitVec 32 := Scf.iv c0_i32_46 c1_i32_48 k1_t4
  let c4_i32_96 : BitVec 32 := 4#32
  let v157 : BitVec 32 := Scalar.muli arg15 c4_i32_96
  let v158 : BitVec 32 := Scalar.addi v157 c0_i32_97
  let v159 : Index := Scalar.indexCast v158
  let c0_i32_98 : BitVec 32 := 0#32
  let v160 : Index := Scalar.indexCast c0_i32_98
  let c16_99 : Index := 16#32
  ![v159.toNat, 0, 16]
def k1_off202 (k1_t4 : Fin k1_t4_loop.trips) (c0_i32_102 : BitVec 32) : Fin 3 → Nat :=
  let c0_i32_46 : BitVec 32 := 0#32
  let c1_i32_48 : BitVec 32 := 1#32
  let arg15 : BitVec 32 := Scf.iv c0_i32_46 c1_i32_48 k1_t4
  let c16_i32_100 : BitVec 32 := 16#32
  let v166 : BitVec 32 := Scalar.addi arg15 c16_i32_100
  let c4_i32_101 : BitVec 32 := 4#32
  let v167 : BitVec 32 := Scalar.muli v166 c4_i32_101
  let v168 : BitVec 32 := Scalar.addi v167 c0_i32_102
  let v169 : Index := Scalar.indexCast v168
  let c0_i32_103 : BitVec 32 := 0#32
  let v170 : Index := Scalar.indexCast c0_i32_103
  let c16_104 : Index := 16#32
  ![v169.toNat, 0, 16]
def k1_off203 (k1_t4 : Fin k1_t4_loop.trips) : Fin 2 → Nat :=
  let c96_i32_132 : BitVec 32 := 96#32
  let c0_i32_46 : BitVec 32 := 0#32
  let c1_i32_48 : BitVec 32 := 1#32
  let arg15 : BitVec 32 := Scf.iv c0_i32_46 c1_i32_48 k1_t4
  let v233 : BitVec 32 := Scalar.addi c96_i32_132 arg15
  let v234 : Index := Scalar.indexCast v233
  let c32_133 : Index := 32#32
  ![v234.toNat, 32]
def k1_off204 (k1_t4 : Fin k1_t4_loop.trips) : Fin 2 → Nat :=
  let c96_i32_134 : BitVec 32 := 96#32
  let c0_i32_46 : BitVec 32 := 0#32
  let c1_i32_48 : BitVec 32 := 1#32
  let arg15 : BitVec 32 := Scf.iv c0_i32_46 c1_i32_48 k1_t4
  let v237 : BitVec 32 := Scalar.addi c96_i32_134 arg15
  let c16_i32_135 : BitVec 32 := 16#32
  let v238 : BitVec 32 := Scalar.addi v237 c16_i32_135
  let v239 : Index := Scalar.indexCast v238
  let c32_136 : Index := 32#32
  ![v239.toNat, 32]
def k1_off205 (k1_t4 : Fin k1_t4_loop.trips) (c0_i32_138 : BitVec 32) : Fin 3 → Nat :=
  let c0_i32_46 : BitVec 32 := 0#32
  let c1_i32_48 : BitVec 32 := 1#32
  let arg15 : BitVec 32 := Scf.iv c0_i32_46 c1_i32_48 k1_t4
  let c4_i32_137 : BitVec 32 := 4#32
  let v242 : BitVec 32 := Scalar.muli arg15 c4_i32_137
  let v243 : BitVec 32 := Scalar.addi v242 c0_i32_138
  let v244 : Index := Scalar.indexCast v243
  let c0_i32_139 : BitVec 32 := 0#32
  let v245 : Index := Scalar.indexCast c0_i32_139
  let c32_140 : Index := 32#32
  ![v244.toNat, 0, 32]
def k1_off206 (k1_t4 : Fin k1_t4_loop.trips) (c0_i32_143 : BitVec 32) : Fin 3 → Nat :=
  let c0_i32_46 : BitVec 32 := 0#32
  let c1_i32_48 : BitVec 32 := 1#32
  let arg15 : BitVec 32 := Scf.iv c0_i32_46 c1_i32_48 k1_t4
  let c16_i32_141 : BitVec 32 := 16#32
  let v251 : BitVec 32 := Scalar.addi arg15 c16_i32_141
  let c4_i32_142 : BitVec 32 := 4#32
  let v252 : BitVec 32 := Scalar.muli v251 c4_i32_142
  let v253 : BitVec 32 := Scalar.addi v252 c0_i32_143
  let v254 : Index := Scalar.indexCast v253
  let c0_i32_144 : BitVec 32 := 0#32
  let v255 : Index := Scalar.indexCast c0_i32_144
  let c32_145 : Index := 32#32
  ![v254.toNat, 0, 32]
def k1_off207 (k1_t4 : Fin k1_t4_loop.trips) : Fin 2 → Nat :=
  let c96_i32_173 : BitVec 32 := 96#32
  let c0_i32_46 : BitVec 32 := 0#32
  let c1_i32_48 : BitVec 32 := 1#32
  let arg15 : BitVec 32 := Scf.iv c0_i32_46 c1_i32_48 k1_t4
  let v318 : BitVec 32 := Scalar.addi c96_i32_173 arg15
  let v319 : Index := Scalar.indexCast v318
  let c48_174 : Index := 48#32
  ![v319.toNat, 48]
def k1_off208 (k1_t4 : Fin k1_t4_loop.trips) : Fin 2 → Nat :=
  let c96_i32_175 : BitVec 32 := 96#32
  let c0_i32_46 : BitVec 32 := 0#32
  let c1_i32_48 : BitVec 32 := 1#32
  let arg15 : BitVec 32 := Scf.iv c0_i32_46 c1_i32_48 k1_t4
  let v322 : BitVec 32 := Scalar.addi c96_i32_175 arg15
  let c16_i32_176 : BitVec 32 := 16#32
  let v323 : BitVec 32 := Scalar.addi v322 c16_i32_176
  let v324 : Index := Scalar.indexCast v323
  let c48_177 : Index := 48#32
  ![v324.toNat, 48]
def k1_off209 (k1_t4 : Fin k1_t4_loop.trips) (c0_i32_179 : BitVec 32) : Fin 3 → Nat :=
  let c0_i32_46 : BitVec 32 := 0#32
  let c1_i32_48 : BitVec 32 := 1#32
  let arg15 : BitVec 32 := Scf.iv c0_i32_46 c1_i32_48 k1_t4
  let c4_i32_178 : BitVec 32 := 4#32
  let v327 : BitVec 32 := Scalar.muli arg15 c4_i32_178
  let v328 : BitVec 32 := Scalar.addi v327 c0_i32_179
  let v329 : Index := Scalar.indexCast v328
  let c0_i32_180 : BitVec 32 := 0#32
  let v330 : Index := Scalar.indexCast c0_i32_180
  let c48_181 : Index := 48#32
  ![v329.toNat, 0, 48]
def k1_off210 (k1_t4 : Fin k1_t4_loop.trips) (c0_i32_184 : BitVec 32) : Fin 3 → Nat :=
  let c0_i32_46 : BitVec 32 := 0#32
  let c1_i32_48 : BitVec 32 := 1#32
  let arg15 : BitVec 32 := Scf.iv c0_i32_46 c1_i32_48 k1_t4
  let c16_i32_182 : BitVec 32 := 16#32
  let v336 : BitVec 32 := Scalar.addi arg15 c16_i32_182
  let c4_i32_183 : BitVec 32 := 4#32
  let v337 : BitVec 32 := Scalar.muli v336 c4_i32_183
  let v338 : BitVec 32 := Scalar.addi v337 c0_i32_184
  let v339 : Index := Scalar.indexCast v338
  let c0_i32_185 : BitVec 32 := 0#32
  let v340 : Index := Scalar.indexCast c0_i32_185
  let c48_186 : Index := 48#32
  ![v339.toNat, 0, 48]
def k1_off211 (k1_t4 : Fin k1_t4_loop.trips) : Fin 2 → Nat :=
  let c96_i32_214 : BitVec 32 := 96#32
  let c0_i32_46 : BitVec 32 := 0#32
  let c1_i32_48 : BitVec 32 := 1#32
  let arg15 : BitVec 32 := Scf.iv c0_i32_46 c1_i32_48 k1_t4
  let v403 : BitVec 32 := Scalar.addi c96_i32_214 arg15
  let v404 : Index := Scalar.indexCast v403
  let c64_215 : Index := 64#32
  ![v404.toNat, 64]
def k1_off212 (k1_t4 : Fin k1_t4_loop.trips) : Fin 2 → Nat :=
  let c96_i32_216 : BitVec 32 := 96#32
  let c0_i32_46 : BitVec 32 := 0#32
  let c1_i32_48 : BitVec 32 := 1#32
  let arg15 : BitVec 32 := Scf.iv c0_i32_46 c1_i32_48 k1_t4
  let v407 : BitVec 32 := Scalar.addi c96_i32_216 arg15
  let c16_i32_217 : BitVec 32 := 16#32
  let v408 : BitVec 32 := Scalar.addi v407 c16_i32_217
  let v409 : Index := Scalar.indexCast v408
  let c64_218 : Index := 64#32
  ![v409.toNat, 64]
def k1_off213 (k1_t4 : Fin k1_t4_loop.trips) (c0_i32_220 : BitVec 32) : Fin 3 → Nat :=
  let c0_i32_46 : BitVec 32 := 0#32
  let c1_i32_48 : BitVec 32 := 1#32
  let arg15 : BitVec 32 := Scf.iv c0_i32_46 c1_i32_48 k1_t4
  let c4_i32_219 : BitVec 32 := 4#32
  let v412 : BitVec 32 := Scalar.muli arg15 c4_i32_219
  let v413 : BitVec 32 := Scalar.addi v412 c0_i32_220
  let v414 : Index := Scalar.indexCast v413
  let c0_i32_221 : BitVec 32 := 0#32
  let v415 : Index := Scalar.indexCast c0_i32_221
  let c64_222 : Index := 64#32
  ![v414.toNat, 0, 64]
def k1_off214 (k1_t4 : Fin k1_t4_loop.trips) (c0_i32_225 : BitVec 32) : Fin 3 → Nat :=
  let c0_i32_46 : BitVec 32 := 0#32
  let c1_i32_48 : BitVec 32 := 1#32
  let arg15 : BitVec 32 := Scf.iv c0_i32_46 c1_i32_48 k1_t4
  let c16_i32_223 : BitVec 32 := 16#32
  let v421 : BitVec 32 := Scalar.addi arg15 c16_i32_223
  let c4_i32_224 : BitVec 32 := 4#32
  let v422 : BitVec 32 := Scalar.muli v421 c4_i32_224
  let v423 : BitVec 32 := Scalar.addi v422 c0_i32_225
  let v424 : Index := Scalar.indexCast v423
  let c0_i32_226 : BitVec 32 := 0#32
  let v425 : Index := Scalar.indexCast c0_i32_226
  let c64_227 : Index := 64#32
  ![v424.toNat, 0, 64]
def k1_off215 (k1_t4 : Fin k1_t4_loop.trips) : Fin 2 → Nat :=
  let c96_i32_255 : BitVec 32 := 96#32
  let c0_i32_46 : BitVec 32 := 0#32
  let c1_i32_48 : BitVec 32 := 1#32
  let arg15 : BitVec 32 := Scf.iv c0_i32_46 c1_i32_48 k1_t4
  let v488 : BitVec 32 := Scalar.addi c96_i32_255 arg15
  let v489 : Index := Scalar.indexCast v488
  let c80_256 : Index := 80#32
  ![v489.toNat, 80]
def k1_off216 (k1_t4 : Fin k1_t4_loop.trips) : Fin 2 → Nat :=
  let c96_i32_257 : BitVec 32 := 96#32
  let c0_i32_46 : BitVec 32 := 0#32
  let c1_i32_48 : BitVec 32 := 1#32
  let arg15 : BitVec 32 := Scf.iv c0_i32_46 c1_i32_48 k1_t4
  let v492 : BitVec 32 := Scalar.addi c96_i32_257 arg15
  let c16_i32_258 : BitVec 32 := 16#32
  let v493 : BitVec 32 := Scalar.addi v492 c16_i32_258
  let v494 : Index := Scalar.indexCast v493
  let c80_259 : Index := 80#32
  ![v494.toNat, 80]
def k1_off217 (k1_t4 : Fin k1_t4_loop.trips) (c0_i32_261 : BitVec 32) : Fin 3 → Nat :=
  let c0_i32_46 : BitVec 32 := 0#32
  let c1_i32_48 : BitVec 32 := 1#32
  let arg15 : BitVec 32 := Scf.iv c0_i32_46 c1_i32_48 k1_t4
  let c4_i32_260 : BitVec 32 := 4#32
  let v497 : BitVec 32 := Scalar.muli arg15 c4_i32_260
  let v498 : BitVec 32 := Scalar.addi v497 c0_i32_261
  let v499 : Index := Scalar.indexCast v498
  let c0_i32_262 : BitVec 32 := 0#32
  let v500 : Index := Scalar.indexCast c0_i32_262
  let c80_263 : Index := 80#32
  ![v499.toNat, 0, 80]
def k1_off218 (k1_t4 : Fin k1_t4_loop.trips) (c0_i32_266 : BitVec 32) : Fin 3 → Nat :=
  let c0_i32_46 : BitVec 32 := 0#32
  let c1_i32_48 : BitVec 32 := 1#32
  let arg15 : BitVec 32 := Scf.iv c0_i32_46 c1_i32_48 k1_t4
  let c16_i32_264 : BitVec 32 := 16#32
  let v506 : BitVec 32 := Scalar.addi arg15 c16_i32_264
  let c4_i32_265 : BitVec 32 := 4#32
  let v507 : BitVec 32 := Scalar.muli v506 c4_i32_265
  let v508 : BitVec 32 := Scalar.addi v507 c0_i32_266
  let v509 : Index := Scalar.indexCast v508
  let c0_i32_267 : BitVec 32 := 0#32
  let v510 : Index := Scalar.indexCast c0_i32_267
  let c80_268 : Index := 80#32
  ![v509.toNat, 0, 80]
def k1_off219 (k1_t4 : Fin k1_t4_loop.trips) : Fin 2 → Nat :=
  let c96_i32_296 : BitVec 32 := 96#32
  let c0_i32_46 : BitVec 32 := 0#32
  let c1_i32_48 : BitVec 32 := 1#32
  let arg15 : BitVec 32 := Scf.iv c0_i32_46 c1_i32_48 k1_t4
  let v573 : BitVec 32 := Scalar.addi c96_i32_296 arg15
  let v574 : Index := Scalar.indexCast v573
  let c96_297 : Index := 96#32
  ![v574.toNat, 96]
def k1_off220 (k1_t4 : Fin k1_t4_loop.trips) : Fin 2 → Nat :=
  let c96_i32_298 : BitVec 32 := 96#32
  let c0_i32_46 : BitVec 32 := 0#32
  let c1_i32_48 : BitVec 32 := 1#32
  let arg15 : BitVec 32 := Scf.iv c0_i32_46 c1_i32_48 k1_t4
  let v577 : BitVec 32 := Scalar.addi c96_i32_298 arg15
  let c16_i32_299 : BitVec 32 := 16#32
  let v578 : BitVec 32 := Scalar.addi v577 c16_i32_299
  let v579 : Index := Scalar.indexCast v578
  let c96_300 : Index := 96#32
  ![v579.toNat, 96]
def k1_off221 (k1_t4 : Fin k1_t4_loop.trips) (c0_i32_302 : BitVec 32) : Fin 3 → Nat :=
  let c0_i32_46 : BitVec 32 := 0#32
  let c1_i32_48 : BitVec 32 := 1#32
  let arg15 : BitVec 32 := Scf.iv c0_i32_46 c1_i32_48 k1_t4
  let c4_i32_301 : BitVec 32 := 4#32
  let v582 : BitVec 32 := Scalar.muli arg15 c4_i32_301
  let v583 : BitVec 32 := Scalar.addi v582 c0_i32_302
  let v584 : Index := Scalar.indexCast v583
  let c0_i32_303 : BitVec 32 := 0#32
  let v585 : Index := Scalar.indexCast c0_i32_303
  let c96_304 : Index := 96#32
  ![v584.toNat, 0, 96]
def k1_off222 (k1_t4 : Fin k1_t4_loop.trips) (c0_i32_307 : BitVec 32) : Fin 3 → Nat :=
  let c0_i32_46 : BitVec 32 := 0#32
  let c1_i32_48 : BitVec 32 := 1#32
  let arg15 : BitVec 32 := Scf.iv c0_i32_46 c1_i32_48 k1_t4
  let c16_i32_305 : BitVec 32 := 16#32
  let v591 : BitVec 32 := Scalar.addi arg15 c16_i32_305
  let c4_i32_306 : BitVec 32 := 4#32
  let v592 : BitVec 32 := Scalar.muli v591 c4_i32_306
  let v593 : BitVec 32 := Scalar.addi v592 c0_i32_307
  let v594 : Index := Scalar.indexCast v593
  let c0_i32_308 : BitVec 32 := 0#32
  let v595 : Index := Scalar.indexCast c0_i32_308
  let c96_309 : Index := 96#32
  ![v594.toNat, 0, 96]
def k1_off223 (k1_t4 : Fin k1_t4_loop.trips) : Fin 2 → Nat :=
  let c96_i32_337 : BitVec 32 := 96#32
  let c0_i32_46 : BitVec 32 := 0#32
  let c1_i32_48 : BitVec 32 := 1#32
  let arg15 : BitVec 32 := Scf.iv c0_i32_46 c1_i32_48 k1_t4
  let v658 : BitVec 32 := Scalar.addi c96_i32_337 arg15
  let v659 : Index := Scalar.indexCast v658
  let c112_338 : Index := 112#32
  ![v659.toNat, 112]
def k1_off224 (k1_t4 : Fin k1_t4_loop.trips) : Fin 2 → Nat :=
  let c96_i32_339 : BitVec 32 := 96#32
  let c0_i32_46 : BitVec 32 := 0#32
  let c1_i32_48 : BitVec 32 := 1#32
  let arg15 : BitVec 32 := Scf.iv c0_i32_46 c1_i32_48 k1_t4
  let v662 : BitVec 32 := Scalar.addi c96_i32_339 arg15
  let c16_i32_340 : BitVec 32 := 16#32
  let v663 : BitVec 32 := Scalar.addi v662 c16_i32_340
  let v664 : Index := Scalar.indexCast v663
  let c112_341 : Index := 112#32
  ![v664.toNat, 112]
def k1_off225 (k1_t4 : Fin k1_t4_loop.trips) (c0_i32_343 : BitVec 32) : Fin 3 → Nat :=
  let c0_i32_46 : BitVec 32 := 0#32
  let c1_i32_48 : BitVec 32 := 1#32
  let arg15 : BitVec 32 := Scf.iv c0_i32_46 c1_i32_48 k1_t4
  let c4_i32_342 : BitVec 32 := 4#32
  let v667 : BitVec 32 := Scalar.muli arg15 c4_i32_342
  let v668 : BitVec 32 := Scalar.addi v667 c0_i32_343
  let v669 : Index := Scalar.indexCast v668
  let c0_i32_344 : BitVec 32 := 0#32
  let v670 : Index := Scalar.indexCast c0_i32_344
  let c112_345 : Index := 112#32
  ![v669.toNat, 0, 112]
def k1_off226 (k1_t4 : Fin k1_t4_loop.trips) (c0_i32_348 : BitVec 32) : Fin 3 → Nat :=
  let c0_i32_46 : BitVec 32 := 0#32
  let c1_i32_48 : BitVec 32 := 1#32
  let arg15 : BitVec 32 := Scf.iv c0_i32_46 c1_i32_48 k1_t4
  let c16_i32_346 : BitVec 32 := 16#32
  let v676 : BitVec 32 := Scalar.addi arg15 c16_i32_346
  let c4_i32_347 : BitVec 32 := 4#32
  let v677 : BitVec 32 := Scalar.muli v676 c4_i32_347
  let v678 : BitVec 32 := Scalar.addi v677 c0_i32_348
  let v679 : Index := Scalar.indexCast v678
  let c0_i32_349 : BitVec 32 := 0#32
  let v680 : Index := Scalar.indexCast c0_i32_349
  let c112_350 : Index := 112#32
  ![v679.toNat, 0, 112]
def k1_off227 (k1_t4 : Fin k1_t4_loop.trips) : Fin 2 → Nat :=
  let c96_i32_378 : BitVec 32 := 96#32
  let c0_i32_46 : BitVec 32 := 0#32
  let c1_i32_48 : BitVec 32 := 1#32
  let arg15 : BitVec 32 := Scf.iv c0_i32_46 c1_i32_48 k1_t4
  let v743 : BitVec 32 := Scalar.addi c96_i32_378 arg15
  let v744 : Index := Scalar.indexCast v743
  let c128 : Index := 128#32
  ![v744.toNat, 128]
def k1_off228 (k1_t4 : Fin k1_t4_loop.trips) : Fin 2 → Nat :=
  let c96_i32_379 : BitVec 32 := 96#32
  let c0_i32_46 : BitVec 32 := 0#32
  let c1_i32_48 : BitVec 32 := 1#32
  let arg15 : BitVec 32 := Scf.iv c0_i32_46 c1_i32_48 k1_t4
  let v747 : BitVec 32 := Scalar.addi c96_i32_379 arg15
  let c16_i32_380 : BitVec 32 := 16#32
  let v748 : BitVec 32 := Scalar.addi v747 c16_i32_380
  let v749 : Index := Scalar.indexCast v748
  let c128_381 : Index := 128#32
  ![v749.toNat, 128]
def k1_off229 (k1_t4 : Fin k1_t4_loop.trips) (c0_i32_383 : BitVec 32) : Fin 3 → Nat :=
  let c0_i32_46 : BitVec 32 := 0#32
  let c1_i32_48 : BitVec 32 := 1#32
  let arg15 : BitVec 32 := Scf.iv c0_i32_46 c1_i32_48 k1_t4
  let c4_i32_382 : BitVec 32 := 4#32
  let v752 : BitVec 32 := Scalar.muli arg15 c4_i32_382
  let v753 : BitVec 32 := Scalar.addi v752 c0_i32_383
  let v754 : Index := Scalar.indexCast v753
  let c1_i32_384 : BitVec 32 := 1#32
  let v755 : Index := Scalar.indexCast c1_i32_384
  let c0_385 : Index := 0#32
  ![v754.toNat, 1, 0]
def k1_off230 (k1_t4 : Fin k1_t4_loop.trips) (c0_i32_388 : BitVec 32) : Fin 3 → Nat :=
  let c0_i32_46 : BitVec 32 := 0#32
  let c1_i32_48 : BitVec 32 := 1#32
  let arg15 : BitVec 32 := Scf.iv c0_i32_46 c1_i32_48 k1_t4
  let c16_i32_386 : BitVec 32 := 16#32
  let v761 : BitVec 32 := Scalar.addi arg15 c16_i32_386
  let c4_i32_387 : BitVec 32 := 4#32
  let v762 : BitVec 32 := Scalar.muli v761 c4_i32_387
  let v763 : BitVec 32 := Scalar.addi v762 c0_i32_388
  let v764 : Index := Scalar.indexCast v763
  let c1_i32_389 : BitVec 32 := 1#32
  let v765 : Index := Scalar.indexCast c1_i32_389
  let c0_390 : Index := 0#32
  ![v764.toNat, 1, 0]
def k1_off231 (k1_t4 : Fin k1_t4_loop.trips) : Fin 2 → Nat :=
  let c96_i32_418 : BitVec 32 := 96#32
  let c0_i32_46 : BitVec 32 := 0#32
  let c1_i32_48 : BitVec 32 := 1#32
  let arg15 : BitVec 32 := Scf.iv c0_i32_46 c1_i32_48 k1_t4
  let v828 : BitVec 32 := Scalar.addi c96_i32_418 arg15
  let v829 : Index := Scalar.indexCast v828
  let c144 : Index := 144#32
  ![v829.toNat, 144]
def k1_off232 (k1_t4 : Fin k1_t4_loop.trips) : Fin 2 → Nat :=
  let c96_i32_419 : BitVec 32 := 96#32
  let c0_i32_46 : BitVec 32 := 0#32
  let c1_i32_48 : BitVec 32 := 1#32
  let arg15 : BitVec 32 := Scf.iv c0_i32_46 c1_i32_48 k1_t4
  let v832 : BitVec 32 := Scalar.addi c96_i32_419 arg15
  let c16_i32_420 : BitVec 32 := 16#32
  let v833 : BitVec 32 := Scalar.addi v832 c16_i32_420
  let v834 : Index := Scalar.indexCast v833
  let c144_421 : Index := 144#32
  ![v834.toNat, 144]
def k1_off233 (k1_t4 : Fin k1_t4_loop.trips) (c0_i32_423 : BitVec 32) : Fin 3 → Nat :=
  let c0_i32_46 : BitVec 32 := 0#32
  let c1_i32_48 : BitVec 32 := 1#32
  let arg15 : BitVec 32 := Scf.iv c0_i32_46 c1_i32_48 k1_t4
  let c4_i32_422 : BitVec 32 := 4#32
  let v837 : BitVec 32 := Scalar.muli arg15 c4_i32_422
  let v838 : BitVec 32 := Scalar.addi v837 c0_i32_423
  let v839 : Index := Scalar.indexCast v838
  let c1_i32_424 : BitVec 32 := 1#32
  let v840 : Index := Scalar.indexCast c1_i32_424
  let c16_425 : Index := 16#32
  ![v839.toNat, 1, 16]
def k1_off234 (k1_t4 : Fin k1_t4_loop.trips) (c0_i32_428 : BitVec 32) : Fin 3 → Nat :=
  let c0_i32_46 : BitVec 32 := 0#32
  let c1_i32_48 : BitVec 32 := 1#32
  let arg15 : BitVec 32 := Scf.iv c0_i32_46 c1_i32_48 k1_t4
  let c16_i32_426 : BitVec 32 := 16#32
  let v846 : BitVec 32 := Scalar.addi arg15 c16_i32_426
  let c4_i32_427 : BitVec 32 := 4#32
  let v847 : BitVec 32 := Scalar.muli v846 c4_i32_427
  let v848 : BitVec 32 := Scalar.addi v847 c0_i32_428
  let v849 : Index := Scalar.indexCast v848
  let c1_i32_429 : BitVec 32 := 1#32
  let v850 : Index := Scalar.indexCast c1_i32_429
  let c16_430 : Index := 16#32
  ![v849.toNat, 1, 16]
def k1_off235 (k1_t4 : Fin k1_t4_loop.trips) : Fin 2 → Nat :=
  let c96_i32_458 : BitVec 32 := 96#32
  let c0_i32_46 : BitVec 32 := 0#32
  let c1_i32_48 : BitVec 32 := 1#32
  let arg15 : BitVec 32 := Scf.iv c0_i32_46 c1_i32_48 k1_t4
  let v913 : BitVec 32 := Scalar.addi c96_i32_458 arg15
  let v914 : Index := Scalar.indexCast v913
  let c160 : Index := 160#32
  ![v914.toNat, 160]
def k1_off236 (k1_t4 : Fin k1_t4_loop.trips) : Fin 2 → Nat :=
  let c96_i32_459 : BitVec 32 := 96#32
  let c0_i32_46 : BitVec 32 := 0#32
  let c1_i32_48 : BitVec 32 := 1#32
  let arg15 : BitVec 32 := Scf.iv c0_i32_46 c1_i32_48 k1_t4
  let v917 : BitVec 32 := Scalar.addi c96_i32_459 arg15
  let c16_i32_460 : BitVec 32 := 16#32
  let v918 : BitVec 32 := Scalar.addi v917 c16_i32_460
  let v919 : Index := Scalar.indexCast v918
  let c160_461 : Index := 160#32
  ![v919.toNat, 160]
def k1_off237 (k1_t4 : Fin k1_t4_loop.trips) (c0_i32_463 : BitVec 32) : Fin 3 → Nat :=
  let c0_i32_46 : BitVec 32 := 0#32
  let c1_i32_48 : BitVec 32 := 1#32
  let arg15 : BitVec 32 := Scf.iv c0_i32_46 c1_i32_48 k1_t4
  let c4_i32_462 : BitVec 32 := 4#32
  let v922 : BitVec 32 := Scalar.muli arg15 c4_i32_462
  let v923 : BitVec 32 := Scalar.addi v922 c0_i32_463
  let v924 : Index := Scalar.indexCast v923
  let c1_i32_464 : BitVec 32 := 1#32
  let v925 : Index := Scalar.indexCast c1_i32_464
  let c32_465 : Index := 32#32
  ![v924.toNat, 1, 32]
def k1_off238 (k1_t4 : Fin k1_t4_loop.trips) (c0_i32_468 : BitVec 32) : Fin 3 → Nat :=
  let c0_i32_46 : BitVec 32 := 0#32
  let c1_i32_48 : BitVec 32 := 1#32
  let arg15 : BitVec 32 := Scf.iv c0_i32_46 c1_i32_48 k1_t4
  let c16_i32_466 : BitVec 32 := 16#32
  let v931 : BitVec 32 := Scalar.addi arg15 c16_i32_466
  let c4_i32_467 : BitVec 32 := 4#32
  let v932 : BitVec 32 := Scalar.muli v931 c4_i32_467
  let v933 : BitVec 32 := Scalar.addi v932 c0_i32_468
  let v934 : Index := Scalar.indexCast v933
  let c1_i32_469 : BitVec 32 := 1#32
  let v935 : Index := Scalar.indexCast c1_i32_469
  let c32_470 : Index := 32#32
  ![v934.toNat, 1, 32]
def k1_off239 (k1_t4 : Fin k1_t4_loop.trips) : Fin 2 → Nat :=
  let c96_i32_498 : BitVec 32 := 96#32
  let c0_i32_46 : BitVec 32 := 0#32
  let c1_i32_48 : BitVec 32 := 1#32
  let arg15 : BitVec 32 := Scf.iv c0_i32_46 c1_i32_48 k1_t4
  let v998 : BitVec 32 := Scalar.addi c96_i32_498 arg15
  let v999 : Index := Scalar.indexCast v998
  let c176 : Index := 176#32
  ![v999.toNat, 176]
def k1_off240 (k1_t4 : Fin k1_t4_loop.trips) : Fin 2 → Nat :=
  let c96_i32_499 : BitVec 32 := 96#32
  let c0_i32_46 : BitVec 32 := 0#32
  let c1_i32_48 : BitVec 32 := 1#32
  let arg15 : BitVec 32 := Scf.iv c0_i32_46 c1_i32_48 k1_t4
  let v1002 : BitVec 32 := Scalar.addi c96_i32_499 arg15
  let c16_i32_500 : BitVec 32 := 16#32
  let v1003 : BitVec 32 := Scalar.addi v1002 c16_i32_500
  let v1004 : Index := Scalar.indexCast v1003
  let c176_501 : Index := 176#32
  ![v1004.toNat, 176]
def k1_off241 (k1_t4 : Fin k1_t4_loop.trips) (c0_i32_503 : BitVec 32) : Fin 3 → Nat :=
  let c0_i32_46 : BitVec 32 := 0#32
  let c1_i32_48 : BitVec 32 := 1#32
  let arg15 : BitVec 32 := Scf.iv c0_i32_46 c1_i32_48 k1_t4
  let c4_i32_502 : BitVec 32 := 4#32
  let v1007 : BitVec 32 := Scalar.muli arg15 c4_i32_502
  let v1008 : BitVec 32 := Scalar.addi v1007 c0_i32_503
  let v1009 : Index := Scalar.indexCast v1008
  let c1_i32_504 : BitVec 32 := 1#32
  let v1010 : Index := Scalar.indexCast c1_i32_504
  let c48_505 : Index := 48#32
  ![v1009.toNat, 1, 48]
def k1_off242 (k1_t4 : Fin k1_t4_loop.trips) (c0_i32_508 : BitVec 32) : Fin 3 → Nat :=
  let c0_i32_46 : BitVec 32 := 0#32
  let c1_i32_48 : BitVec 32 := 1#32
  let arg15 : BitVec 32 := Scf.iv c0_i32_46 c1_i32_48 k1_t4
  let c16_i32_506 : BitVec 32 := 16#32
  let v1016 : BitVec 32 := Scalar.addi arg15 c16_i32_506
  let c4_i32_507 : BitVec 32 := 4#32
  let v1017 : BitVec 32 := Scalar.muli v1016 c4_i32_507
  let v1018 : BitVec 32 := Scalar.addi v1017 c0_i32_508
  let v1019 : Index := Scalar.indexCast v1018
  let c1_i32_509 : BitVec 32 := 1#32
  let v1020 : Index := Scalar.indexCast c1_i32_509
  let c48_510 : Index := 48#32
  ![v1019.toNat, 1, 48]
def k1_off243 (k1_t4 : Fin k1_t4_loop.trips) : Fin 2 → Nat :=
  let c96_i32_538 : BitVec 32 := 96#32
  let c0_i32_46 : BitVec 32 := 0#32
  let c1_i32_48 : BitVec 32 := 1#32
  let arg15 : BitVec 32 := Scf.iv c0_i32_46 c1_i32_48 k1_t4
  let v1083 : BitVec 32 := Scalar.addi c96_i32_538 arg15
  let v1084 : Index := Scalar.indexCast v1083
  let c192 : Index := 192#32
  ![v1084.toNat, 192]
def k1_off244 (k1_t4 : Fin k1_t4_loop.trips) : Fin 2 → Nat :=
  let c96_i32_539 : BitVec 32 := 96#32
  let c0_i32_46 : BitVec 32 := 0#32
  let c1_i32_48 : BitVec 32 := 1#32
  let arg15 : BitVec 32 := Scf.iv c0_i32_46 c1_i32_48 k1_t4
  let v1087 : BitVec 32 := Scalar.addi c96_i32_539 arg15
  let c16_i32_540 : BitVec 32 := 16#32
  let v1088 : BitVec 32 := Scalar.addi v1087 c16_i32_540
  let v1089 : Index := Scalar.indexCast v1088
  let c192_541 : Index := 192#32
  ![v1089.toNat, 192]
def k1_off245 (k1_t4 : Fin k1_t4_loop.trips) (c0_i32_543 : BitVec 32) : Fin 3 → Nat :=
  let c0_i32_46 : BitVec 32 := 0#32
  let c1_i32_48 : BitVec 32 := 1#32
  let arg15 : BitVec 32 := Scf.iv c0_i32_46 c1_i32_48 k1_t4
  let c4_i32_542 : BitVec 32 := 4#32
  let v1092 : BitVec 32 := Scalar.muli arg15 c4_i32_542
  let v1093 : BitVec 32 := Scalar.addi v1092 c0_i32_543
  let v1094 : Index := Scalar.indexCast v1093
  let c1_i32_544 : BitVec 32 := 1#32
  let v1095 : Index := Scalar.indexCast c1_i32_544
  let c64_545 : Index := 64#32
  ![v1094.toNat, 1, 64]
def k1_off246 (k1_t4 : Fin k1_t4_loop.trips) (c0_i32_548 : BitVec 32) : Fin 3 → Nat :=
  let c0_i32_46 : BitVec 32 := 0#32
  let c1_i32_48 : BitVec 32 := 1#32
  let arg15 : BitVec 32 := Scf.iv c0_i32_46 c1_i32_48 k1_t4
  let c16_i32_546 : BitVec 32 := 16#32
  let v1101 : BitVec 32 := Scalar.addi arg15 c16_i32_546
  let c4_i32_547 : BitVec 32 := 4#32
  let v1102 : BitVec 32 := Scalar.muli v1101 c4_i32_547
  let v1103 : BitVec 32 := Scalar.addi v1102 c0_i32_548
  let v1104 : Index := Scalar.indexCast v1103
  let c1_i32_549 : BitVec 32 := 1#32
  let v1105 : Index := Scalar.indexCast c1_i32_549
  let c64_550 : Index := 64#32
  ![v1104.toNat, 1, 64]
def k1_off247 (k1_t4 : Fin k1_t4_loop.trips) : Fin 2 → Nat :=
  let c96_i32_578 : BitVec 32 := 96#32
  let c0_i32_46 : BitVec 32 := 0#32
  let c1_i32_48 : BitVec 32 := 1#32
  let arg15 : BitVec 32 := Scf.iv c0_i32_46 c1_i32_48 k1_t4
  let v1168 : BitVec 32 := Scalar.addi c96_i32_578 arg15
  let v1169 : Index := Scalar.indexCast v1168
  let c208 : Index := 208#32
  ![v1169.toNat, 208]
def k1_off248 (k1_t4 : Fin k1_t4_loop.trips) : Fin 2 → Nat :=
  let c96_i32_579 : BitVec 32 := 96#32
  let c0_i32_46 : BitVec 32 := 0#32
  let c1_i32_48 : BitVec 32 := 1#32
  let arg15 : BitVec 32 := Scf.iv c0_i32_46 c1_i32_48 k1_t4
  let v1172 : BitVec 32 := Scalar.addi c96_i32_579 arg15
  let c16_i32_580 : BitVec 32 := 16#32
  let v1173 : BitVec 32 := Scalar.addi v1172 c16_i32_580
  let v1174 : Index := Scalar.indexCast v1173
  let c208_581 : Index := 208#32
  ![v1174.toNat, 208]
def k1_off249 (k1_t4 : Fin k1_t4_loop.trips) (c0_i32_583 : BitVec 32) : Fin 3 → Nat :=
  let c0_i32_46 : BitVec 32 := 0#32
  let c1_i32_48 : BitVec 32 := 1#32
  let arg15 : BitVec 32 := Scf.iv c0_i32_46 c1_i32_48 k1_t4
  let c4_i32_582 : BitVec 32 := 4#32
  let v1177 : BitVec 32 := Scalar.muli arg15 c4_i32_582
  let v1178 : BitVec 32 := Scalar.addi v1177 c0_i32_583
  let v1179 : Index := Scalar.indexCast v1178
  let c1_i32_584 : BitVec 32 := 1#32
  let v1180 : Index := Scalar.indexCast c1_i32_584
  let c80_585 : Index := 80#32
  ![v1179.toNat, 1, 80]
def k1_off250 (k1_t4 : Fin k1_t4_loop.trips) (c0_i32_588 : BitVec 32) : Fin 3 → Nat :=
  let c0_i32_46 : BitVec 32 := 0#32
  let c1_i32_48 : BitVec 32 := 1#32
  let arg15 : BitVec 32 := Scf.iv c0_i32_46 c1_i32_48 k1_t4
  let c16_i32_586 : BitVec 32 := 16#32
  let v1186 : BitVec 32 := Scalar.addi arg15 c16_i32_586
  let c4_i32_587 : BitVec 32 := 4#32
  let v1187 : BitVec 32 := Scalar.muli v1186 c4_i32_587
  let v1188 : BitVec 32 := Scalar.addi v1187 c0_i32_588
  let v1189 : Index := Scalar.indexCast v1188
  let c1_i32_589 : BitVec 32 := 1#32
  let v1190 : Index := Scalar.indexCast c1_i32_589
  let c80_590 : Index := 80#32
  ![v1189.toNat, 1, 80]
def k1_off251 (k1_t4 : Fin k1_t4_loop.trips) : Fin 2 → Nat :=
  let c96_i32_618 : BitVec 32 := 96#32
  let c0_i32_46 : BitVec 32 := 0#32
  let c1_i32_48 : BitVec 32 := 1#32
  let arg15 : BitVec 32 := Scf.iv c0_i32_46 c1_i32_48 k1_t4
  let v1253 : BitVec 32 := Scalar.addi c96_i32_618 arg15
  let v1254 : Index := Scalar.indexCast v1253
  let c224 : Index := 224#32
  ![v1254.toNat, 224]
def k1_off252 (k1_t4 : Fin k1_t4_loop.trips) : Fin 2 → Nat :=
  let c96_i32_619 : BitVec 32 := 96#32
  let c0_i32_46 : BitVec 32 := 0#32
  let c1_i32_48 : BitVec 32 := 1#32
  let arg15 : BitVec 32 := Scf.iv c0_i32_46 c1_i32_48 k1_t4
  let v1257 : BitVec 32 := Scalar.addi c96_i32_619 arg15
  let c16_i32_620 : BitVec 32 := 16#32
  let v1258 : BitVec 32 := Scalar.addi v1257 c16_i32_620
  let v1259 : Index := Scalar.indexCast v1258
  let c224_621 : Index := 224#32
  ![v1259.toNat, 224]
def k1_off253 (k1_t4 : Fin k1_t4_loop.trips) (c0_i32_623 : BitVec 32) : Fin 3 → Nat :=
  let c0_i32_46 : BitVec 32 := 0#32
  let c1_i32_48 : BitVec 32 := 1#32
  let arg15 : BitVec 32 := Scf.iv c0_i32_46 c1_i32_48 k1_t4
  let c4_i32_622 : BitVec 32 := 4#32
  let v1262 : BitVec 32 := Scalar.muli arg15 c4_i32_622
  let v1263 : BitVec 32 := Scalar.addi v1262 c0_i32_623
  let v1264 : Index := Scalar.indexCast v1263
  let c1_i32_624 : BitVec 32 := 1#32
  let v1265 : Index := Scalar.indexCast c1_i32_624
  let c96_625 : Index := 96#32
  ![v1264.toNat, 1, 96]
def k1_off254 (k1_t4 : Fin k1_t4_loop.trips) (c0_i32_628 : BitVec 32) : Fin 3 → Nat :=
  let c0_i32_46 : BitVec 32 := 0#32
  let c1_i32_48 : BitVec 32 := 1#32
  let arg15 : BitVec 32 := Scf.iv c0_i32_46 c1_i32_48 k1_t4
  let c16_i32_626 : BitVec 32 := 16#32
  let v1271 : BitVec 32 := Scalar.addi arg15 c16_i32_626
  let c4_i32_627 : BitVec 32 := 4#32
  let v1272 : BitVec 32 := Scalar.muli v1271 c4_i32_627
  let v1273 : BitVec 32 := Scalar.addi v1272 c0_i32_628
  let v1274 : Index := Scalar.indexCast v1273
  let c1_i32_629 : BitVec 32 := 1#32
  let v1275 : Index := Scalar.indexCast c1_i32_629
  let c96_630 : Index := 96#32
  ![v1274.toNat, 1, 96]
def k1_off255 (k1_t4 : Fin k1_t4_loop.trips) : Fin 2 → Nat :=
  let c96_i32_658 : BitVec 32 := 96#32
  let c0_i32_46 : BitVec 32 := 0#32
  let c1_i32_48 : BitVec 32 := 1#32
  let arg15 : BitVec 32 := Scf.iv c0_i32_46 c1_i32_48 k1_t4
  let v1338 : BitVec 32 := Scalar.addi c96_i32_658 arg15
  let v1339 : Index := Scalar.indexCast v1338
  let c240 : Index := 240#32
  ![v1339.toNat, 240]
def k1_off256 (k1_t4 : Fin k1_t4_loop.trips) : Fin 2 → Nat :=
  let c96_i32_659 : BitVec 32 := 96#32
  let c0_i32_46 : BitVec 32 := 0#32
  let c1_i32_48 : BitVec 32 := 1#32
  let arg15 : BitVec 32 := Scf.iv c0_i32_46 c1_i32_48 k1_t4
  let v1342 : BitVec 32 := Scalar.addi c96_i32_659 arg15
  let c16_i32_660 : BitVec 32 := 16#32
  let v1343 : BitVec 32 := Scalar.addi v1342 c16_i32_660
  let v1344 : Index := Scalar.indexCast v1343
  let c240_661 : Index := 240#32
  ![v1344.toNat, 240]
def k1_off257 (k1_t4 : Fin k1_t4_loop.trips) (c0_i32_663 : BitVec 32) : Fin 3 → Nat :=
  let c0_i32_46 : BitVec 32 := 0#32
  let c1_i32_48 : BitVec 32 := 1#32
  let arg15 : BitVec 32 := Scf.iv c0_i32_46 c1_i32_48 k1_t4
  let c4_i32_662 : BitVec 32 := 4#32
  let v1347 : BitVec 32 := Scalar.muli arg15 c4_i32_662
  let v1348 : BitVec 32 := Scalar.addi v1347 c0_i32_663
  let v1349 : Index := Scalar.indexCast v1348
  let c1_i32_664 : BitVec 32 := 1#32
  let v1350 : Index := Scalar.indexCast c1_i32_664
  let c112_665 : Index := 112#32
  ![v1349.toNat, 1, 112]
def k1_off258 (k1_t4 : Fin k1_t4_loop.trips) (c0_i32_668 : BitVec 32) : Fin 3 → Nat :=
  let c0_i32_46 : BitVec 32 := 0#32
  let c1_i32_48 : BitVec 32 := 1#32
  let arg15 : BitVec 32 := Scf.iv c0_i32_46 c1_i32_48 k1_t4
  let c16_i32_666 : BitVec 32 := 16#32
  let v1356 : BitVec 32 := Scalar.addi arg15 c16_i32_666
  let c4_i32_667 : BitVec 32 := 4#32
  let v1357 : BitVec 32 := Scalar.muli v1356 c4_i32_667
  let v1358 : BitVec 32 := Scalar.addi v1357 c0_i32_668
  let v1359 : Index := Scalar.indexCast v1358
  let c1_i32_669 : BitVec 32 := 1#32
  let v1360 : Index := Scalar.indexCast c1_i32_669
  let c112_670 : Index := 112#32
  ![v1359.toNat, 1, 112]

def k1_chk97 (v1427 : IVec S16 32) : Prop :=
  (∀ a x, ((![v1427] : Fin 1 → IVec S16 32) a x).toNat < S16.size a)
theorem k1_idx97_inb : ∀ (v1427 : IVec S16 32) (k1_hw97 : k1_chk97 v1427), ∀ a x, ((![v1427] : Fin 1 → IVec S16 32) a x).toNat < S16.size a := fun v1427 k1_hw97 => k1_hw97

def k1_chk98 (v1434 : IVec S16 32) : Prop :=
  (∀ a x, ((![v1434] : Fin 1 → IVec S16 32) a x).toNat < S16.size a)
theorem k1_idx98_inb : ∀ (v1434 : IVec S16 32) (k1_hw98 : k1_chk98 v1434), ∀ a x, ((![v1434] : Fin 1 → IVec S16 32) a x).toNat < S16.size a := fun v1434 k1_hw98 => k1_hw98

def k1_chk99 (v1441 : IVec S16 32) : Prop :=
  (∀ a x, ((![v1441] : Fin 1 → IVec S16 32) a x).toNat < S16.size a)
theorem k1_idx99_inb : ∀ (v1441 : IVec S16 32) (k1_hw99 : k1_chk99 v1441), ∀ a x, ((![v1441] : Fin 1 → IVec S16 32) a x).toNat < S16.size a := fun v1441 k1_hw99 => k1_hw99

def k1_chk100 (v1448 : IVec S16 32) : Prop :=
  (∀ a x, ((![v1448] : Fin 1 → IVec S16 32) a x).toNat < S16.size a)
theorem k1_idx100_inb : ∀ (v1448 : IVec S16 32) (k1_hw100 : k1_chk100 v1448), ∀ a x, ((![v1448] : Fin 1 → IVec S16 32) a x).toNat < S16.size a := fun v1448 k1_hw100 => k1_hw100

def k1_chk101 (v1455 : IVec S16 32) : Prop :=
  (∀ a x, ((![v1455] : Fin 1 → IVec S16 32) a x).toNat < S16.size a)
theorem k1_idx101_inb : ∀ (v1455 : IVec S16 32) (k1_hw101 : k1_chk101 v1455), ∀ a x, ((![v1455] : Fin 1 → IVec S16 32) a x).toNat < S16.size a := fun v1455 k1_hw101 => k1_hw101

def k1_chk102 (v1462 : IVec S16 32) : Prop :=
  (∀ a x, ((![v1462] : Fin 1 → IVec S16 32) a x).toNat < S16.size a)
theorem k1_idx102_inb : ∀ (v1462 : IVec S16 32) (k1_hw102 : k1_chk102 v1462), ∀ a x, ((![v1462] : Fin 1 → IVec S16 32) a x).toNat < S16.size a := fun v1462 k1_hw102 => k1_hw102

def k1_chk103 (v1469 : IVec S16 32) : Prop :=
  (∀ a x, ((![v1469] : Fin 1 → IVec S16 32) a x).toNat < S16.size a)
theorem k1_idx103_inb : ∀ (v1469 : IVec S16 32) (k1_hw103 : k1_chk103 v1469), ∀ a x, ((![v1469] : Fin 1 → IVec S16 32) a x).toNat < S16.size a := fun v1469 k1_hw103 => k1_hw103

def k1_chk104 (v1476 : IVec S16 32) : Prop :=
  (∀ a x, ((![v1476] : Fin 1 → IVec S16 32) a x).toNat < S16.size a)
theorem k1_idx104_inb : ∀ (v1476 : IVec S16 32) (k1_hw104 : k1_chk104 v1476), ∀ a x, ((![v1476] : Fin 1 → IVec S16 32) a x).toNat < S16.size a := fun v1476 k1_hw104 => k1_hw104

def k1_chk105 (v1483 : IVec S16 32) : Prop :=
  (∀ a x, ((![v1483] : Fin 1 → IVec S16 32) a x).toNat < S16.size a)
theorem k1_idx105_inb : ∀ (v1483 : IVec S16 32) (k1_hw105 : k1_chk105 v1483), ∀ a x, ((![v1483] : Fin 1 → IVec S16 32) a x).toNat < S16.size a := fun v1483 k1_hw105 => k1_hw105

def k1_chk106 (v1490 : IVec S16 32) : Prop :=
  (∀ a x, ((![v1490] : Fin 1 → IVec S16 32) a x).toNat < S16.size a)
theorem k1_idx106_inb : ∀ (v1490 : IVec S16 32) (k1_hw106 : k1_chk106 v1490), ∀ a x, ((![v1490] : Fin 1 → IVec S16 32) a x).toNat < S16.size a := fun v1490 k1_hw106 => k1_hw106

def k1_chk107 (v1497 : IVec S16 32) : Prop :=
  (∀ a x, ((![v1497] : Fin 1 → IVec S16 32) a x).toNat < S16.size a)
theorem k1_idx107_inb : ∀ (v1497 : IVec S16 32) (k1_hw107 : k1_chk107 v1497), ∀ a x, ((![v1497] : Fin 1 → IVec S16 32) a x).toNat < S16.size a := fun v1497 k1_hw107 => k1_hw107

def k1_chk108 (v1504 : IVec S16 32) : Prop :=
  (∀ a x, ((![v1504] : Fin 1 → IVec S16 32) a x).toNat < S16.size a)
theorem k1_idx108_inb : ∀ (v1504 : IVec S16 32) (k1_hw108 : k1_chk108 v1504), ∀ a x, ((![v1504] : Fin 1 → IVec S16 32) a x).toNat < S16.size a := fun v1504 k1_hw108 => k1_hw108

def k1_chk109 (v1512 : IVec S16 32) : Prop :=
  (∀ a x, ((![v1512] : Fin 1 → IVec S16 32) a x).toNat < S16.size a)
theorem k1_idx109_inb : ∀ (v1512 : IVec S16 32) (k1_hw109 : k1_chk109 v1512), ∀ a x, ((![v1512] : Fin 1 → IVec S16 32) a x).toNat < S16.size a := fun v1512 k1_hw109 => k1_hw109

def k1_chk110 (v1519 : IVec S16 32) : Prop :=
  (∀ a x, ((![v1519] : Fin 1 → IVec S16 32) a x).toNat < S16.size a)
theorem k1_idx110_inb : ∀ (v1519 : IVec S16 32) (k1_hw110 : k1_chk110 v1519), ∀ a x, ((![v1519] : Fin 1 → IVec S16 32) a x).toNat < S16.size a := fun v1519 k1_hw110 => k1_hw110

def k1_chk111 (v1526 : IVec S16 32) : Prop :=
  (∀ a x, ((![v1526] : Fin 1 → IVec S16 32) a x).toNat < S16.size a)
theorem k1_idx111_inb : ∀ (v1526 : IVec S16 32) (k1_hw111 : k1_chk111 v1526), ∀ a x, ((![v1526] : Fin 1 → IVec S16 32) a x).toNat < S16.size a := fun v1526 k1_hw111 => k1_hw111

def k1_chk112 (v1533 : IVec S16 32) : Prop :=
  (∀ a x, ((![v1533] : Fin 1 → IVec S16 32) a x).toNat < S16.size a)
theorem k1_idx112_inb : ∀ (v1533 : IVec S16 32) (k1_hw112 : k1_chk112 v1533), ∀ a x, ((![v1533] : Fin 1 → IVec S16 32) a x).toNat < S16.size a := fun v1533 k1_hw112 => k1_hw112

def k1_chk113 (v1541 : IVec S16 32) : Prop :=
  (∀ a x, ((![v1541] : Fin 1 → IVec S16 32) a x).toNat < S16.size a)
theorem k1_idx113_inb : ∀ (v1541 : IVec S16 32) (k1_hw113 : k1_chk113 v1541), ∀ a x, ((![v1541] : Fin 1 → IVec S16 32) a x).toNat < S16.size a := fun v1541 k1_hw113 => k1_hw113

def k1_chk114 (v1548 : IVec S16 32) : Prop :=
  (∀ a x, ((![v1548] : Fin 1 → IVec S16 32) a x).toNat < S16.size a)
theorem k1_idx114_inb : ∀ (v1548 : IVec S16 32) (k1_hw114 : k1_chk114 v1548), ∀ a x, ((![v1548] : Fin 1 → IVec S16 32) a x).toNat < S16.size a := fun v1548 k1_hw114 => k1_hw114

def k1_chk115 (v1555 : IVec S16 32) : Prop :=
  (∀ a x, ((![v1555] : Fin 1 → IVec S16 32) a x).toNat < S16.size a)
theorem k1_idx115_inb : ∀ (v1555 : IVec S16 32) (k1_hw115 : k1_chk115 v1555), ∀ a x, ((![v1555] : Fin 1 → IVec S16 32) a x).toNat < S16.size a := fun v1555 k1_hw115 => k1_hw115

def k1_chk116 (v1562 : IVec S16 32) : Prop :=
  (∀ a x, ((![v1562] : Fin 1 → IVec S16 32) a x).toNat < S16.size a)
theorem k1_idx116_inb : ∀ (v1562 : IVec S16 32) (k1_hw116 : k1_chk116 v1562), ∀ a x, ((![v1562] : Fin 1 → IVec S16 32) a x).toNat < S16.size a := fun v1562 k1_hw116 => k1_hw116

def k1_chk117 (v1570 : IVec S16 32) : Prop :=
  (∀ a x, ((![v1570] : Fin 1 → IVec S16 32) a x).toNat < S16.size a)
theorem k1_idx117_inb : ∀ (v1570 : IVec S16 32) (k1_hw117 : k1_chk117 v1570), ∀ a x, ((![v1570] : Fin 1 → IVec S16 32) a x).toNat < S16.size a := fun v1570 k1_hw117 => k1_hw117

def k1_chk118 (v1577 : IVec S16 32) : Prop :=
  (∀ a x, ((![v1577] : Fin 1 → IVec S16 32) a x).toNat < S16.size a)
theorem k1_idx118_inb : ∀ (v1577 : IVec S16 32) (k1_hw118 : k1_chk118 v1577), ∀ a x, ((![v1577] : Fin 1 → IVec S16 32) a x).toNat < S16.size a := fun v1577 k1_hw118 => k1_hw118

def k1_chk119 (v1584 : IVec S16 32) : Prop :=
  (∀ a x, ((![v1584] : Fin 1 → IVec S16 32) a x).toNat < S16.size a)
theorem k1_idx119_inb : ∀ (v1584 : IVec S16 32) (k1_hw119 : k1_chk119 v1584), ∀ a x, ((![v1584] : Fin 1 → IVec S16 32) a x).toNat < S16.size a := fun v1584 k1_hw119 => k1_hw119

def k1_chk120 (v1591 : IVec S16 32) : Prop :=
  (∀ a x, ((![v1591] : Fin 1 → IVec S16 32) a x).toNat < S16.size a)
theorem k1_idx120_inb : ∀ (v1591 : IVec S16 32) (k1_hw120 : k1_chk120 v1591), ∀ a x, ((![v1591] : Fin 1 → IVec S16 32) a x).toNat < S16.size a := fun v1591 k1_hw120 => k1_hw120

def k1_chk121 (v1599 : IVec S16 32) : Prop :=
  (∀ a x, ((![v1599] : Fin 1 → IVec S16 32) a x).toNat < S16.size a)
theorem k1_idx121_inb : ∀ (v1599 : IVec S16 32) (k1_hw121 : k1_chk121 v1599), ∀ a x, ((![v1599] : Fin 1 → IVec S16 32) a x).toNat < S16.size a := fun v1599 k1_hw121 => k1_hw121

def k1_chk122 (v1606 : IVec S16 32) : Prop :=
  (∀ a x, ((![v1606] : Fin 1 → IVec S16 32) a x).toNat < S16.size a)
theorem k1_idx122_inb : ∀ (v1606 : IVec S16 32) (k1_hw122 : k1_chk122 v1606), ∀ a x, ((![v1606] : Fin 1 → IVec S16 32) a x).toNat < S16.size a := fun v1606 k1_hw122 => k1_hw122

def k1_chk123 (v1613 : IVec S16 32) : Prop :=
  (∀ a x, ((![v1613] : Fin 1 → IVec S16 32) a x).toNat < S16.size a)
theorem k1_idx123_inb : ∀ (v1613 : IVec S16 32) (k1_hw123 : k1_chk123 v1613), ∀ a x, ((![v1613] : Fin 1 → IVec S16 32) a x).toNat < S16.size a := fun v1613 k1_hw123 => k1_hw123

def k1_chk124 (v1620 : IVec S16 32) : Prop :=
  (∀ a x, ((![v1620] : Fin 1 → IVec S16 32) a x).toNat < S16.size a)
theorem k1_idx124_inb : ∀ (v1620 : IVec S16 32) (k1_hw124 : k1_chk124 v1620), ∀ a x, ((![v1620] : Fin 1 → IVec S16 32) a x).toNat < S16.size a := fun v1620 k1_hw124 => k1_hw124

def k1_chk125 (v1628 : IVec S16 32) : Prop :=
  (∀ a x, ((![v1628] : Fin 1 → IVec S16 32) a x).toNat < S16.size a)
theorem k1_idx125_inb : ∀ (v1628 : IVec S16 32) (k1_hw125 : k1_chk125 v1628), ∀ a x, ((![v1628] : Fin 1 → IVec S16 32) a x).toNat < S16.size a := fun v1628 k1_hw125 => k1_hw125

def k1_chk126 (v1635 : IVec S16 32) : Prop :=
  (∀ a x, ((![v1635] : Fin 1 → IVec S16 32) a x).toNat < S16.size a)
theorem k1_idx126_inb : ∀ (v1635 : IVec S16 32) (k1_hw126 : k1_chk126 v1635), ∀ a x, ((![v1635] : Fin 1 → IVec S16 32) a x).toNat < S16.size a := fun v1635 k1_hw126 => k1_hw126

def k1_chk127 (v1642 : IVec S16 32) : Prop :=
  (∀ a x, ((![v1642] : Fin 1 → IVec S16 32) a x).toNat < S16.size a)
theorem k1_idx127_inb : ∀ (v1642 : IVec S16 32) (k1_hw127 : k1_chk127 v1642), ∀ a x, ((![v1642] : Fin 1 → IVec S16 32) a x).toNat < S16.size a := fun v1642 k1_hw127 => k1_hw127

def k1_chk128 (v1649 : IVec S16 32) : Prop :=
  (∀ a x, ((![v1649] : Fin 1 → IVec S16 32) a x).toNat < S16.size a)
theorem k1_idx128_inb : ∀ (v1649 : IVec S16 32) (k1_hw128 : k1_chk128 v1649), ∀ a x, ((![v1649] : Fin 1 → IVec S16 32) a x).toNat < S16.size a := fun v1649 k1_hw128 => k1_hw128
def k1_off259 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x256 : Shape := ⟨2, ![4096, 256]⟩
abbrev S4096 : Shape := ⟨1, ![4096]⟩
abbrev S8192x256 : Shape := ⟨2, ![8192, 256]⟩
abbrev S8192x4x256 : Shape := ⟨3, ![8192, 4, 256]⟩
abbrev S_ : Shape := ⟨0, ![]⟩
abbrev S4096x1 : Shape := ⟨2, ![4096, 1]⟩
abbrev S8192 : Shape := ⟨1, ![8192]⟩
abbrev S8192x1 : Shape := ⟨2, ![8192, 1]⟩
abbrev S256x8192 : Shape := ⟨2, ![256, 8192]⟩
abbrev S4096x8192 : Shape := ⟨2, ![4096, 8192]⟩
abbrev S4096x2 : Shape := ⟨2, ![4096, 2]⟩
abbrev S1 : Shape := ⟨1, ![1]⟩
abbrev S1x1 : Shape := ⟨2, ![1, 1]⟩
abbrev S4096x4x256 : Shape := ⟨3, ![4096, 4, 256]⟩
abbrev S4096x1x256 : Shape := ⟨3, ![4096, 1, 256]⟩
abbrev S4096x4 : Shape := ⟨2, ![4096, 4]⟩

abbrev nBuf : Space → Nat
  | .hbm => 121
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096x256, .f32⟩
  | .hbm, ⟨3, _⟩ => ⟨S4096, .i32⟩
  | .hbm, ⟨4, _⟩ => ⟨S8192x256, .f32⟩
  | .hbm, ⟨5, _⟩ => ⟨S8192x4x256, .f32⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x256, .f32⟩
  | .hbm, ⟨15, _⟩ => ⟨S4096x256, .f32⟩
  | .hbm, ⟨16, _⟩ => ⟨S8192x256, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x256, .f32⟩
  | .hbm, ⟨25, _⟩ => ⟨S8192x256, .f32⟩
  | .hbm, ⟨26, _⟩ => ⟨S256x8192, .f32⟩
  | .hbm, ⟨27, _⟩ => ⟨S4096x8192, .f32⟩
  | .hbm, ⟨28, _⟩ => ⟨S4096x8192, .f32⟩
  | .hbm, ⟨29, _⟩ => ⟨S_, .f32⟩
  | .hbm, ⟨30, _⟩ => ⟨S4096x8192, .f32⟩
  | .hbm, ⟨31, _⟩ => ⟨S4096x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x8192, .f32⟩
  | .hbm, ⟨36, _⟩ => ⟨S4096x8192, .f32⟩
  | .hbm, ⟨37, _⟩ => ⟨S_, .f32⟩
  | .hbm, ⟨38, _⟩ => ⟨S4096x8192, .f32⟩
  | .hbm, ⟨39, _⟩ => ⟨S4096x8192, .f32⟩
  | .hbm, ⟨40, _⟩ => ⟨S4096x8192, .f32⟩
  | .hbm, ⟨41, _⟩ => ⟨S_, .f32⟩
  | .hbm, ⟨42, _⟩ => ⟨S4096x8192, .f32⟩
  | .hbm, ⟨43, _⟩ => ⟨S4096x8192, .f32⟩
  | .hbm, ⟨44, _⟩ => ⟨S_, .f32⟩
  | .hbm, ⟨45, _⟩ => ⟨S4096x8192, .f32⟩
  | .hbm, ⟨46, _⟩ => ⟨S4096x8192, .f32⟩
  | .hbm, ⟨47, _⟩ => ⟨S4096x8192, .f32⟩
  | .hbm, ⟨48, _⟩ => ⟨S_, .f32⟩
  | .hbm, ⟨49, _⟩ => ⟨S4096x8192, .f32⟩
  | .hbm, ⟨50, _⟩ => ⟨S4096x8192, .i1⟩
  | .hbm, ⟨51, _⟩ => ⟨S_, .f32⟩
  | .hbm, ⟨52, _⟩ => ⟨S4096x8192, .f32⟩
  | .hbm, ⟨53, _⟩ => ⟨S4096x8192, .f32⟩
  | .hbm, ⟨54, _⟩ => ⟨S4096x8192, .f32⟩
  | .hbm, ⟨55, _⟩ => ⟨S_, .f32⟩
  | .hbm, ⟨56, _⟩ => ⟨S4096x8192, .f32⟩
  | .hbm, ⟨57, _⟩ => ⟨S4096, .i32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x1, .i32⟩
  | .hbm, ⟨74, _⟩ => ⟨S4096x2, .i32⟩
  | .hbm, ⟨75, _⟩ => ⟨S_, .f32⟩
  | .hbm, ⟨76, _⟩ => ⟨S4096, .f32⟩
  | .hbm, ⟨77, _⟩ => ⟨S4096x8192, .f32⟩
  | .hbm, ⟨78, _⟩ => ⟨S4096x8192, .f32⟩
  | .hbm, ⟨79, _⟩ => ⟨S_, .f32⟩
  | .hbm, ⟨80, _⟩ => ⟨S4096x8192, .f32⟩
  | .hbm, ⟨81, _⟩ => ⟨S4096x8192, .f32⟩
  | .hbm, ⟨82, _⟩ => ⟨S4096x8192, .f32⟩
  | .hbm, ⟨83, _⟩ => ⟨S4096x8192, .f32⟩
  | .hbm, ⟨84, _⟩ => ⟨S_, .f32⟩
  | .hbm, ⟨85, _⟩ => ⟨S4096x8192, .f32⟩
  | .hbm, ⟨86, _⟩ => ⟨S4096x8192, .f32⟩
  | .hbm, ⟨87, _⟩ => ⟨S_, .i32⟩
  | .hbm, ⟨88, _⟩ => ⟨S4096, .i32⟩
  | .hbm, ⟨89, _⟩ => ⟨S4096, .i1⟩
  | .hbm, ⟨90, _⟩ => ⟨S_, .i32⟩
  | .hbm, ⟨91, _⟩ => ⟨S4096, .i32⟩
  | .hbm, ⟨92, _⟩ => ⟨S4096, .i32⟩
  | .hbm, ⟨93, _⟩ => ⟨S4096, .i32⟩
  | .hbm, ⟨94, _⟩ => ⟨S4096x1, .i32⟩
  | .hbm, ⟨95, _⟩ => ⟨S1, .i32⟩
  | .hbm, ⟨96, _⟩ => ⟨S_, .i32⟩
  | .hbm, ⟨97, _⟩ => ⟨S4096x1, .i32⟩
  | .hbm, ⟨98, _⟩ => ⟨S4096x1, .i1⟩
  | .hbm, ⟨99, _⟩ => ⟨S1x1, .i32⟩
  | .hbm, ⟨100, _⟩ => ⟨S4096x1, .i32⟩
  | .hbm, ⟨101, _⟩ => ⟨S4096x1, .i1⟩
  | .hbm, ⟨102, _⟩ => ⟨S4096x1, .i1⟩
  | .hbm, ⟨103, _⟩ => ⟨S_, .i1⟩
  | .hbm, ⟨104, _⟩ => ⟨S4096, .i1⟩
  | .hbm, ⟨105, _⟩ => ⟨S4096x4x256, .f32⟩
  | .hbm, ⟨106, _⟩ => ⟨S4096x4x256, .i1⟩
  | .hbm, ⟨107, _⟩ => ⟨S_, .f32⟩
  | .hbm, ⟨108, _⟩ => ⟨S4096x4x256, .f32⟩
  | .hbm, ⟨109, _⟩ => ⟨S4096x4x256, .f32⟩
  | .hbm, ⟨110, _⟩ => ⟨S4096x1x256, .f32⟩
  | .hbm, ⟨111, _⟩ => ⟨S4096x4x256, .f32⟩
  | .hbm, ⟨112, _⟩ => ⟨S4096x4x256, .f32⟩
  | .hbm, ⟨113, _⟩ => ⟨S4096x4x256, .f32⟩
  | .hbm, ⟨114, _⟩ => ⟨S_, .f32⟩
  | .hbm, ⟨115, _⟩ => ⟨S4096x4, .f32⟩
  | .hbm, ⟨116, _⟩ => ⟨S_, .f32⟩
  | .hbm, ⟨117, _⟩ => ⟨S4096x4, .f32⟩
  | .hbm, ⟨118, _⟩ => ⟨S4096x4, .f32⟩
  | .hbm, ⟨119, _⟩ => ⟨S_, .f32⟩
  | .hbm, ⟨120, _⟩ => ⟨S4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_c : Ref sig .tc := ⟨.hbm, 58, rfl⟩
abbrev main_v35 : Ref sig .tc := ⟨.hbm, 59, rfl⟩
abbrev main_v36 : Ref sig .tc := ⟨.hbm, 60, rfl⟩
abbrev main_c_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_12 : Ref sig .tc := ⟨.hbm, 65, rfl⟩
abbrev main_v40 : Ref sig .tc := ⟨.hbm, 66, rfl⟩
abbrev main_v41 : Ref sig .tc := ⟨.hbm, 67, rfl⟩
abbrev main_c_13 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_14 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_15 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_16 : Ref sig .tc := ⟨.hbm, 84, rfl⟩
abbrev main_v55 : Ref sig .tc := ⟨.hbm, 85, rfl⟩
abbrev main_v56 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_17 : Ref sig .tc := ⟨.hbm, 114, rfl⟩
abbrev main_v62 : Ref sig .tc := ⟨.hbm, 115, rfl⟩
abbrev main_cst_18 : Ref sig .tc := ⟨.hbm, 116, rfl⟩
abbrev main_v63 : Ref sig .tc := ⟨.hbm, 117, rfl⟩
abbrev main_v64 : Ref sig .tc := ⟨.hbm, 118, rfl⟩
abbrev main_cst_19 : Ref sig .tc := ⟨.hbm, 119, rfl⟩
abbrev main_v65 : Ref sig .tc := ⟨.hbm, 120, rfl⟩

abbrev nD : Nat := 1
abbrev τ : Topo := Topo.v7x

variable {F : FTy → Type} [FloatOps F]
-- ==== Proof.Trip.lean ====
/-
  One trip of the distance kernel's loops, written once. The printed kernel has four loops of sixteen trips; each trip takes two rows of
  codes (`t` and `t + 16` of the chunk), reads them sixteen lanes at a time against the four centroids of each row's class, adds up the
  absolute differences lane by lane, sums the lanes by four exchanges through a sixteen-lane scratch, keeps the smallest of the four sums,
  and selects it into the lane the trip owns. Here a trip is one program by recursion over the sixteen lane groups, and the whole tile
  task is written over it (`task`); `task_eq` says the printed task is this one.
-/
module

public import proofs.«01_k».proof.Defs
public import proofs.«01_k».proof.Proof.Gen.KernelIdeal

@[expose] public section

noncomputable section

namespace Cert.Proof.Trip

open Cert.KernelIdeal Cert.KernelIdeal.Gen
open Idealize.ShloMosaic Idealize.SL.Sem

variable {F : FTy → Type} [FloatOps F]

/-! ## Where the loads fall -/

/-- The row of codes that trip `v` of the chunk starting at row `b` reads first, at column `col`; -/
def codLo (b v : BitVec 32) (col : Nat) : Fin 2 → Nat := ![(Scalar.indexCast (Scalar.addi b v)).toNat, col]
/-- the row sixteen below it; -/
def codHi (b v : BitVec 32) (col : Nat) : Fin 2 → Nat := ![(Scalar.indexCast (Scalar.addi (Scalar.addi b v) 16#32)).toNat, col]
/-- centroid `c` of the first row's class, half `h`; -/
def cenLo (v c h : BitVec 32) (col : Nat) : Fin 3 → Nat :=
  ![(Scalar.indexCast (Scalar.addi (Scalar.muli v 4#32) c)).toNat, (Scalar.indexCast h).toNat, col]
/-- and of the second row's. -/
def cenHi (v c h : BitVec 32) (col : Nat) : Fin 3 → Nat :=
  ![(Scalar.indexCast (Scalar.addi (Scalar.muli (Scalar.addi v 16#32) 4#32) c)).toNat, (Scalar.indexCast h).toNat, col]

/-- The offsets of one trip are inside the buffers. -/
structure Inb (b v : BitVec 32) : Prop where
  codLo : ∀ s < 16, ∀ a, codLo b v (s * 16) a + S1x16.size a ≤ S128x256.size a
  codHi : ∀ s < 16, ∀ a, codHi b v (s * 16) a + S1x16.size a ≤ S128x256.size a
  cenLo : ∀ c < 4, ∀ s < 16, ∀ a,
    cenLo v (BitVec.ofNat 32 c) (BitVec.ofNat 32 (s / 8)) (s % 8 * 16) a + S1x1x16.size a ≤ S128x2x128.size a
  cenHi : ∀ c < 4, ∀ s < 16, ∀ a,
    cenHi v (BitVec.ofNat 32 c) (BitVec.ofNat 32 (s / 8)) (s % 8 * 16) a + S1x1x16.size a ≤ S128x2x128.size a

/-! ## The trip -/

section
variable {p : Proc τ} {α : Type}

abbrev V16 (F : FTy → Type) : Type := FVec F S16 .f32

/-- A loaded row of sixteen codes, as a vector; a loaded row of sixteen of a centroid. -/
def cod (x : Vec F S1x16 .f32) : V16 F := shapeCast S16 x shapeCasts_S1x16_S16
def cen (x : Vec F S1x1x16 .f32) : V16 F := shapeCast S16 x shapeCasts_S1x1x16_S16
/-- One lane group's contribution: the running sum plus the absolute difference. -/
def acc (r a x : V16 F) : V16 F := addf r (absf (subf a x))

variable (codes : Memref sig p.kind .vmem S128x256 .f32) (rows : Memref sig p.kind .vmem S128x2x128 .f32)
  (perm : Memref sig p.kind .vmem S16 .f32)

def ldCode (o : Fin 2 → Nat) (ho : ∀ a, o a + S1x16.size a ≤ S128x256.size a) (k : V16 F → Prog (TpuEff nD τ sig (Elt F) Λ₀ p) α) :
    Prog (TpuEff nD τ sig (Elt F) Λ₀ p) α :=
  .op (.load codes (Rect.unit (s := S128x256) o S1x16.size ho).toLoadRect (View.loadsAt_vmem h_S1x16)) fun x => k (cod x)

def ldCent (o : Fin 3 → Nat) (ho : ∀ a, o a + S1x1x16.size a ≤ S128x2x128.size a) (k : V16 F → Prog (TpuEff nD τ sig (Elt F) Λ₀ p) α) :
    Prog (TpuEff nD τ sig (Elt F) Λ₀ p) α :=
  .op (.load rows (Rect.unit (s := S128x2x128) o S1x1x16.size ho).toLoadRect (View.loadsAt_vmem h_S1x1x16)) fun x => k (cen x)

/-- Eight running sums: four centroids for each of the two rows. -/
structure Accs (F : FTy → Type) where
  lo : Fin 4 → V16 F
  hi : Fin 4 → V16 F

/-- Lane group `s` of a trip. -/
def group {b v : BitVec 32} (hb : Inb b v) (s : Nat) (hs : s < 16) (A : Accs F) (k : Accs F → Prog (TpuEff nD τ sig (Elt F) Λ₀ p) α) :
    Prog (TpuEff nD τ sig (Elt F) Λ₀ p) α :=
  ldCode codes (codLo b v (s * 16)) (hb.codLo s hs) fun a =>
  ldCode codes (codHi b v (s * 16)) (hb.codHi s hs) fun d =>
  ldCent rows (cenLo v 0#32 (BitVec.ofNat 32 (s / 8)) (s % 8 * 16)) (hb.cenLo 0 (by decide) s hs) fun x0 =>
  ldCent rows (cenHi v 0#32 (BitVec.ofNat 32 (s / 8)) (s % 8 * 16)) (hb.cenHi 0 (by decide) s hs) fun y0 =>
  ldCent rows (cenLo v 1#32 (BitVec.ofNat 32 (s / 8)) (s % 8 * 16)) (hb.cenLo 1 (by decide) s hs) fun x1 =>
  ldCent rows (cenHi v 1#32 (BitVec.ofNat 32 (s / 8)) (s % 8 * 16)) (hb.cenHi 1 (by decide) s hs) fun y1 =>
  ldCent rows (cenLo v 2#32 (BitVec.ofNat 32 (s / 8)) (s % 8 * 16)) (hb.cenLo 2 (by decide) s hs) fun x2 =>
  ldCent rows (cenHi v 2#32 (BitVec.ofNat 32 (s / 8)) (s % 8 * 16)) (hb.cenHi 2 (by decide) s hs) fun y2 =>
  ldCent rows (cenLo v 3#32 (BitVec.ofNat 32 (s / 8)) (s % 8 * 16)) (hb.cenLo 3 (by decide) s hs) fun x3 =>
  ldCent rows (cenHi v 3#32 (BitVec.ofNat 32 (s / 8)) (s % 8 * 16)) (hb.cenHi 3 (by decide) s hs) fun y3 =>
  k ⟨![acc (A.lo 0) a x0, acc (A.lo 1) a x1, acc (A.lo 2) a x2, acc (A.lo 3) a x3],
     ![acc (A.hi 0) d y0, acc (A.hi 1) d y1, acc (A.hi 2) d y2, acc (A.hi 3) d y3]⟩

/-- The lane groups `s`, …, `15`: `n` of them. -/
def groups {b v : BitVec 32} (hb : Inb b v) : (n s : Nat) → (h : s + n = 16) → Accs F →
    (Accs F → Prog (TpuEff nD τ sig (Elt F) Λ₀ p) α) → Prog (TpuEff nD τ sig (Elt F) Λ₀ p) α
  | 0, _, _, A, k => k A
  | n + 1, s, h, A, k => group codes rows hb s (by omega) A fun A' => groups hb n (s + 1) (by omega) A' k

/-- Every index names one of the scratch's sixteen lanes. -/
abbrev Lanes (x : IVec S16 32) : Prop := ∀ a y, ((![x] : Fin 1 → IVec S16 32) a y).toNat < S16.size a

/-- One exchange of a lane sum: the vector stored in the scratch, read back with the lanes' numbers changed by `j`, and added. -/
def exch (lane : IVec S16 32) (j : BitVec 32) (x : V16 F) (k : V16 F → Prog (TpuEff nD τ sig (Elt F) Λ₀ p) α) :
    Prog (TpuEff nD τ sig (Elt F) Λ₀ p) α :=
  .op (.load perm (Rect.unit (s := S16) ![0] S16.size inb_S16_S16_0).toLoadRect (View.loadsAt_vmem h_S16)) fun _ =>
  .op (.store perm (Rect.unit (s := S16) ![0] S16.size inb_S16_S16_0) (shapeCast S16 x shapeCasts_S16_S16) Finset.univ
    (View.stores_vmem_bits_univ h_S16 rfl) (.inl rfl)) fun _ =>
  .op (.assume (Lanes (xori lane (broadcast S16 j))) (k1_chk1.dec _)) fun h =>
  .op (.load perm (.whole S16) (View.loadsAt_whole (View.loads_vmem h_S16))) fun f =>
  k (addf x (loadIdx f ![xori lane (broadcast S16 j)] h.down))

/-- The four exchanges. -/
def lsum (lane : IVec S16 32) (x : V16 F) (k : V16 F → Prog (TpuEff nD τ sig (Elt F) Λ₀ p) α) : Prog (TpuEff nD τ sig (Elt F) Λ₀ p) α :=
  exch perm lane 1#32 x fun x => exch perm lane 2#32 x fun x => exch perm lane 4#32 x fun x => exch perm lane 8#32 x k

/-- The chosen lane takes the smallest sum over 256; the others stay. -/
def pick (lane : IVec S16 32) (v : BitVec 32) (m r : V16 F) : V16 F :=
  select (cmpi .eq lane (broadcast S16 v)) (mulf m (broadcast S16 (Scalar.ofBits .f32 0x3B800000#32))) r

/-- The sums' start. -/
def zero16 : V16 F := broadcast S16 (Scalar.ofBits .f32 0x00000000#32)

/-- A trip at induction variable `v` of the chunk from row `b`. -/
def trip {b v : BitVec 32} (hb : Inb b v) (lane : IVec S16 32) (r : V16 F × V16 F) : Prog (TpuEff nD τ sig (Elt F) Λ₀ p) (V16 F × V16 F) :=
  groups codes rows hb 16 0 rfl ⟨fun _ => zero16, fun _ => zero16⟩ fun A =>
  lsum perm lane (A.lo 0) fun a0 => lsum perm lane (A.hi 0) fun d0 =>
  lsum perm lane (A.lo 1) fun a1 => lsum perm lane (A.hi 1) fun d1 =>
  lsum perm lane (A.lo 2) fun a2 => lsum perm lane (A.hi 2) fun d2 =>
  lsum perm lane (A.lo 3) fun a3 => lsum perm lane (A.hi 3) fun d3 =>
  .ret (pick lane v (minimumf (minimumf (minimumf a0 a1) a2) a3) r.1, pick lane v (minimumf (minimumf (minimumf d0 d1) d2) d3) r.2)

end

/-! ## The trips' numbers -/

theorem row_lo : ∀ (b : Fin 4) (t : Fin 16),
    (Scalar.indexCast (Scalar.addi (BitVec.ofNat 32 (32 * b.1)) (Scf.iv 0#32 1#32 t.1))).toNat = 32 * b + t := by decide
theorem row_hi : ∀ (b : Fin 4) (t : Fin 16),
    (Scalar.indexCast (Scalar.addi (Scalar.addi (BitVec.ofNat 32 (32 * b.1)) (Scf.iv 0#32 1#32 t.1)) 16#32)).toNat = 32 * b + t + 16 := by decide
theorem slot_lo : ∀ (c : Fin 4) (t : Fin 16),
    (Scalar.indexCast (Scalar.addi (Scalar.muli (Scf.iv 0#32 1#32 t.1) 4#32) (BitVec.ofNat 32 c))).toNat = 4 * t + c := by decide
theorem slot_hi : ∀ (c : Fin 4) (t : Fin 16),
    (Scalar.indexCast (Scalar.addi (Scalar.muli (Scalar.addi (Scf.iv 0#32 1#32 t.1) 16#32) 4#32) (BitVec.ofNat 32 c))).toNat
      = 4 * (t + 16) + c := by decide
theorem half_nat : ∀ s : Fin 16, (Scalar.indexCast (BitVec.ofNat 32 (s / 8))).toNat = s / 8 := by decide

theorem codLo_eq (b : Fin 4) (t : Fin 16) (col : Nat) :
    codLo (BitVec.ofNat 32 (32 * b.1)) (Scf.iv 0#32 1#32 t.1) col = ![32 * b.1 + t.1, col] := by
  unfold codLo; rw [row_lo]
theorem codHi_eq (b : Fin 4) (t : Fin 16) (col : Nat) :
    codHi (BitVec.ofNat 32 (32 * b.1)) (Scf.iv 0#32 1#32 t.1) col = ![32 * b.1 + t.1 + 16, col] := by
  unfold codHi; rw [row_hi]
theorem cenLo_eq (c : Fin 4) (t s : Fin 16) (col : Nat) :
    cenLo (Scf.iv 0#32 1#32 t.1) (BitVec.ofNat 32 c.1) (BitVec.ofNat 32 (s.1 / 8)) col = ![4 * t.1 + c.1, s.1 / 8, col] := by
  unfold cenLo; rw [slot_lo, half_nat]
theorem cenHi_eq (c : Fin 4) (t s : Fin 16) (col : Nat) :
    cenHi (Scf.iv 0#32 1#32 t.1) (BitVec.ofNat 32 c.1) (BitVec.ofNat 32 (s.1 / 8)) col = ![4 * (t.1 + 16) + c.1, s.1 / 8, col] := by
  unfold cenHi; rw [slot_hi, half_nat]

/-- Every trip of every chunk is inside the buffers. -/
theorem inb (b : Fin 4) (t : Fin 16) : Inb (BitVec.ofNat 32 (32 * b.1)) (Scf.iv 0#32 1#32 t.1) where
  codLo s hs a := by rw [codLo_eq]; fin_cases a <;> simp [S1x16, S128x256] <;> omega
  codHi s hs a := by rw [codHi_eq]; fin_cases a <;> simp [S1x16, S128x256] <;> omega
  cenLo c hc s hs a := by have h := cenLo_eq ⟨c, hc⟩ t ⟨s, hs⟩ (s % 8 * 16); dsimp only at h; rw [h]; fin_cases a <;> simp [S1x1x16, S128x2x128] <;> omega
  cenHi c hc s hs a := by have h := cenHi_eq ⟨c, hc⟩ t ⟨s, hs⟩ (s % 8 * 16); dsimp only at h; rw [h]; fin_cases a <;> simp [S1x1x16, S128x2x128] <;> omega

/-! ## The tile's task -/

/-- The lanes' numbers. -/
abbrev lanes : IVec S16 32 := iota .scVector S16 32 [0] iota_S16_d0_w32_scVector

local notation "cents" => (Memref.whole Cert.KernelIdeal.main_v10_scv : Memref Cert.KernelIdeal.sig Kind.scVector Space.hbm Cert.KernelIdeal.S32768x2x128 EltTy.f32)
local notation "codesH" => (Memref.whole Cert.KernelIdeal.main_arg2_scv : Memref Cert.KernelIdeal.sig Kind.scVector Space.hbm Cert.KernelIdeal.S4096x256 EltTy.f32)
local notation "listH" => (Memref.whole Cert.KernelIdeal.main_v11_scv : Memref Cert.KernelIdeal.sig Kind.scVector Space.hbm Cert.KernelIdeal.S16384 EltTy.i32)
local notation "outH" => (Memref.whole Cert.KernelIdeal.main_v12_scv : Memref Cert.KernelIdeal.sig Kind.scVector Space.hbm Cert.KernelIdeal.S4096 EltTy.f32)
local notation "list" => (Memref.whole Cert.KernelIdeal.cc1_scratch0 : Memref Cert.KernelIdeal.sig Kind.scVector Space.vmem Cert.KernelIdeal.S512 EltTy.i32)
local notation "rows0" => (Memref.whole Cert.KernelIdeal.cc1_scratch1 : Memref Cert.KernelIdeal.sig Kind.scVector Space.vmem Cert.KernelIdeal.S128x2x128 EltTy.f32)
local notation "rows1" => (Memref.whole Cert.KernelIdeal.cc1_scratch2 : Memref Cert.KernelIdeal.sig Kind.scVector Space.vmem Cert.KernelIdeal.S128x2x128 EltTy.f32)
local notation "codes" => (Memref.whole Cert.KernelIdeal.cc1_scratch3 : Memref Cert.KernelIdeal.sig Kind.scVector Space.vmem Cert.KernelIdeal.S128x256 EltTy.f32)
local notation "res" => (Memref.whole Cert.KernelIdeal.cc1_scratch4 : Memref Cert.KernelIdeal.sig Kind.scVector Space.vmem Cert.KernelIdeal.S128 EltTy.f32)
local notation "perm" => (Memref.whole Cert.KernelIdeal.cc1_scratch5 : Memref Cert.KernelIdeal.sig Kind.scVector Space.vmem Cert.KernelIdeal.S16 EltTy.f32)

/-- The whole table, as the gathers name it. -/
abbrev tbl : Memref sig .scVector .hbm S32768x2x128 .f32 := (cents).slice (Rect.unit (s := S32768x2x128) ![0, 0, 0] S32768x2x128.size inb_S32768x2x128_S32768x2x128_0_0_0) (fun _ => rfl)

section
variable (i : grid1.Coords)
/-- The tile that runs the task at these coordinates. -/
abbrev proc : Proc τ := .scVector ((i 0).castLE hcore1) ((i 1).castLE hsub1)

/-- One chunk's loop: from zeros, sixteen trips. -/
def chunk (lane : IVec S16 32) (R : Memref sig .scVector .vmem S128x2x128 .f32) (b : Fin 4) (L : Scf.Loop 32) (hL : L.OK) (hn : ∀ t : Fin L.trips, t.1 < 16) :
    Prog (TpuEff nD τ sig (Elt F) Λ₀ (proc i)) (V16 F × V16 F) :=
  Scf.Loop.for L hL (zero16, zero16) fun t r => trip (p := proc i) codes R perm (inb b ⟨t.1, hn t⟩) lane r

/-- The printed task over `trip`, in the three windows the print cuts it into: to the first half of the first chunk's results, -/
def task₁ : Prog (TpuEff nD τ sig (Elt F) Λ₀ (proc i)) (Σ' (_ : IVec S16 32), V16 F) := do
  Prog.lift (.enqueueDma ((listH).slice (Rect.unit (s := S16384) (k1_off1 i) S512.size (k1_off1_inb i)) (fun _ => rfl)) (.here list) (.dma cc1_scoped0.sem) (View.wordExact_bits rfl) (Memref.isWhole_whole _).wordExact ⟨Or.inl rfl, trivial⟩)
  Prog.lift (.waitDma2 cc1_scoped0.sem ((listH).slice (Rect.unit (s := S16384) (k1_off1 i) S512.size (k1_off1_inb i)) (fun _ => rfl)) list (View.wordExact_bits rfl) (Memref.isWhole_whole _).wordExact)
  Prog.lift (.enqueueDma ((codesH).slice (Rect.unit (s := S4096x256) (k1_off2 i) S128x256.size (k1_off2_inb i)) (fun _ => rfl)) (.here codes) (.dma cc1_scratch8.sem) (View.wordExact_bits rfl) (Memref.isWhole_whole _).wordExact ⟨Or.inl rfl, trivial⟩)
  SparseCore.enqueueIndirectGather rfl tbl rows0 gathers_S32768x2x128_S128x2x128 ((list).slice (Rect.unit (s := S512) ![0] S128.size inb_S512_S128_0) (fun _ => rfl)) rfl cc1_scratch6.sem (View.wordExact_bits rfl) rfl (Or.inl rfl)
  Prog.lift (.waitDma2 cc1_scratch8.sem ((codesH).slice (Rect.unit (s := S4096x256) (k1_off2 i) S128x256.size (k1_off2_inb i)) (fun _ => rfl)) codes (View.wordExact_bits rfl) (Memref.isWhole_whole _).wordExact)
  SparseCore.waitIndirectGather cc1_scratch6.sem tbl rows0 (View.wordExact_bits rfl) (Memref.isWhole_whole _).wordExact
  SparseCore.enqueueIndirectGather rfl tbl rows1 gathers_S32768x2x128_S128x2x128 ((list).slice (Rect.unit (s := S512) ![128] S128.size inb_S512_S128_128) (fun _ => rfl)) rfl cc1_scratch7.sem (View.wordExact_bits rfl) rfl (Or.inl rfl)
  let r ← chunk i lanes rows0 0 k1_t1_loop k1_t1_ok (fun t => t.2)
  let _ ← Prog.lift (.load res (Rect.unit (s := S128) ![0] S16.size inb_S128_S16_0).toLoadRect (View.loadsAt_vmem h_S16))
  Prog.lift (.store res (Rect.unit (s := S128) ![0] S16.size inb_S128_S16_0) (shapeCast S16 r.1 shapeCasts_S16_S16) Finset.univ (View.stores_vmem_bits_univ h_S16 rfl) (.inl rfl))
  pure ⟨lanes, r.2⟩

/-- to the third chunk's sums, -/
def task₂ (lane : IVec S16 32) (z : V16 F) : Prog (TpuEff nD τ sig (Elt F) Λ₀ (proc i)) (Σ' (_ : V16 F), V16 F) := do
  let _ ← Prog.lift (.load res (Rect.unit (s := S128) ![16] S16.size inb_S128_S16_16).toLoadRect (View.loadsAt_vmem h_S16))
  Prog.lift (.store res (Rect.unit (s := S128) ![16] S16.size inb_S128_S16_16) (shapeCast S16 z shapeCasts_S16_S16) Finset.univ (View.stores_vmem_bits_univ h_S16 rfl) (.inl rfl))
  SparseCore.waitIndirectGather cc1_scratch7.sem tbl rows1 (View.wordExact_bits rfl) (Memref.isWhole_whole _).wordExact
  SparseCore.enqueueIndirectGather rfl tbl rows0 gathers_S32768x2x128_S128x2x128 ((list).slice (Rect.unit (s := S512) ![256] S128.size inb_S512_S128_256) (fun _ => rfl)) rfl cc1_scratch6.sem (View.wordExact_bits rfl) rfl (Or.inl rfl)
  let r ← chunk i lane rows1 1 k1_t2_loop k1_t2_ok (fun t => t.2)
  let _ ← Prog.lift (.load res (Rect.unit (s := S128) ![32] S16.size inb_S128_S16_32).toLoadRect (View.loadsAt_vmem h_S16))
  Prog.lift (.store res (Rect.unit (s := S128) ![32] S16.size inb_S128_S16_32) (shapeCast S16 r.1 shapeCasts_S16_S16) Finset.univ (View.stores_vmem_bits_univ h_S16 rfl) (.inl rfl))
  let _ ← Prog.lift (.load res (Rect.unit (s := S128) ![48] S16.size inb_S128_S16_48).toLoadRect (View.loadsAt_vmem h_S16))
  Prog.lift (.store res (Rect.unit (s := S128) ![48] S16.size inb_S128_S16_48) (shapeCast S16 r.2 shapeCasts_S16_S16) Finset.univ (View.stores_vmem_bits_univ h_S16 rfl) (.inl rfl))
  SparseCore.waitIndirectGather cc1_scratch6.sem tbl rows0 (View.wordExact_bits rfl) (Memref.isWhole_whole _).wordExact
  SparseCore.enqueueIndirectGather rfl tbl rows1 gathers_S32768x2x128_S128x2x128 ((list).slice (Rect.unit (s := S512) ![384] S128.size inb_S512_S128_384) (fun _ => rfl)) rfl cc1_scratch7.sem (View.wordExact_bits rfl) rfl (Or.inl rfl)
  let r ← chunk i lane rows0 2 k1_t3_loop k1_t3_ok (fun t => t.2)
  pure ⟨r.1, r.2⟩

/-- and to the end. -/
def task₃ (lane : IVec S16 32) (r1 r2 : V16 F) : Prog (TpuEff nD τ sig (Elt F) Λ₀ (proc i)) PUnit := do
  let _ ← Prog.lift (.load res (Rect.unit (s := S128) ![64] S16.size inb_S128_S16_64).toLoadRect (View.loadsAt_vmem h_S16))
  Prog.lift (.store res (Rect.unit (s := S128) ![64] S16.size inb_S128_S16_64) (shapeCast S16 r1 shapeCasts_S16_S16) Finset.univ (View.stores_vmem_bits_univ h_S16 rfl) (.inl rfl))
  let _ ← Prog.lift (.load res (Rect.unit (s := S128) ![80] S16.size inb_S128_S16_80).toLoadRect (View.loadsAt_vmem h_S16))
  Prog.lift (.store res (Rect.unit (s := S128) ![80] S16.size inb_S128_S16_80) (shapeCast S16 r2 shapeCasts_S16_S16) Finset.univ (View.stores_vmem_bits_univ h_S16 rfl) (.inl rfl))
  SparseCore.waitIndirectGather cc1_scratch7.sem tbl rows1 (View.wordExact_bits rfl) (Memref.isWhole_whole _).wordExact
  let r ← chunk i lane rows1 3 k1_t4_loop k1_t4_ok (fun t => t.2)
  let _ ← Prog.lift (.load res (Rect.unit (s := S128) ![96] S16.size inb_S128_S16_96).toLoadRect (View.loadsAt_vmem h_S16))
  Prog.lift (.store res (Rect.unit (s := S128) ![96] S16.size inb_S128_S16_96) (shapeCast S16 r.1 shapeCasts_S16_S16) Finset.univ (View.stores_vmem_bits_univ h_S16 rfl) (.inl rfl))
  let _ ← Prog.lift (.load res (Rect.unit (s := S128) ![112] S16.size inb_S128_S16_112).toLoadRect (View.loadsAt_vmem h_S16))
  Prog.lift (.store res (Rect.unit (s := S128) ![112] S16.size inb_S128_S16_112) (shapeCast S16 r.2 shapeCasts_S16_S16) Finset.univ (View.stores_vmem_bits_univ h_S16 rfl) (.inl rfl))
  Prog.lift (.enqueueDma res (.here ((outH).slice (Rect.unit (s := S4096) (k1_off259 i) S128.size (k1_off259_inb i)) (fun _ => rfl))) (.dma cc1_scoped1.sem) (Memref.isWhole_whole _).wordExact (View.wordExact_bits rfl) ⟨Or.inl rfl, trivial⟩)
  Prog.lift (.waitDma2 cc1_scoped1.sem res ((outH).slice (Rect.unit (s := S4096) (k1_off259 i) S128.size (k1_off259_inb i)) (fun _ => rfl)) (Memref.isWhole_whole _).wordExact (View.wordExact_bits rfl))
  pure ⟨⟩

/-- The task. -/
def task : Prog (TpuEff nD τ sig (Elt F) Λ₀ (proc i)) PUnit := task₁ i >>= fun z => task₂ i z.1 z.2 >>= fun r => task₃ i z.1 r.1 r.2

set_option maxRecDepth 65536 in
set_option maxHeartbeats 1000000 in
theorem task₁_eq : k1_part161 (F := F) i cents (Memref.isWhole_whole _) codesH (Memref.isWhole_whole _) listH (Memref.isWhole_whole _)
      outH (Memref.isWhole_whole _) list (Memref.isWhole_whole _) rows0 (Memref.isWhole_whole _) rows1 (Memref.isWhole_whole _)
      codes (Memref.isWhole_whole _) res (Memref.isWhole_whole _) perm (Memref.isWhole_whole _)
      cc1_scratch6 cc1_scratch7 cc1_scratch8 cc1_scoped0 cc1_scoped1 = task₁ i := rfl

set_option maxRecDepth 65536 in
set_option maxHeartbeats 1000000 in
theorem task₂_eq (lane : IVec S16 32) (z : V16 F) : k1_part162 (F := F) i cents (Memref.isWhole_whole _) codesH (Memref.isWhole_whole _) listH (Memref.isWhole_whole _)
      outH (Memref.isWhole_whole _) list (Memref.isWhole_whole _) rows0 (Memref.isWhole_whole _) rows1 (Memref.isWhole_whole _)
      codes (Memref.isWhole_whole _) res (Memref.isWhole_whole _) perm (Memref.isWhole_whole _)
      cc1_scratch6 cc1_scratch7 cc1_scratch8 cc1_scoped0 cc1_scoped1 lane z = task₂ i lane z := rfl

set_option maxRecDepth 65536 in
set_option maxHeartbeats 1000000 in
/-- The printed task is this one. -/
theorem task_eq : cc1_dist_kernel (F := F) i cents (Memref.isWhole_whole _) codesH (Memref.isWhole_whole _) listH (Memref.isWhole_whole _)
      outH (Memref.isWhole_whole _) list (Memref.isWhole_whole _) rows0 (Memref.isWhole_whole _) rows1 (Memref.isWhole_whole _)
      codes (Memref.isWhole_whole _) res (Memref.isWhole_whole _) perm (Memref.isWhole_whole _)
      cc1_scratch6 cc1_scratch7 cc1_scratch8 cc1_scoped0 cc1_scoped1 = task i := by
  unfold cc1_dist_kernel
  rw [task₁_eq]
  refine congrArg (task₁ i >>= ·) (funext fun z => ?_)
  obtain ⟨lane, z⟩ := z
  dsimp only
  rw [task₂_eq]
  refine congrArg (task₂ i lane z >>= ·) (funext fun r => ?_)
  rfl
end
end Cert.Proof.Trip
-- ==== Proof.Spec.lean ====
/-
  What a trip computes, as functions of the two buffers it reads: the codes of one row and the centroids of its class, sixteen lanes at a
  time. `distV` is the vector whose lane `t` the trip of row `t` keeps; `resV` is a chunk's result after its first `k` trips.
-/
module

public import proofs.«01_k».proof.Proof.Trip
public import Idealize.ShloMosaic.Lib.Pipeline.Value
public import Idealize.ShloMosaic.Lib.ValueLayout

@[expose] public section

noncomputable section

namespace Cert.Proof.Trip

open Cert.KernelIdeal Cert.KernelIdeal.Gen
open Idealize.ShloMosaic Idealize.SL.Sem Idealize.ShloMosaic.ValueIdx

variable {F : FTy → Type} [FloatOps F]

/-! ## The sixteen lanes of a group -/

/-- Lane group `s` of row `j` of the codes. -/
def cvec (C : S128x256.Idx → F .f32) (j : Fin 128) (s : Fin 16) : V16 F :=
  fun y => C (ix2 j ⟨16 * s.1 + (y 0).1, by have := (y 0).2; have : (y 0).1 < 16 := this; omega⟩)

/-- Lane group `s` of row `r` of the gathered centroids. -/
def xvec (X : S128x2x128.Idx → F .f32) (r : Fin 128) (s : Fin 16) : V16 F :=
  fun y => X (ix3 r ⟨s.1 / 8, by omega⟩ ⟨s.1 % 8 * 16 + (y 0).1, by have := (y 0).2; have : (y 0).1 < 16 := this; omega⟩)

/-- The lanes' running sums of absolute differences over the first `n` groups. -/
def sumTo (a x : Fin 16 → V16 F) : (n : ℕ) → n ≤ 16 → V16 F
  | 0, _ => zero16
  | n + 1, h => acc (sumTo a x n (by omega)) (a ⟨n, h⟩) (x ⟨n, h⟩)

theorem lanes_apply (y : S16.Idx) : lanes y = BitVec.ofNat 32 (y 0).1 := by
  show BitVec.ofNat 32 (0 * 16 + (y 0).1) = _
  rw [Nat.zero_mul, Nat.zero_add]

theorem lanes_ok (j : BitVec 32) (hj : ∀ k : Fin 16, (BitVec.ofNat 32 k.1 ^^^ j).toNat < 16) : Lanes (xori lanes (broadcast S16 j)) := by
  intro a y
  obtain rfl : a = 0 := Subsingleton.elim _ _
  show (lanes y ^^^ j).toNat < 16
  rw [lanes_apply]
  exact hj (y 0)

theorem lanes1 : Lanes (xori lanes (broadcast S16 1#32)) := lanes_ok _ (by decide)
theorem lanes2 : Lanes (xori lanes (broadcast S16 2#32)) := lanes_ok _ (by decide)
theorem lanes4 : Lanes (xori lanes (broadcast S16 4#32)) := lanes_ok _ (by decide)
theorem lanes8 : Lanes (xori lanes (broadcast S16 8#32)) := lanes_ok _ (by decide)

/-- One exchange: each lane adds the lane whose number differs by `j`. -/
def exchV (j : BitVec 32) (h : Lanes (xori lanes (broadcast S16 j))) (x : V16 F) : V16 F :=
  addf x (loadIdx (F := F) (s := S16) (e := .f32) x ![xori lanes (broadcast S16 j)] h : Vec F S16 .f32)

/-- The four exchanges: every lane holds the sum of all sixteen. -/
def lsumV (x : V16 F) : V16 F := exchV 8#32 lanes8 (exchV 4#32 lanes4 (exchV 2#32 lanes2 (exchV 1#32 lanes1 x)))

/-- The smallest of the four centroids' sums. -/
def minV (a : Fin 16 → V16 F) (x : Fin 4 → Fin 16 → V16 F) : V16 F :=
  minimumf (minimumf (minimumf (lsumV (sumTo a (x 0) 16 le_rfl)) (lsumV (sumTo a (x 1) 16 le_rfl)))
    (lsumV (sumTo a (x 2) 16 le_rfl))) (lsumV (sumTo a (x 3) 16 le_rfl))

/-- and a 256th of it. -/
def distV (a : Fin 16 → V16 F) (x : Fin 4 → Fin 16 → V16 F) : V16 F :=
  mulf (minV a x) (broadcast S16 (Scalar.ofBits .f32 0x3B800000#32))

/-- Row `t` of half `h` of a chunk: its row among the 128, -/
def rowOf (b : Fin 4) (h : Fin 2) (t : Fin 16) : Fin 128 := ⟨32 * b.1 + 16 * h.1 + t.1, by omega⟩
/-- and its `c`-th row among the chunk's gathered centroids. -/
def slotOf (h : Fin 2) (t : Fin 16) (c : Fin 4) : Fin 128 := ⟨4 * (16 * h.1 + t.1) + c.1, by omega⟩

/-- The vector the trip of row `t`, half `h`, takes its lane from. -/
def rowV (C : S128x256.Idx → F .f32) (X : S128x2x128.Idx → F .f32) (b : Fin 4) (h : Fin 2) (t : Fin 16) : V16 F :=
  distV (cvec C (rowOf b h t)) (fun c => xvec X (slotOf h t c))

/-- A half chunk's results after `k` trips: the lanes below `k` are done. -/
def resV (C : S128x256.Idx → F .f32) (X : S128x2x128.Idx → F .f32) (b : Fin 4) (h : Fin 2) (k : ℕ) : V16 F :=
  fun y => if (y 0).1 < k then rowV C X b h (y 0) y else zero16 y

theorem resV_zero (C : S128x256.Idx → F .f32) (X : S128x2x128.Idx → F .f32) (b : Fin 4) (h : Fin 2) : resV C X b h 0 = zero16 := by
  funext y; simp [resV]

theorem lane_eq : ∀ t k : Fin 16, IntOp.cmpi .eq (BitVec.ofNat 32 k.1) (Scf.iv 0#32 1#32 t.1) = BitVec.ofBool (decide (k.1 = t.1)) := by
  decide

/-- Choosing by the trip's number changes that lane alone. -/
theorem pick_apply (t : Fin 16) (m r : V16 F) (y : S16.Idx) :
    pick lanes (Scf.iv 0#32 1#32 t.1) m r y = if (y 0).1 = t.1 then mulf m (broadcast S16 (Scalar.ofBits .f32 0x3B800000#32)) y else r y := by
  show (if IntOp.cmpi .eq (lanes y) (Scf.iv 0#32 1#32 t.1) = 1 then _ else _) = _
  rw [lanes_apply, lane_eq t (y 0)]
  by_cases h : (y 0).1 = t.1
  · rw [if_pos h, decide_eq_true h]; rfl
  · rw [if_neg h, decide_eq_false h]; rfl

theorem pick_resV (C : S128x256.Idx → F .f32) (X : S128x2x128.Idx → F .f32) (b : Fin 4) (h : Fin 2) (t : Fin 16) :
    pick lanes (Scf.iv 0#32 1#32 t.1) (minV (cvec C (rowOf b h t)) (fun c => xvec X (slotOf h t c))) (resV C X b h t.1)
      = resV C X b h (t.1 + 1) := by
  funext y
  rw [pick_apply]
  by_cases e : (y 0).1 = t.1
  · rw [if_pos e]
    obtain rfl : y 0 = t := Fin.ext e
    exact (if_pos (Nat.lt_succ_self _)).symm
  · rw [if_neg e]
    unfold resV
    by_cases l : (y 0).1 < t.1
    · rw [if_pos l, if_pos (Nat.lt_succ_of_lt l)]
    · rw [if_neg l, if_neg (by omega)]

/-! ## A load is a lane group -/

theorem cod_eq (C : S128x256.Idx → F .f32) (j : Fin 128) (s : Fin 16) {o : Fin 2 → ℕ} (ho : ∀ a, o a + S1x16.size a ≤ S128x256.size a)
    (e : o = ![j.1, s.1 * 16]) : cod (fun x => C ((Rect.unit (s := S128x256) o S1x16.size ho).emb x)) = cvec C j s := by
  subst e
  funext y
  refine (shapeCast_apply _ _ y (ix2 (0 : Fin 1) (y 0)) ?_).trans ?_
  · rw [Shape.rowMajor_val_two, Shape.rowMajor_val_one]; show 0 * 16 + (y 0).1 = (y 0).1; omega
  · refine congrArg C (funext fun a => Fin.ext ?_)
    match a with
    | 0 => show j.1 + 1 * 0 = j.1; omega
    | 1 => show s.1 * 16 + 1 * (y 0).1 = 16 * s.1 + (y 0).1; omega

theorem cen_eq (X : S128x2x128.Idx → F .f32) (r : Fin 128) (s : Fin 16) {o : Fin 3 → ℕ}
    (ho : ∀ a, o a + S1x1x16.size a ≤ S128x2x128.size a) (e : o = ![r.1, s.1 / 8, s.1 % 8 * 16]) :
    cen (fun x => X ((Rect.unit (s := S128x2x128) o S1x1x16.size ho).emb x)) = xvec X r s := by
  subst e
  funext y
  refine (shapeCast_apply _ _ y (ix3 (0 : Fin 1) (0 : Fin 1) (y 0)) ?_).trans ?_
  · rw [Shape.rowMajor_val_three, Shape.rowMajor_val_one]; show (0 * 1 + 0) * 16 + (y 0).1 = (y 0).1; omega
  · refine congrArg X (funext fun a => Fin.ext ?_)
    match a with
    | 0 => show r.1 + 1 * 0 = r.1; omega
    | 1 => show s.1 / 8 + 1 * 0 = s.1 / 8; omega
    | 2 => show s.1 % 8 * 16 + 1 * (y 0).1 = s.1 % 8 * 16 + (y 0).1; omega

end Cert.Proof.Trip
-- ==== Proof.TripRun.lean ====
/-
  A trip's run: holding the codes, the gathered rows and the exchange scratch, a trip steps to the two vectors that `Spec` names and hands
  the three buffers back. One rule per layer of the trip's program: a load, a lane group, the sixteen groups, an exchange, the four, the trip.
-/
module

public import proofs.«01_k».proof.Proof.Spec

@[expose] public section

noncomputable section

namespace Cert.Proof.Trip

open Cert.KernelIdeal Cert.KernelIdeal.Gen
open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F] {Ix : Type} [DecidableEq Ix] {Name : Type} [DecidableEq Name]
variable {U : Type} [URA U] {Lvl : Type} [Preorder Lvl]

local notation "𝕄" => MT nD τ sig Ix (Elt F) Name U Lvl

local notation "codes" => (Memref.whole Cert.KernelIdeal.cc1_scratch3 : Memref Cert.KernelIdeal.sig Kind.scVector Space.vmem Cert.KernelIdeal.S128x256 EltTy.f32)
local notation "perm" => (Memref.whole Cert.KernelIdeal.cc1_scratch5 : Memref Cert.KernelIdeal.sig Kind.scVector Space.vmem Cert.KernelIdeal.S16 EltTy.f32)

variable (defs : Defs nD τ sig (Elt F) Λ₀) (𝒱 : Variants) (d : Dev nD) (i : grid1.Coords) (bd : Option 𝒱.V) (E : Set Name)

/-- The tile's thread. -/
abbrev thr : Thread nD τ := (d, proc i)

variable {α : Type} {Q : α → sProp (MT nD τ sig Ix (Elt F) Name U Lvl)}

/-- A program of the tile, run to `Q`. -/
abbrev 𝕎 (p : Prog (TpuEff nD τ sig (Elt F) Λ₀ (proc i)) α) (Q : α → sProp 𝕄) : sProp 𝕄 :=
  wp frame (wpE defs 𝒱 (thr d i) bd) E p Q

theorem wp_ldCode (j : Fin 128) (s : Fin 16) {o : Fin 2 → ℕ} {ho : ∀ a, o a + S1x16.size a ≤ S128x256.size a} (e : o = ![j.1, s.1 * 16])
    {k : V16 F → Prog (TpuEff nD τ sig (Elt F) Λ₀ (proc i)) α} {q : PosShare TreeShare}
    {C : Buf (Elt F) ((codes).view.loc (thr d i))} :
    ((codes).view.loc (thr d i) ↦{q} C : sProp 𝕄)
      ⊢ iprop((((codes).view.loc (thr d i) ↦{q} C) -∗ 𝕎 defs 𝒱 d i bd E (k (cvec C j s)) Q) -∗ 𝕎 defs 𝒱 d i bd E (ldCode (p := proc i) codes o ho k) Q) := by
  rw [← cod_eq C j s ho e]
  exact wp_load_rect 𝒱 (thr d i) bd E (m := codes) (r := Rect.unit (s := S128x256) o S1x16.size ho) (k := fun x => k (cod x))
    (Finset.subset_univ _)

variable (R : Memref sig .scVector .vmem S128x2x128 .f32)

theorem wp_ldCent (r : Fin 128) (s : Fin 16) {o : Fin 3 → ℕ} {ho : ∀ a, o a + S1x1x16.size a ≤ S128x2x128.size a}
    (e : o = ![r.1, s.1 / 8, s.1 % 8 * 16])
    {k : V16 F → Prog (TpuEff nD τ sig (Elt F) Λ₀ (proc i)) α} {q : PosShare TreeShare}
    {X : Buf (Elt F) (R.view.loc (thr d i))} :
    (R.view.loc (thr d i) ↦{q} X : sProp 𝕄)
      ⊢ iprop(((R.view.loc (thr d i) ↦{q} X) -∗ 𝕎 defs 𝒱 d i bd E (k (xvec (R.view.read (Elt F) X) r s)) Q) -∗ 𝕎 defs 𝒱 d i bd E (ldCent (p := proc i) R o ho k) Q) := by
  rw [← cen_eq _ r s ho e]
  exact wp_load_rect 𝒱 (thr d i) bd E (m := R) (r := Rect.unit (s := S128x2x128) o S1x1x16.size ho) (k := fun x => k (cen x))
    (Finset.subset_univ _)

/-- What a trip reads: the codes and the gathered rows, at any shares. -/
abbrev held (q q' : PosShare TreeShare) (C : Buf (Elt F) ((codes).view.loc (thr d i))) (X : Buf (Elt F) (R.view.loc (thr d i))) : sProp 𝕄 :=
  iprop(((codes).view.loc (thr d i) ↦{q} C) ∗ (R.view.loc (thr d i) ↦{q'} X))

/-- The running sums before lane group `n` of trip `t` of chunk `b`. -/
abbrev sumsAt (C : S128x256.Idx → F .f32) (X : S128x2x128.Idx → F .f32) (b : Fin 4) (t : Fin 16) (n : ℕ) (hn : n ≤ 16) : Accs F :=
  ⟨fun c => sumTo (cvec C (rowOf b 0 t)) (xvec X (slotOf 0 t c)) n hn, fun c => sumTo (cvec C (rowOf b 1 t)) (xvec X (slotOf 1 t c)) n hn⟩

variable {q q' : PosShare TreeShare} {C : Buf (Elt F) ((codes).view.loc (thr d i))} {X : Buf (Elt F) (R.view.loc (thr d i))}

theorem wp_group (b : Fin 4) (t : Fin 16) (n : ℕ) (hn : n < 16) {k : Accs F → Prog (TpuEff nD τ sig (Elt F) Λ₀ (proc i)) α} :
    (held (Ix := Ix) (Name := Name) (U := U) (Lvl := Lvl) d i R q q' C X)
      ⊢ iprop((held d i R q q' C X -∗ 𝕎 defs 𝒱 d i bd E (k (sumsAt C (R.view.read (Elt F) X) b t (n + 1) hn)) Q)
          -∗ 𝕎 defs 𝒱 d i bd E (group (p := proc i) codes R (inb b t) n hn (sumsAt C (R.view.read (Elt F) X) b t n (by omega)) k) Q) := by
  unfold held group
  iintro ⟨HC, HX⟩ HK
  iapply (wp_ldCode defs 𝒱 d i bd E (rowOf b 0 t) ⟨n, hn⟩ (by rw [codLo_eq]; simp [rowOf])) $$ HC; iintro HC
  iapply (wp_ldCode defs 𝒱 d i bd E (rowOf b 1 t) ⟨n, hn⟩ (by rw [codHi_eq]; simp [rowOf]; omega)) $$ HC; iintro HC
  iapply (wp_ldCent defs 𝒱 d i bd E R (slotOf 0 t 0) ⟨n, hn⟩ ((cenLo_eq 0 t ⟨n, hn⟩ _).trans (by simp [slotOf]))) $$ HX; iintro HX
  iapply (wp_ldCent defs 𝒱 d i bd E R (slotOf 1 t 0) ⟨n, hn⟩ ((cenHi_eq 0 t ⟨n, hn⟩ _).trans (by simp [slotOf]; omega))) $$ HX; iintro HX
  iapply (wp_ldCent defs 𝒱 d i bd E R (slotOf 0 t 1) ⟨n, hn⟩ ((cenLo_eq 1 t ⟨n, hn⟩ _).trans (by simp [slotOf]))) $$ HX; iintro HX
  iapply (wp_ldCent defs 𝒱 d i bd E R (slotOf 1 t 1) ⟨n, hn⟩ ((cenHi_eq 1 t ⟨n, hn⟩ _).trans (by simp [slotOf]; omega))) $$ HX; iintro HX
  iapply (wp_ldCent defs 𝒱 d i bd E R (slotOf 0 t 2) ⟨n, hn⟩ ((cenLo_eq 2 t ⟨n, hn⟩ _).trans (by simp [slotOf]))) $$ HX; iintro HX
  iapply (wp_ldCent defs 𝒱 d i bd E R (slotOf 1 t 2) ⟨n, hn⟩ ((cenHi_eq 2 t ⟨n, hn⟩ _).trans (by simp [slotOf]; omega))) $$ HX; iintro HX
  iapply (wp_ldCent defs 𝒱 d i bd E R (slotOf 0 t 3) ⟨n, hn⟩ ((cenLo_eq 3 t ⟨n, hn⟩ _).trans (by simp [slotOf]))) $$ HX; iintro HX
  iapply (wp_ldCent defs 𝒱 d i bd E R (slotOf 1 t 3) ⟨n, hn⟩ ((cenHi_eq 3 t ⟨n, hn⟩ _).trans (by simp [slotOf]; omega))) $$ HX; iintro HX
  have e : (Accs.mk (F := F) ![acc (sumTo (cvec C (rowOf b 0 t)) (xvec (R.view.read (Elt F) X) (slotOf 0 t 0)) n (by omega)) (cvec C (rowOf b 0 t) ⟨n, hn⟩) (xvec (R.view.read (Elt F) X) (slotOf 0 t 0) ⟨n, hn⟩),
        acc (sumTo (cvec C (rowOf b 0 t)) (xvec (R.view.read (Elt F) X) (slotOf 0 t 1)) n (by omega)) (cvec C (rowOf b 0 t) ⟨n, hn⟩) (xvec (R.view.read (Elt F) X) (slotOf 0 t 1) ⟨n, hn⟩),
        acc (sumTo (cvec C (rowOf b 0 t)) (xvec (R.view.read (Elt F) X) (slotOf 0 t 2)) n (by omega)) (cvec C (rowOf b 0 t) ⟨n, hn⟩) (xvec (R.view.read (Elt F) X) (slotOf 0 t 2) ⟨n, hn⟩),
        acc (sumTo (cvec C (rowOf b 0 t)) (xvec (R.view.read (Elt F) X) (slotOf 0 t 3)) n (by omega)) (cvec C (rowOf b 0 t) ⟨n, hn⟩) (xvec (R.view.read (Elt F) X) (slotOf 0 t 3) ⟨n, hn⟩)]
      ![acc (sumTo (cvec C (rowOf b 1 t)) (xvec (R.view.read (Elt F) X) (slotOf 1 t 0)) n (by omega)) (cvec C (rowOf b 1 t) ⟨n, hn⟩) (xvec (R.view.read (Elt F) X) (slotOf 1 t 0) ⟨n, hn⟩),
        acc (sumTo (cvec C (rowOf b 1 t)) (xvec (R.view.read (Elt F) X) (slotOf 1 t 1)) n (by omega)) (cvec C (rowOf b 1 t) ⟨n, hn⟩) (xvec (R.view.read (Elt F) X) (slotOf 1 t 1) ⟨n, hn⟩),
        acc (sumTo (cvec C (rowOf b 1 t)) (xvec (R.view.read (Elt F) X) (slotOf 1 t 2)) n (by omega)) (cvec C (rowOf b 1 t) ⟨n, hn⟩) (xvec (R.view.read (Elt F) X) (slotOf 1 t 2) ⟨n, hn⟩),
        acc (sumTo (cvec C (rowOf b 1 t)) (xvec (R.view.read (Elt F) X) (slotOf 1 t 3)) n (by omega)) (cvec C (rowOf b 1 t) ⟨n, hn⟩) (xvec (R.view.read (Elt F) X) (slotOf 1 t 3) ⟨n, hn⟩)])
      = sumsAt C (R.view.read (Elt F) X) b t (n + 1) hn := by
    rw [Accs.mk.injEq]
    constructor <;> (funext c; fin_cases c <;> rfl)
  rw [← e]
  iapply HK
  isplitl [HC] <;> iassumption

theorem wp_groups (b : Fin 4) (t : Fin 16) {k : Accs F → Prog (TpuEff nD τ sig (Elt F) Λ₀ (proc i)) α} : (n s : ℕ) → (h : s + n = 16) →
    ((held (Ix := Ix) (Name := Name) (U := U) (Lvl := Lvl) d i R q q' C X)
      ⊢ iprop((held d i R q q' C X -∗ 𝕎 defs 𝒱 d i bd E (k (sumsAt C (R.view.read (Elt F) X) b t 16 le_rfl)) Q)
          -∗ 𝕎 defs 𝒱 d i bd E (groups (p := proc i) codes R (inb b t) n s h (sumsAt C (R.view.read (Elt F) X) b t s (by omega)) k) Q))
  | 0, s, h => by
    obtain rfl : s = 16 := h
    unfold groups
    iintro H HK
    iapply HK $$ H
  | n + 1, s, h => by
    unfold groups
    iintro H HK
    iapply (wp_group defs 𝒱 d i bd E R b t s _) $$ H; iintro H
    iapply (wp_groups b t n (s + 1) _) $$ H; iexact HK

/-- The exchange scratch, whatever it holds. -/
abbrev scr : sProp 𝕄 := iprop(∃ f, (perm).view.loc (thr d i) ↦{fullShare} f)

theorem wp_exch (j : BitVec 32) (hj : Lanes (xori lanes (broadcast S16 j))) (x : V16 F) {k : V16 F → Prog (TpuEff nD τ sig (Elt F) Λ₀ (proc i)) α} :
    (scr (F := F) (Ix := Ix) (Name := Name) (U := U) (Lvl := Lvl) d i)
      ⊢ iprop((scr (F := F) d i -∗ 𝕎 defs 𝒱 d i bd E (k (exchV j hj x)) Q)
          -∗ 𝕎 defs 𝒱 d i bd E (exch (p := proc i) perm lanes j x k) Q) := by
  unfold scr exch
  iintro ⟨%f, H⟩ HK
  iapply (wp_load_rect 𝒱 (thr d i) bd E (m := perm) (r := Rect.unit (s := S16) ![0] S16.size inb_S16_S16_0) (Finset.subset_univ _)) $$ H; iintro H
  iapply (wp_store 𝒱 (thr d i) bd E (m := perm) (r := Rect.unit (s := S16) ![0] S16.size inb_S16_S16_0) (Finset.subset_univ _)) $$ H; iintro H
  iapply (wp_assume 𝒱 (thr d i) bd E hj)
  iapply (wp_load_rect 𝒱 (thr d i) bd E (m := perm) (r := Rect.whole S16) (Finset.subset_univ _)) $$ H; iintro H
  have e : ((perm).access (Rect.whole S16)).read (Elt F) (((perm).access (Rect.unit (s := S16) ![0] S16.size inb_S16_S16_0)).write (Elt F) f
      (shapeCast S16 x shapeCasts_S16_S16) Finset.univ) = x :=
    (Memref.read_access_whole (Elt F) cc1_scratch5 _).trans
      ((Memref.write_access_unit_zero_univ (Elt F) cc1_scratch5 (by funext a; fin_cases a; rfl) inb_S16_S16_0 f _).trans (shapeCast_self x shapeCasts_S16_S16))
  rw [e]
  iapply HK
  iexists _
  iexact H

theorem wp_lsum (x : V16 F) {k : V16 F → Prog (TpuEff nD τ sig (Elt F) Λ₀ (proc i)) α} :
    (scr (F := F) (Ix := Ix) (Name := Name) (U := U) (Lvl := Lvl) d i)
      ⊢ iprop((scr (F := F) d i -∗ 𝕎 defs 𝒱 d i bd E (k (lsumV x)) Q)
          -∗ 𝕎 defs 𝒱 d i bd E (lsum (p := proc i) perm lanes x k) Q) := by
  unfold lsum
  iintro H HK
  iapply (wp_exch defs 𝒱 d i bd E 1#32 lanes1) $$ H; iintro H
  iapply (wp_exch defs 𝒱 d i bd E 2#32 lanes2) $$ H; iintro H
  iapply (wp_exch defs 𝒱 d i bd E 4#32 lanes4) $$ H; iintro H
  iapply (wp_exch defs 𝒱 d i bd E 8#32 lanes8) $$ H
  iexact HK

theorem wp_trip (b : Fin 4) (t : Fin 16) {Q : V16 F × V16 F → sProp (MT nD τ sig Ix (Elt F) Name U Lvl)} :
    (iprop(held (Ix := Ix) (Name := Name) (U := U) (Lvl := Lvl) d i R q q' C X ∗ scr (F := F) d i))
      ⊢ iprop(((held d i R q q' C X ∗ scr (F := F) d i)
            -∗ Q (resV C (R.view.read (Elt F) X) b 0 (t.1 + 1), resV C (R.view.read (Elt F) X) b 1 (t.1 + 1)))
          -∗ 𝕎 defs 𝒱 d i bd E (trip (p := proc i) codes R perm (inb b t) lanes
              (resV C (R.view.read (Elt F) X) b 0 t.1, resV C (R.view.read (Elt F) X) b 1 t.1)) Q) := by
  unfold trip
  iintro ⟨H, P⟩ HK
  iapply (wp_groups defs 𝒱 d i bd E R b t 16 0 rfl) $$ H; iintro H
  iapply (wp_lsum defs 𝒱 d i bd E) $$ P; iintro P
  iapply (wp_lsum defs 𝒱 d i bd E) $$ P; iintro P
  iapply (wp_lsum defs 𝒱 d i bd E) $$ P; iintro P
  iapply (wp_lsum defs 𝒱 d i bd E) $$ P; iintro P
  iapply (wp_lsum defs 𝒱 d i bd E) $$ P; iintro P
  iapply (wp_lsum defs 𝒱 d i bd E) $$ P; iintro P
  iapply (wp_lsum defs 𝒱 d i bd E) $$ P; iintro P
  iapply (wp_lsum defs 𝒱 d i bd E) $$ P; iintro P
  have e0 := pick_resV C (R.view.read (Elt F) X) b 0 t
  have e1 := pick_resV C (R.view.read (Elt F) X) b 1 t
  unfold minV at e0 e1
  unfold 𝕎
  dsimp only [sumsAt]
  rw [e0, e1]
  rw [wp_ret]; imodintro
  iapply HK
  isplitl [H] <;> iassumption

/-- A chunk: its sixteen trips leave both halves' results. -/
theorem wp_chunk (b : Fin 4) (L : Scf.Loop 32) (hL : L.OK) (hn : ∀ t : Fin L.trips, t.1 < 16) (hN : L.trips = 16)
    {k : V16 F × V16 F → Prog (TpuEff nD τ sig (Elt F) Λ₀ (proc i)) α} :
    (iprop(held (Ix := Ix) (Name := Name) (U := U) (Lvl := Lvl) d i R q q' C X ∗ scr (F := F) d i))
      ⊢ iprop(((held d i R q q' C X ∗ scr (F := F) d i)
            -∗ 𝕎 defs 𝒱 d i bd E (k (resV C (R.view.read (Elt F) X) b 0 16, resV C (R.view.read (Elt F) X) b 1 16)) Q)
          -∗ 𝕎 defs 𝒱 d i bd E (chunk i lanes R b L hL hn >>= k) Q) := by
  iintro H HK
  unfold 𝕎 chunk
  iapply (Scf.wp_for_bind frame (wpE defs 𝒱 (thr d i) bd) E L.lb L.ub L.st hL (zero16, zero16) _
    (fun n r => iprop(⌜r = (resV C (R.view.read (Elt F) X) b 0 n, resV C (R.view.read (Elt F) X) b 1 n)⌝
      ∗ held (Ix := Ix) (Name := Name) (U := U) (Lvl := Lvl) d i R q q' C X ∗ scr (F := F) d i)) ?_) $$ [H]
  · iintro %t %r ⟨%e, H⟩
    subst e
    iapply (wp_trip defs 𝒱 d i bd E R b ⟨t.1, hn t⟩) $$ H
    iintro H
    isplitr
    · ipureintro; rfl
    · iexact H
  · isplitr
    · ipureintro; rw [resV_zero, resV_zero]
    · iexact H
  · iintro %r ⟨%e, H⟩
    subst e
    have hN' : Scf.trips L.lb L.ub L.st = 16 := hN
    rw [hN']
    iapply HK $$ H

end Cert.Proof.Trip
-- ==== Proof.Setup.lean ====
/-
  What the two kernels' runs share: the launch configuration and its facts, the resource algebra (the handshakes' rounds, the pipeline's
  rounds and the transfers' counters), and the functions the two results are.
-/
module

public import proofs.«01_k».proof.Proof.TripRun
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.Pipeline.Kit
public import Idealize.ShloMosaic.Lib.Tactic

@[expose] public section

noncomputable section

namespace Cert.Proof.Dist

open Cert.KernelIdeal Cert.KernelIdeal.Gen
open Cert.Proof.Trip
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds, inside the second factor. -/
def EP : Emb UP (MT nD τ sig (HIx 1) (Elt F) ℕ UU ℕ) :=
  (Emb.inl : Emb UP (UP × Counters)).trans embR

instance EP_landsIn : (EP : Emb UP 𝕄).LandsIn (upEmb : UEmb _ 𝕄) := by unfold EP embR; infer_instance

/-! ## The distances as a function of the codes, the table and the list -/

/-- The tile's number: subcore-major, the core inside. -/
def wid (i : grid1.Coords) : Fin 32 := ⟨2 * (i 1).1 + (i 0).1, by have h0 := (i 0).2; have h1 := (i 1).2; change (i 0).1 < 2 at h0; change (i 1).1 < 16 at h1; omega⟩

/-- A table row named by a word. -/
def rowAt (w : BitVec 32) : Fin 32768 := ⟨w.toNat % 32768, Nat.mod_lt _ (by decide)⟩

variable [FloatOps F]

/-- Code `n`'s sixteen blocks of sixteen. -/
def codeV (C : S4096x256.Idx → F .f32) (n : Fin 4096) (s : Fin 16) : V16 F :=
  fun y => C (ix2 n ⟨16 * s.1 + (y 0).1, by have h : (y 0).1 < 16 := (y 0).2; have := s.2; omega⟩)

/-- Row `w` of the table, in sixteen blocks of sixteen. -/
def rowB (T : S32768x2x128.Idx → F .f32) (w : Fin 32768) (s : Fin 16) : V16 F :=
  fun y => T (ix3 w ⟨s.1 / 8, by have := s.2; omega⟩ ⟨s.1 % 8 * 16 + (y 0).1, by have h : (y 0).1 < 16 := (y 0).2; have := s.2; omega⟩)

/-- The smallest distance of each code to its four listed rows. -/
def outV (C : S4096x256.Idx → F .f32) (T : S32768x2x128.Idx → F .f32) (Lc : S16384.Idx → BitVec 32) (x : S4096.Idx) : F .f32 :=
  distV (codeV C (x 0)) (fun c => rowB T (rowAt (Lc (ix1 ⟨4 * (x 0).1 + c.1, by have h : (x 0).1 < 4096 := (x 0).2; have := c.2; omega⟩))))
    (ix1 ⟨(x 0).1 % 16, Nat.mod_lt _ (by decide)⟩)

/-! ## What one tile holds -/

/-- Its part of the list, -/
def tileL (Lc : S16384.Idx → BitVec 32) (w : Fin 32) (x : S512.Idx) : BitVec 32 :=
  Lc (ix1 ⟨512 * w.1 + (x 0).1, by have h : (x 0).1 < 512 := (x 0).2; have := w.2; omega⟩)

/-- of the codes, -/
def tileC (C : S4096x256.Idx → F .f32) (w : Fin 32) (x : S128x256.Idx) : F .f32 :=
  C (ix2 ⟨128 * w.1 + (x 0).1, by have h : (x 0).1 < 128 := (x 0).2; have := w.2; omega⟩ (x 1))

/-- the rows of its chunk `b`, -/
def tileX (T : S32768x2x128.Idx → F .f32) (Lc : S16384.Idx → BitVec 32) (w : Fin 32) (b : Fin 4) (x : S128x2x128.Idx) : F .f32 :=
  T (ix3 (rowAt (tileL Lc w (ix1 ⟨128 * b.1 + (x 0).1, by have h : (x 0).1 < 128 := (x 0).2; have := b.2; omega⟩))) (x 1) (x 2))

/-- and its results. -/
def tileR (C : S4096x256.Idx → F .f32) (T : S32768x2x128.Idx → F .f32) (Lc : S16384.Idx → BitVec 32) (w : Fin 32) (x : S128.Idx) : F .f32 :=
  outV C T Lc (ix1 ⟨128 * w.1 + (x 0).1, by have h : (x 0).1 < 128 := (x 0).2; have := w.2; omega⟩)

/-- A half of a chunk's sums is sixteen of the tile's results. -/
theorem resV_tile (C : S4096x256.Idx → F .f32) (T : S32768x2x128.Idx → F .f32) (Lc : S16384.Idx → BitVec 32) (w : Fin 32) (b : Fin 4) (h : Fin 2) (y : S16.Idx) :
    resV (tileC C w) (tileX T Lc w b) b h 16 y = tileR C T Lc w (ix1 ⟨32 * b.1 + 16 * h.1 + (y 0).1, by
      have := (y 0).2; have := b.2; have := h.2; change (y 0).1 < 16 at *; omega⟩) := by
  have hy : (y 0).1 < 16 := (y 0).2
  obtain ⟨t, rfl⟩ : ∃ t : Fin 16, y = ix1 t := ⟨y 0, funext fun a => match a with | 0 => rfl⟩
  unfold resV rowV tileR outV
  rw [if_pos hy]
  have hw := w.2; have hb := b.2; have hh := h.2; have ht := t.2
  have e1 : cvec (tileC C w) (rowOf b h t) = codeV C ⟨128 * w.1 + (32 * b.1 + 16 * h.1 + t.1), by omega⟩ := by
    funext s z; rfl
  have e2 : (fun c => xvec (tileX T Lc w b) (slotOf h t c)) = fun c : Fin 4 => rowB T (rowAt (Lc (ix1 ⟨4 * (128 * w.1 + (32 * b.1 + 16 * h.1 + t.1)) + c.1, by have := c.2; omega⟩))) := by
    funext c s z
    unfold xvec tileX rowB tileL slotOf
    congr 5
    refine Fin.ext ?_
    change 512 * w.1 + (128 * b.1 + (4 * (16 * h.1 + t.1) + c.1)) = 4 * (128 * w.1 + (32 * b.1 + 16 * h.1 + t.1)) + c.1
    omega
  have e3 : (ix1 t : S16.Idx) = ix1 ⟨(128 * w.1 + (32 * b.1 + 16 * h.1 + t.1)) % 16, Nat.mod_lt _ (by decide)⟩ :=
    congrArg ix1 (Fin.ext (by change t.1 = _ % 16; omega))
  change distV (cvec (tileC C w) (rowOf b h t)) (fun c => xvec (tileX T Lc w b) (slotOf h t c)) (ix1 t) = _
  rw [e1, e2]
  exact congrArg _ e3

end Cert.Proof.Dist

end
-- ==== Proof.Tile.lean ====
/-
  One tile's run of the distance kernel: from its part of the list and the codes, a share of the table and its part of the result, to the
  same with the result at the distances.
-/
module

public import proofs.«01_k».proof.Proof.Setup

@[expose] public section

noncomputable section

namespace Cert.Proof.Dist

open Cert.KernelIdeal Cert.KernelIdeal.Gen
open Cert.Proof.Trip
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Tactic

variable {F : FTy → Type} [FloatOps F]

local notation "𝕄" => MT nD τ sig (HIx 1) (Elt F) ℕ UU ℕ

local notation "cents" => (Memref.whole Cert.KernelIdeal.main_v10_scv : Memref Cert.KernelIdeal.sig Kind.scVector Space.hbm Cert.KernelIdeal.S32768x2x128 EltTy.f32)
local notation "codesH" => (Memref.whole Cert.KernelIdeal.main_arg2_scv : Memref Cert.KernelIdeal.sig Kind.scVector Space.hbm Cert.KernelIdeal.S4096x256 EltTy.f32)
local notation "listH" => (Memref.whole Cert.KernelIdeal.main_v11_scv : Memref Cert.KernelIdeal.sig Kind.scVector Space.hbm Cert.KernelIdeal.S16384 EltTy.i32)
local notation "outH" => (Memref.whole Cert.KernelIdeal.main_v12_scv : Memref Cert.KernelIdeal.sig Kind.scVector Space.hbm Cert.KernelIdeal.S4096 EltTy.f32)
local notation "list" => (Memref.whole Cert.KernelIdeal.cc1_scratch0 : Memref Cert.KernelIdeal.sig Kind.scVector Space.vmem Cert.KernelIdeal.S512 EltTy.i32)
local notation "rows0" => (Memref.whole Cert.KernelIdeal.cc1_scratch1 : Memref Cert.KernelIdeal.sig Kind.scVector Space.vmem Cert.KernelIdeal.S128x2x128 EltTy.f32)
local notation "rows1" => (Memref.whole Cert.KernelIdeal.cc1_scratch2 : Memref Cert.KernelIdeal.sig Kind.scVector Space.vmem Cert.KernelIdeal.S128x2x128 EltTy.f32)
local notation "codes" => (Memref.whole Cert.KernelIdeal.cc1_scratch3 : Memref Cert.KernelIdeal.sig Kind.scVector Space.vmem Cert.KernelIdeal.S128x256 EltTy.f32)
local notation "res" => (Memref.whole Cert.KernelIdeal.cc1_scratch4 : Memref Cert.KernelIdeal.sig Kind.scVector Space.vmem Cert.KernelIdeal.S128 EltTy.f32)
local notation "perm" => (Memref.whole Cert.KernelIdeal.cc1_scratch5 : Memref Cert.KernelIdeal.sig Kind.scVector Space.vmem Cert.KernelIdeal.S16 EltTy.f32)

/-! ## The parts a tile addresses -/

abbrev tLoc (d : Dev nD) : Loc nD τ sig := (SparseCore.T d).loc main_v10
abbrev cLoc (d : Dev nD) : Loc nD τ sig := (SparseCore.T d).loc main_arg2
abbrev lLoc (d : Dev nD) : Loc nD τ sig := (SparseCore.T d).loc main_v11
abbrev oLoc (d : Dev nD) : Loc nD τ sig := (SparseCore.T d).loc main_v12

abbrev lK (i : grid1.Coords) : Memref sig .scVector .hbm S512 .i32 := (listH).slice (Rect.unit (s := S16384) (k1_off1 i) S512.size (k1_off1_inb i)) (fun _ => rfl)
abbrev cK (i : grid1.Coords) : Memref sig .scVector .hbm S128x256 .f32 := (codesH).slice (Rect.unit (s := S4096x256) (k1_off2 i) S128x256.size (k1_off2_inb i)) (fun _ => rfl)
abbrev oK (i : grid1.Coords) : Memref sig .scVector .hbm S128 .f32 := (outH).slice (Rect.unit (s := S4096) (k1_off259 i) S128.size (k1_off259_inb i)) (fun _ => rfl)

abbrev lSet (w : Fin 32) : Finset S16384.Idx := (Rect.part (s := S16384) (a₀ := 0) (show 32 ∣ S16384.size 0 from ⟨512, rfl⟩) w).set
abbrev cSet (w : Fin 32) : Finset S4096x256.Idx := (Rect.part (s := S4096x256) (a₀ := 0) (show 32 ∣ S4096x256.size 0 from ⟨128, rfl⟩) w).set
abbrev oSet (w : Fin 32) : Finset S4096.Idx := (Rect.part (s := S4096) (a₀ := 0) (show 32 ∣ S4096.size 0 from ⟨128, rfl⟩) w).set

omit [FloatOps F] in
theorem lK_set (i : grid1.Coords) : (lK i).view.set = lSet (wid i) := by
  show ((View.whole (main_v11_scv : Ref sig .scVector)).slice _).set = _
  rw [View.set_slice]
  refine Finset.map_refl.trans (congrArg (fun r : Rect _ => r.set) ?_)
  unfold Rect.part Rect.block
  congr 1 <;> funext a
  · rw [k1_off1_eq]
    match a with
    | 0 => simp [Shape.partIx, Shape.partSize, wid]; omega
  · match a with
    | 0 => simp [Shape.partSize]

omit [FloatOps F] in
theorem cK_set (i : grid1.Coords) : (cK i).view.set = cSet (wid i) := by
  show ((View.whole (main_arg2_scv : Ref sig .scVector)).slice _).set = _
  rw [View.set_slice]
  refine Finset.map_refl.trans (congrArg (fun r : Rect _ => r.set) ?_)
  unfold Rect.part Rect.block
  congr 1 <;> funext a
  · rw [k1_off2_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem oK_set (i : grid1.Coords) : (oK i).view.set = oSet (wid i) := by
  show ((View.whole (main_v12_scv : Ref sig .scVector)).slice _).set = _
  rw [View.set_slice]
  refine Finset.map_refl.trans (congrArg (fun r : Rect _ => r.set) ?_)
  unfold Rect.part Rect.block
  congr 1 <;> funext a
  · rw [k1_off259_eq]
    match a with
    | 0 => simp [Shape.partIx, Shape.partSize, wid]; omega
  · match a with
    | 0 => simp [Shape.partSize]

variable (d : Dev nD) (i : grid1.Coords)

/-- What the list fetch lands. -/
theorem lK_read (Lc : Buf (Elt F) (lLoc d)) : (lK i).view.read (Elt F) Lc = tileL Lc (wid i) := by
  funext x
  refine (View.read_apply _ _).trans ((cast_eq _ _).trans (congrArg Lc ?_))
  funext a
  match a with
  | 0 =>
    refine Fin.ext ?_
    change k1_off1 i 0 + 1 * (x 0).1 = 512 * (2 * (i 1).1 + (i 0).1) + (x 0).1
    rw [k1_off1_eq]; simp; omega

/-- What the codes' fetch lands. -/
theorem cK_read (C : Buf (Elt F) (cLoc d)) : (cK i).view.read (Elt F) C = tileC C (wid i) := by
  funext x
  refine (View.read_apply _ _).trans ((cast_eq _ _).trans (congrArg C ?_))
  funext a
  match a with
  | 0 =>
    refine Fin.ext ?_
    change k1_off2 i 0 + 1 * (x 0).1 = 128 * (2 * (i 1).1 + (i 0).1) + (x 0).1
    rw [k1_off2_eq]; simp; omega
  | 1 =>
    refine Fin.ext ?_
    change k1_off2 i 1 + 1 * (x 1).1 = (x 1).1
    rw [k1_off2_eq]; simp

/-- Where the write-out's element `x` goes. -/
theorem oK_emb (x : S128.Idx) : (oK i).view.emb x = ix1 ⟨128 * (wid i).1 + (x 0).1, by have h : (x 0).1 < 128 := (x 0).2; have := (wid i).2; omega⟩ := by
  funext a
  match a with
  | 0 =>
    refine Fin.ext ?_
    change k1_off259 i 0 + 1 * (x 0).1 = 128 * (2 * (i 1).1 + (i 0).1) + (x 0).1
    rw [k1_off259_eq]; simp; omega

/-! ## The gather's rows -/

/-- Window `b` of the list scratch. -/
abbrev win (b : Fin 4) (ho : ∀ a, (![128 * b.1] : Fin 1 → ℕ) a + S128.size a ≤ S512.size a) : Memref sig .scVector .vmem S128 .i32 :=
  (list).slice (Rect.unit (s := S512) ![128 * b.1] S128.size ho) (fun _ => rfl)

theorem win_read (b : Fin 4) (ho : ∀ a, (![128 * b.1] : Fin 1 → ℕ) a + S128.size a ≤ S512.size a) (Lw : S512.Idx → BitVec 32) (x : S128.Idx) :
    (win b ho).view.read (Elt F) (Lw : Buf (Elt F) ((win b ho).view.loc (thr d i))) x
      = Lw (ix1 ⟨128 * b.1 + (x 0).1, by have h : (x 0).1 < 128 := (x 0).2; have := b.2; omega⟩) := by
  refine (View.read_apply _ _).trans ((cast_eq _ _).trans (congrArg Lw ?_))
  funext a
  match a with
  | 0 =>
    refine Fin.ext ?_
    change 128 * b.1 + 1 * (x 0).1 = 128 * b.1 + (x 0).1
    omega

/-- The list's words name table rows. -/
def Rows (Lc : S16384.Idx → BitVec 32) : Prop := ∀ x, (Lc x).toNat < 32768

theorem win_rows (b : Fin 4) (ho : ∀ a, (![128 * b.1] : Fin 1 → ℕ) a + S128.size a ≤ S512.size a) {Lc : S16384.Idx → BitVec 32} (h : Rows Lc) (x : S128.Idx) :
    ((win b ho).view.read (Elt F) (tileL Lc (wid i) : Buf (Elt F) ((win b ho).view.loc (thr d i))) x).toNat
      < S32768x2x128.size gathers_S32768x2x128_S128x2x128.axis := by
  rw [win_read]; exact h _

/-- The rows the gather over window `b` brings. -/
theorem gathered (b : Fin 4) (ho : ∀ a, (![128 * b.1] : Fin 1 → ℕ) a + S128.size a ≤ S512.size a) {Lc : S16384.Idx → BitVec 32} (h : Rows Lc)
    (Tb : S32768x2x128.Idx → F .f32) :
    SparseCore.gatherPayload gathers_S32768x2x128_S128x2x128 ((tbl).view.read (Elt F) (Tb : Buf (Elt F) ((tbl).view.loc (thr d i))))
        (SparseCore.rows ((win b ho).view.read (Elt F) (tileL Lc (wid i) : Buf (Elt F) ((win b ho).view.loc (thr d i)))) rfl (win_rows i b ho h))
      = tileX Tb Lc (wid i) b := by
  funext x
  unfold SparseCore.gatherPayload tileX
  refine (View.read_apply _ _).trans ((cast_eq _ _).trans (congrArg Tb ?_))
  funext a
  match a with
  | 0 =>
    refine Fin.ext ?_
    have e : S128.rowMajor.symm ((x 0).cast (show S128x2x128.size 0 = S128.numel from rfl)) = ix1 (n := 128) (x 0) := by
      rw [Equiv.symm_apply_eq]
      refine Fin.ext ?_
      change (x 0).1 = (S128.rowMajor (ix1 (n := 128) (x 0))).1
      rw [Shape.rowMajor_val_one]
    change 0 + 1 * ((win b ho).view.read (Elt F) (tileL Lc (wid i))
      (S128.rowMajor.symm ((x 0).cast (show S128x2x128.size 0 = S128.numel from rfl)))).toNat = _
    rw [e, win_read]
    have hr := h (ix1 ⟨512 * (wid i).1 + (128 * b.1 + (x 0).1), by have h : (x 0).1 < 128 := (x 0).2; have := b.2; have := (wid i).2; omega⟩)
    change 0 + 1 * (Lc _).toNat = (Lc _).toNat % 32768
    rw [Nat.mod_eq_of_lt]
    · exact (Nat.zero_add _).trans (Nat.one_mul _)
    · exact hr
  | 1 =>
    refine Fin.ext ?_
    change 0 + 1 * (Shape.Gathers.idx gathers_S32768x2x128_S128x2x128 _ x 1).1 = (x 1).1
    unfold Shape.Gathers.idx
    rw [dif_neg (by decide)]
    change 0 + 1 * (x 1).1 = (x 1).1
    omega
  | 2 =>
    refine Fin.ext ?_
    change 0 + 1 * (Shape.Gathers.idx gathers_S32768x2x128_S128x2x128 _ x 2).1 = (x 2).1
    unfold Shape.Gathers.idx
    rw [dif_neg (by decide)]
    change 0 + 1 * (x 2).1 = (x 2).1
    omega

/-! ## The tile's own buffers and semaphores -/

abbrev cell (d : Dev nD) (i : grid1.Coords) (s : DmaSem sig) : GSem nD τ sig := (thr d i, .dma s)

/-- A subcore's own cells: those of a list of distinct scoped transfers' semaphores, and the rest. -/
theorem ownSems_peel (s : DmaSem sig) (S : Finset (GSem nD τ sig)) (h : cell d i s ∈ S) :
    (bigSep S fun g => semVal g 0 : sProp 𝕄) = iprop(semVal (cell d i s) 0 ∗ bigSep (S.erase (cell d i s)) fun g => semVal g 0) :=
  SparseCore.bigSep_erase' h

theorem cell_ne {s t : DmaSem sig} (h : s ≠ t) : cell d i s ≠ cell d i t := fun e => h (by
  have := congrArg Prod.snd e; exact SemLoc.dma.inj this)

theorem cell_own (s : DmaSem sig) (h : (SemLoc.dma s : SemLoc sig).isScoped .scVector = true) : cell d i s ∈ ownCells (thr d i) :=
  mem_ownCells.mpr ⟨rfl, h⟩

abbrev cells5 : Finset (GSem nD τ sig) :=
  (((((ownCells (thr d i)).erase (cell d i cc1_scratch6.sem)).erase (cell d i cc1_scratch7.sem)).erase (cell d i cc1_scratch8.sem)).erase
    (cell d i cc1_scoped0.sem)).erase (cell d i cc1_scoped1.sem)

theorem ownSems_tile :
    (ownSems0 (thr d i) : sProp 𝕄)
      = iprop(semVal (cell d i cc1_scratch6.sem) 0 ∗ semVal (cell d i cc1_scratch7.sem) 0 ∗ semVal (cell d i cc1_scratch8.sem) 0
          ∗ semVal (cell d i cc1_scoped0.sem) 0 ∗ semVal (cell d i cc1_scoped1.sem) 0 ∗ bigSep (cells5 d i) fun g => semVal g 0) := by
  unfold SparseCore.Cfg.ownSems0
  rw [ownSems_peel d i cc1_scratch6.sem _ (cell_own d i _ (by decide)),
    ownSems_peel d i cc1_scratch7.sem _ (Finset.mem_erase.mpr ⟨cell_ne d i (by decide), cell_own d i _ (by decide)⟩),
    ownSems_peel d i cc1_scratch8.sem _ (Finset.mem_erase.mpr ⟨cell_ne d i (by decide), Finset.mem_erase.mpr ⟨cell_ne d i (by decide), cell_own d i _ (by decide)⟩⟩),
    ownSems_peel d i cc1_scoped0.sem _ (Finset.mem_erase.mpr ⟨cell_ne d i (by decide), Finset.mem_erase.mpr ⟨cell_ne d i (by decide),
      Finset.mem_erase.mpr ⟨cell_ne d i (by decide), cell_own d i _ (by decide)⟩⟩⟩),
    ownSems_peel d i cc1_scoped1.sem _ (Finset.mem_erase.mpr ⟨cell_ne d i (by decide), Finset.mem_erase.mpr ⟨cell_ne d i (by decide),
      Finset.mem_erase.mpr ⟨cell_ne d i (by decide), Finset.mem_erase.mpr ⟨cell_ne d i (by decide), cell_own d i _ (by decide)⟩⟩⟩⟩)]

abbrev own (b : Ref sig .scVector) : DevRef τ sig := (proc i).devRef b

theorem own_ne {b b' : Ref sig .scVector} (h : b ≠ b') : own i b ≠ own i b' := fun e => h (Proc.devRef_injective _ e)

theorem bufs_peel (b : Ref sig .scVector) (S : Finset (DevRef τ sig)) (h : own i b ∈ S) :
    (bigSep S fun b => iprop(∃ f, ((d, b) : Loc nD τ sig) ↦{fullShare} f) : sProp 𝕄)
      = iprop((∃ f, (thr d i).loc b ↦{fullShare} f) ∗ bigSep (S.erase (own i b)) fun b => iprop(∃ f, ((d, b) : Loc nD τ sig) ↦{fullShare} f)) :=
  SparseCore.bigSep_erase' h

abbrev refs6 : Finset (DevRef τ sig) :=
  ((((((ownRefs (τ := τ) (proc i)).erase (own i cc1_scratch0)).erase (own i cc1_scratch1)).erase (own i cc1_scratch2)).erase (own i cc1_scratch3)).erase
    (own i cc1_scratch4)).erase (own i cc1_scratch5)

theorem own_mem (b : Ref sig .scVector) (h : (own i b).owner = .proc (proc i)) : own i b ∈ ownRefs (τ := τ) (proc i) :=
  SparseCore.Cfg.mem_ownRefs_of_owner (p := proc i) (b := own i b) h

theorem ownBufs_tile :
    (ownBufs (thr d i) : sProp 𝕄)
      = iprop((∃ f, (thr d i).loc cc1_scratch0 ↦{fullShare} f) ∗ (∃ f, (thr d i).loc cc1_scratch1 ↦{fullShare} f)
          ∗ (∃ f, (thr d i).loc cc1_scratch2 ↦{fullShare} f) ∗ (∃ f, (thr d i).loc cc1_scratch3 ↦{fullShare} f)
          ∗ (∃ f, (thr d i).loc cc1_scratch4 ↦{fullShare} f) ∗ (∃ f, (thr d i).loc cc1_scratch5 ↦{fullShare} f)
          ∗ bigSep (refs6 i) fun b => iprop(∃ f, ((d, b) : Loc nD τ sig) ↦{fullShare} f)) := by
  unfold SparseCore.Cfg.ownBufs
  have m0 := own_mem i cc1_scratch0 rfl
  have m1 := Finset.mem_erase.mpr ⟨own_ne i (show cc1_scratch1 ≠ cc1_scratch0 by decide), own_mem i cc1_scratch1 rfl⟩
  have m2 := Finset.mem_erase.mpr ⟨own_ne i (show cc1_scratch2 ≠ cc1_scratch1 by decide), Finset.mem_erase.mpr ⟨own_ne i (show cc1_scratch2 ≠ cc1_scratch0 by decide),
    own_mem i cc1_scratch2 rfl⟩⟩
  have m3 := Finset.mem_erase.mpr ⟨own_ne i (show cc1_scratch3 ≠ cc1_scratch2 by decide), Finset.mem_erase.mpr ⟨own_ne i (show cc1_scratch3 ≠ cc1_scratch1 by decide),
    Finset.mem_erase.mpr ⟨own_ne i (show cc1_scratch3 ≠ cc1_scratch0 by decide), own_mem i cc1_scratch3 rfl⟩⟩⟩
  have m4 := Finset.mem_erase.mpr ⟨own_ne i (show cc1_scratch4 ≠ cc1_scratch3 by decide), Finset.mem_erase.mpr ⟨own_ne i (show cc1_scratch4 ≠ cc1_scratch2 by decide),
    Finset.mem_erase.mpr ⟨own_ne i (show cc1_scratch4 ≠ cc1_scratch1 by decide), Finset.mem_erase.mpr ⟨own_ne i (show cc1_scratch4 ≠ cc1_scratch0 by decide),
    own_mem i cc1_scratch4 rfl⟩⟩⟩⟩
  have m5 := Finset.mem_erase.mpr ⟨own_ne i (show cc1_scratch5 ≠ cc1_scratch4 by decide), Finset.mem_erase.mpr ⟨own_ne i (show cc1_scratch5 ≠ cc1_scratch3 by decide),
    Finset.mem_erase.mpr ⟨own_ne i (show cc1_scratch5 ≠ cc1_scratch2 by decide), Finset.mem_erase.mpr ⟨own_ne i (show cc1_scratch5 ≠ cc1_scratch1 by decide),
    Finset.mem_erase.mpr ⟨own_ne i (show cc1_scratch5 ≠ cc1_scratch0 by decide), own_mem i cc1_scratch5 rfl⟩⟩⟩⟩⟩
  exact (bufs_peel d i cc1_scratch0 _ m0).trans (congrArg _ ((bufs_peel d i cc1_scratch1 _ m1).trans (congrArg _ ((bufs_peel d i cc1_scratch2 _ m2).trans
    (congrArg _ ((bufs_peel d i cc1_scratch3 _ m3).trans (congrArg _ ((bufs_peel d i cc1_scratch4 _ m4).trans (congrArg _ (bufs_peel d i cc1_scratch5 _ m5))))))))))

end Cert.Proof.Dist

end
-- ==== Proof.TileRun.lean ====
/-
  One tile's run of the distance kernel, from start to end.
-/
module

public import proofs.«01_k».proof.Proof.Tile

@[expose] public section

noncomputable section

namespace Cert.Proof.Dist

open Cert.KernelIdeal Cert.KernelIdeal.Gen
open Cert.Proof.Trip
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Tactic

variable {F : FTy → Type} [FloatOps F]

local notation "𝕄" => MT nD τ sig (HIx 1) (Elt F) ℕ UU ℕ

local notation "cents" => (Memref.whole Cert.KernelIdeal.main_v10_scv : Memref Cert.KernelIdeal.sig Kind.scVector Space.hbm Cert.KernelIdeal.S32768x2x128 EltTy.f32)
local notation "codesH" => (Memref.whole Cert.KernelIdeal.main_arg2_scv : Memref Cert.KernelIdeal.sig Kind.scVector Space.hbm Cert.KernelIdeal.S4096x256 EltTy.f32)
local notation "listH" => (Memref.whole Cert.KernelIdeal.main_v11_scv : Memref Cert.KernelIdeal.sig Kind.scVector Space.hbm Cert.KernelIdeal.S16384 EltTy.i32)
local notation "outH" => (Memref.whole Cert.KernelIdeal.main_v12_scv : Memref Cert.KernelIdeal.sig Kind.scVector Space.hbm Cert.KernelIdeal.S4096 EltTy.f32)
local notation "list" => (Memref.whole Cert.KernelIdeal.cc1_scratch0 : Memref Cert.KernelIdeal.sig Kind.scVector Space.vmem Cert.KernelIdeal.S512 EltTy.i32)
local notation "rows0" => (Memref.whole Cert.KernelIdeal.cc1_scratch1 : Memref Cert.KernelIdeal.sig Kind.scVector Space.vmem Cert.KernelIdeal.S128x2x128 EltTy.f32)
local notation "rows1" => (Memref.whole Cert.KernelIdeal.cc1_scratch2 : Memref Cert.KernelIdeal.sig Kind.scVector Space.vmem Cert.KernelIdeal.S128x2x128 EltTy.f32)
local notation "codes" => (Memref.whole Cert.KernelIdeal.cc1_scratch3 : Memref Cert.KernelIdeal.sig Kind.scVector Space.vmem Cert.KernelIdeal.S128x256 EltTy.f32)
local notation "res" => (Memref.whole Cert.KernelIdeal.cc1_scratch4 : Memref Cert.KernelIdeal.sig Kind.scVector Space.vmem Cert.KernelIdeal.S128 EltTy.f32)
local notation "perm" => (Memref.whole Cert.KernelIdeal.cc1_scratch5 : Memref Cert.KernelIdeal.sig Kind.scVector Space.vmem Cert.KernelIdeal.S16 EltTy.f32)

variable (d : Dev nD) (i : grid1.Coords)

/-- The rows' transfers together credit what the whole buffer's would. -/
theorem credit0 : ∑ j, ((rows0).slice (S128x2x128.rowRect gathers_S32768x2x128_S128x2x128.axis' j) (S128x2x128.stride_rowRect gathers_S32768x2x128_S128x2x128.axis' j)).view.dmaCredit
    = (rows0).view.dmaCredit := by decide +kernel
theorem credit1 : ∑ j, ((rows1).slice (S128x2x128.rowRect gathers_S32768x2x128_S128x2x128.axis' j) (S128x2x128.stride_rowRect gathers_S32768x2x128_S128x2x128.axis' j)).view.dmaCredit
    = (rows1).view.dmaCredit := by decide +kernel

variable {α : Type} {Q : α → sProp (MT nD τ sig (HIx 1) (Elt F) ℕ UU ℕ)}

/-- What a gather in flight will bring. -/
abbrev Brings (R : Memref sig .scVector .vmem S128x2x128 .f32) (q : PosShare TreeShare) (Tb : Buf (Elt F) (tLoc d)) (Lc : S16384.Idx → BitVec 32) (b : Fin 4) : sProp 𝕄 :=
  iprop((∃ X : Buf (Elt F) (R.view.loc (thr d i)), ⌜R.view.read (Elt F) X = tileX Tb Lc (wid i) b⌝ ∗ R.view.loc (thr d i) ↦{fullShare} X)
    ∗ (tLoc d ↦{q} Tb) ∗ (list).view.loc (thr d i) ↦{fullShare} tileL Lc (wid i))

/-- A gather's start. -/
theorem wp_gather (R : Memref sig .scVector .vmem S128x2x128 .f32) {N : ℕ}
    (hN : ∑ j, (R.slice (S128x2x128.rowRect gathers_S32768x2x128_S128x2x128.axis' j) (S128x2x128.stride_rowRect gathers_S32768x2x128_S128x2x128.axis' j)).view.dmaCredit = N)
    (b : Fin 4) {o : Fin 1 → ℕ} (e : o = ![128 * b.1]) {ho : ∀ a, o a + S128.size a ≤ S512.size a} {Lc : S16384.Idx → BitVec 32} (h : Rows Lc)
    {hn : S128.numel = S128x2x128.size gathers_S32768x2x128_S128x2x128.axis'} {sem : DmaSem sig} {hp : (proc i).kind = .scVector} {hsrc : (tbl).view.WordExact}
    {he : EltTy.f32.bits = 32} {hsp : Space.hbm = .hbm ∨ Space.hbm = .shared} {hr : S32768x2x128.StreamRows 0}
    {k : PUnit → Prog (TpuEff nD τ sig (Elt F) Λ₀ (proc i)) α} {q : PosShare TreeShare} {Tb : Buf (Elt F) (tLoc d)} {X : Buf (Elt F) (R.view.loc (thr d i))} :
    iprop((tLoc d ↦{q} Tb) ∗ (R.view.loc (thr d i) ↦{fullShare} X) ∗ ((list).view.loc (thr d i) ↦{fullShare} tileL Lc (wid i)) ∗ semVal (cell d i sem) 0)
      ⊢ iprop((Transfers.Flight countersEmb (thr d i) (.dma sem) (default : HIx 1) N (Brings (F := F) d i R q Tb Lc b) -∗ 𝕎 defs₀ 𝒱₀ d i none Set.univ (k ⟨⟩) Q)
          -∗ 𝕎 defs₀ 𝒱₀ d i none Set.univ (SparseCore.enqueueIndirectGather hp tbl R gathers_S32768x2x128_S128x2x128
            ((list).slice (Rect.unit (s := S512) o S128.size ho) (fun _ => rfl)) hn sem hsrc he hsp hr >>= k) Q) := by
  subst e
  iintro ⟨HT, HR, HL, Hs⟩ Hk
  iapply (SparseCore.wp_gatherFromWhole countersEmb 𝒱₀ (thr d i) none (default : HIx 1) N hN (by decide) (win_rows i b ho h)) $$ [HT HR HL Hs]
  · isplitl [HT]; · iexact HT
    isplitl [HR]; · iexact HR
    isplitl [HL]; · iexact HL
    iexact Hs
  iintro Hf
  iapply Hk
  iapply (Transfers.Flight_mono countersEmb (thr d i) (D' := Brings (F := F) d i R q Tb Lc b) ?_) $$ Hf
  iintro ⟨HR, HT, HL⟩
  isplitl [HR]
  · iexists _
    isplitr; swap
    · iexact HR
    ipureintro
    rw [View.read_write_univ, gathered i b ho h]
  isplitl [HT]; · iexact HT
  iexact HL

/-- A gather's wait: the rows are in, the table's share and the list's buffer are back. -/
theorem wp_await (R : Memref sig .scVector .vmem S128x2x128 .f32) (b : Fin 4) {Lc : S16384.Idx → BitVec 32} {sem : DmaSem sig}
    {hs : (tbl).view.WordExact} {hd : R.view.WordExact} {k : PUnit → Prog (TpuEff nD τ sig (Elt F) Λ₀ (proc i)) α} {q : PosShare TreeShare}
    {Tb : Buf (Elt F) (tLoc d)} {O : CellTallies nD τ sig (HIx 1)} {W : Waits sig (HIx 1)} :
    iprop(Transfers.Flight countersEmb (thr d i) (.dma sem) (default : HIx 1) R.view.dmaCredit (Brings (F := F) d i R q Tb Lc b) ∗ owes (thr d i) O W
        ∗ Transfers.MayWaits (thr d i) (default : HIx 1) O)
      ⊢ iprop((Brings (F := F) d i R q Tb Lc b ∗ semVal (cell d i sem) 0 ∗ owes (thr d i) O (insert (SemLoc.dma sem, default) W)
            -∗ 𝕎 defs₀ 𝒱₀ d i none Set.univ (k ⟨⟩) Q)
          -∗ 𝕎 defs₀ 𝒱₀ d i none Set.univ (SparseCore.waitIndirectGather sem tbl R hs hd >>= k) Q) := by
  iintro ⟨Hf, HO, Hm⟩
  iapply (Transfers.wp_waitLocalO countersEmb 𝒱₀ (thr d i) none (default : HIx 1) (rfl : R.view.dmaCredit = _)) $$ [Hf HO Hm]
  isplitl [Hf]; · iexact Hf
  isplitl [HO]; · iexact HO
  iapply (Transfers.MayWaits.elim (SemLoc.dma sem)) $$ Hm

/-- The tile's codes in their scratch. -/
abbrev codesAt (C : Buf (Elt F) (cLoc d)) : sProp 𝕄 := (codes).view.loc (thr d i) ↦{fullShare} (tileC C (wid i) : S128x256.Idx → F .f32)

/-- A chunk over the tile's codes and the rows a gather brought. -/
theorem wp_tileChunk (R : Memref sig .scVector .vmem S128x2x128 .f32) (b : Fin 4) {Lc : S16384.Idx → BitVec 32} {C : Buf (Elt F) (cLoc d)} {Tb : Buf (Elt F) (tLoc d)}
    (L : Scf.Loop 32) (hL : L.OK) (hn : ∀ t : Fin L.trips, t.1 < 16) (hN : L.trips = 16)
    {k : V16 F × V16 F → Prog (TpuEff nD τ sig (Elt F) Λ₀ (proc i)) α} {X : Buf (Elt F) (R.view.loc (thr d i))} (hX : R.view.read (Elt F) X = tileX Tb Lc (wid i) b) :
    iprop(codesAt (F := F) d i C ∗ (R.view.loc (thr d i) ↦{fullShare} X) ∗ ∃ f, (perm).view.loc (thr d i) ↦{fullShare} f)
      ⊢ iprop((codesAt (F := F) d i C ∗ (R.view.loc (thr d i) ↦{fullShare} X) ∗ (∃ f, (perm).view.loc (thr d i) ↦{fullShare} f)
            -∗ 𝕎 defs₀ 𝒱₀ d i none Set.univ (k (resV (tileC C (wid i)) (tileX Tb Lc (wid i) b) b 0 16, resV (tileC C (wid i)) (tileX Tb Lc (wid i) b) b 1 16)) Q)
          -∗ 𝕎 defs₀ 𝒱₀ d i none Set.univ (chunk i lanes R b L hL hn >>= k) Q) := by
  rw [← hX]
  iintro ⟨HC, HX, Hp⟩ Hk
  iapply (wp_chunk (F := F) defs₀ 𝒱₀ d i none Set.univ R b L hL hn hN (q := fullShare) (q' := fullShare) (C := tileC C (wid i)) (X := X)) $$ [HC HX Hp]
  · isplitr [Hp]
    · isplitl [HC]; · iexact HC
      iexact HX
    iexact Hp
  iintro ⟨⟨HC, HX⟩, Hp⟩
  iapply Hk
  isplitl [HC]; · iexact HC
  isplitl [HX]; · iexact HX
  iexact Hp

/-- The tile's operands. -/
abbrev ops (q : PosShare TreeShare) (Lc : Buf (Elt F) (lLoc d)) (C : Buf (Elt F) (cLoc d)) (Tb : Buf (Elt F) (tLoc d)) (O : Buf (Elt F) (oLoc d)) : sProp 𝕄 :=
  iprop((lLoc d ↦[lSet (wid i)]{fullShare} Lc) ∗ (cLoc d ↦[cSet (wid i)]{fullShare} C) ∗ (tLoc d ↦{q} Tb) ∗ oLoc d ↦[oSet (wid i)]{fullShare} O)

/-- A stored half of a chunk's sums is the tile's results where it is stored. -/
theorem piece_tile (C : S4096x256.Idx → F .f32) (T : S32768x2x128.Idx → F .f32) (Lc : S16384.Idx → BitVec 32) (w : Fin 32) (b : Fin 4) (h : Fin 2) {o : Fin 1 → ℕ}
    {ho : ∀ a, o a + S16.size a ≤ S128.size a} (e : o 0 = 32 * b.1 + 16 * h.1) (x : S16.Idx) :
    shapeCast S16 (resV (tileC C w) (tileX T Lc w b) b h 16) shapeCasts_S16_S16 x = tileR C T Lc w ((Rect.unit (s := S128) o S16.size ho).emb x) := by
  rw [show shapeCast S16 (resV (tileC C w) (tileX T Lc w b) b h 16) shapeCasts_S16_S16 x = resV (tileC C w) (tileX T Lc w b) b h 16 x by
    unfold shapeCast; congr 1; exact Shape.reshapeEquiv_self _ x, resV_tile]
  congr 1
  funext a
  obtain rfl : a = 0 := Subsingleton.elim _ _
  refine Fin.ext ?_
  change 32 * b.1 + 16 * h.1 + (x 0).1 = o 0 + 1 * (x 0).1
  omega

/-- Equal contents, equally held. -/
theorem pts_eq (ℓ : Loc nD τ sig) (f g : Buf (Elt F) ℓ) (h : f = g) : (ℓ ↦{fullShare} f : sProp 𝕄) ⊢ ℓ ↦{fullShare} g := by rw [h]

set_option maxHeartbeats 4000000 in
/-- The task: the list and codes fetched, four gathers each waited for before the next is started, four loops, eight stores, the write-out. -/
theorem tile_body (hF : (K (F := F)).Facts) (q : PosShare TreeShare) (Lc : Buf (Elt F) (lLoc d)) (C : Buf (Elt F) (cLoc d)) (Tb : Buf (Elt F) (tLoc d)) (O0 : Buf (Elt F) (oLoc d))
    (hL : Rows Lc) (O : CellTallies nD τ sig (HIx 1)) (W : Waits sig (HIx 1)) (hO : ∀ g, O g none = 0) :
    iprop(levAts (K (F := F)).L (K (F := F)).lev ∗ emp ∗ ops (F := F) d i q Lc C Tb O0
        ∗ scopedBufs (thr d i) ∗ scopedSems0 (thr d i) ∗ owes (thr d i) O W)
      ⊢ wp frame (wpE (defs₀ (F := F)) 𝒱₀ (thr d i) none) Set.univ (task i)
          fun _ => iprop(ops (F := F) d i q Lc C Tb (outV C Tb Lc) ∗ scopedBufs (thr d i) ∗ scopedSems0 (thr d i)
            ∗ ∃ W', ⌜∀ p ∈ W', p ∈ W ∨ p.2 = none⌝ ∗ owes (thr d i) O W') := by
  obtain ⟨p, hp⟩ : ∃ p, p = task (F := F) i := ⟨_, rfl⟩
  rw [← hp]
  simp only [task, task₁, task₂, task₃, bind_assoc, pure_bind] at hp
  subst hp
  have hmw : levAts (K (F := F)).L (K (F := F)).lev ⊢ (Transfers.MayWaits (thr d i) (default : HIx 1) O : sProp 𝕄) := (K (F := F)).mayWaits_none (thr := thr d i) hO
  rw [(K (F := F)).scopedBufs_V hF d _ _, SparseCore.Cfg.scopedSems0_V (Val := Elt F) d _ _, ownSems_tile, ownBufs_tile]
  unfold ops
  rw [← lK_set, ← cK_set, ← oK_set]
  iintro ⟨#Hlv, -, ⟨Hl, Hc, Ht, Ho⟩, ⟨⟨%f0, Hb0⟩, ⟨%f1, Hb1⟩, ⟨%f2, Hb2⟩, ⟨%f3, Hb3⟩, ⟨%f4, Hb4⟩, ⟨%f5, Hb5⟩, Hbufs⟩, ⟨HsA, HsB, HsC, HsD, HsE, Hsems⟩, HO⟩
  ihave Hmw := hmw $$ Hlv
  ihave Hl := (show (lLoc d ↦[(lK i).view.set]{fullShare} Lc : sProp 𝕄) ⊢ (lK i).view.loc (thr d i) ↦[(lK i).view.set]{fullShare} Lc from .rfl) $$ Hl
  ihave Hc := (show (cLoc d ↦[(cK i).view.set]{fullShare} C : sProp 𝕄) ⊢ (cK i).view.loc (thr d i) ↦[(cK i).view.set]{fullShare} C from .rfl) $$ Hc
  ihave Ho := (show (oLoc d ↦[(oK i).view.set]{fullShare} O0 : sProp 𝕄) ⊢ (oK i).view.loc (thr d i) ↦[(oK i).view.set]{fullShare} O0 from .rfl) $$ Ho
  ihave Hb0 := (show ((thr d i).loc cc1_scratch0 ↦{fullShare} f0 : sProp 𝕄) ⊢ (list).view.loc (thr d i) ↦{fullShare} f0 from .rfl) $$ Hb0
  ihave Hb1 := (show ((thr d i).loc cc1_scratch1 ↦{fullShare} f1 : sProp 𝕄) ⊢ (rows0).view.loc (thr d i) ↦{fullShare} f1 from .rfl) $$ Hb1
  ihave Hb2 := (show ((thr d i).loc cc1_scratch2 ↦{fullShare} f2 : sProp 𝕄) ⊢ (rows1).view.loc (thr d i) ↦{fullShare} f2 from .rfl) $$ Hb2
  ihave Hb3 := (show ((thr d i).loc cc1_scratch3 ↦{fullShare} f3 : sProp 𝕄) ⊢ (codes).view.loc (thr d i) ↦{fullShare} f3 from .rfl) $$ Hb3
  ihave Hb4 := (show ((thr d i).loc cc1_scratch4 ↦{fullShare} f4 : sProp 𝕄) ⊢ (res).view.loc (thr d i) ↦{fullShare} f4 from .rfl) $$ Hb4
  ihave Hb5 := (show ((thr d i).loc cc1_scratch5 ↦{fullShare} f5 : sProp 𝕄) ⊢ (perm).view.loc (thr d i) ↦{fullShare} f5 from .rfl) $$ Hb5
  sl_exec
  ihave Hb0 := (pts_eq (F := F) (View.loc (thr d i) (list).view) _ (tileL Lc (wid i)) ((View.write_whole_univ _ _ _).trans (lK_read d i Lc))) $$ Hb0
  ihave Hp := (show ((perm).view.loc (thr d i) ↦{fullShare} f5 : sProp 𝕄) ⊢ iprop(∃ f, (perm).view.loc (thr d i) ↦{fullShare} f) by
    iintro H; iexists _; iexact H) $$ Hb5
  iapply (wp_gather (F := F) d i rows0 credit0 0 rfl hL) $$ [Ht Hb1 Hb0 HsA]
  · isplitl [Ht]; · iexact Ht
    isplitl [Hb1]; · iexact Hb1
    isplitl [Hb0]; · iexact Hb0
    iexact HsA
  iintro HfA
  unfold 𝕎
  sl_exec
  ihave HC := (pts_eq (F := F) (View.loc (thr d i) (codes).view) _ (tileC C (wid i)) ((View.write_whole_univ _ _ _).trans (cK_read d i C))) $$ Hb3
  iapply (wp_await (F := F) d i rows0 0 (Lc := Lc)) $$ [HfA HO]
  · isplitl [HfA]; · iexact HfA
    isplitl [HO]; · iexact HO
    iexact Hmw
  iintro ⟨⟨⟨%X0, %hX0, Hb1⟩, Ht, Hb0⟩, HsA, HO⟩
  unfold 𝕎; rw [wp_ret]; imodintro
  iapply (wp_gather (F := F) d i rows1 credit1 1 rfl hL) $$ [Ht Hb2 Hb0 HsB]
  · isplitl [Ht]; · iexact Ht
    isplitl [Hb2]; · iexact Hb2
    isplitl [Hb0]; · iexact Hb0
    iexact HsB
  iintro HfB
  iapply (wp_tileChunk (F := F) d i rows0 0 k1_t1_loop k1_t1_ok (fun t => t.2) rfl hX0) $$ [HC Hb1 Hp]
  · isplitl [HC]; · iexact HC
    isplitl [Hb1]; · iexact Hb1
    iexact Hp
  iintro ⟨HC, Hb1, Hp⟩
  unfold 𝕎
  sl_exec
  iapply (wp_await (F := F) d i rows1 1 (Lc := Lc)) $$ [HfB HO]
  · isplitl [HfB]; · iexact HfB
    isplitl [HO]; · iexact HO
    iexact Hmw
  iintro ⟨⟨⟨%X1, %hX1, Hb2⟩, Ht, Hb0⟩, HsB, HO⟩
  unfold 𝕎; rw [wp_ret]; imodintro
  iapply (wp_gather (F := F) d i rows0 credit0 2 rfl hL) $$ [Ht Hb1 Hb0 HsA]
  · isplitl [Ht]; · iexact Ht
    isplitl [Hb1]; · iexact Hb1
    isplitl [Hb0]; · iexact Hb0
    iexact HsA
  iintro HfA
  iapply (wp_tileChunk (F := F) d i rows1 1 k1_t2_loop k1_t2_ok (fun t => t.2) rfl hX1) $$ [HC Hb2 Hp]
  · isplitl [HC]; · iexact HC
    isplitl [Hb2]; · iexact Hb2
    iexact Hp
  iintro ⟨HC, Hb2, Hp⟩
  unfold 𝕎
  sl_exec
  iapply (wp_await (F := F) d i rows0 2 (Lc := Lc)) $$ [HfA HO]
  · isplitl [HfA]; · iexact HfA
    isplitl [HO]; · iexact HO
    iexact Hmw
  iintro ⟨⟨⟨%X2, %hX2, Hb1⟩, Ht, Hb0⟩, HsA, HO⟩
  unfold 𝕎; rw [wp_ret]; imodintro
  iapply (wp_gather (F := F) d i rows1 credit1 3 rfl hL) $$ [Ht Hb2 Hb0 HsB]
  · isplitl [Ht]; · iexact Ht
    isplitl [Hb2]; · iexact Hb2
    isplitl [Hb0]; · iexact Hb0
    iexact HsB
  iintro HfB
  iapply (wp_tileChunk (F := F) d i rows0 2 k1_t3_loop k1_t3_ok (fun t => t.2) rfl hX2) $$ [HC Hb1 Hp]
  · isplitl [HC]; · iexact HC
    isplitl [Hb1]; · iexact Hb1
    iexact Hp
  iintro ⟨HC, Hb1, Hp⟩
  unfold 𝕎
  sl_exec
  iapply (wp_await (F := F) d i rows1 3 (Lc := Lc)) $$ [HfB HO]
  · isplitl [HfB]; · iexact HfB
    isplitl [HO]; · iexact HO
    iexact Hmw
  iintro ⟨⟨⟨%X3, %hX3, Hb2⟩, Ht, Hb0⟩, HsB, HO⟩
  unfold 𝕎; rw [wp_ret]; imodintro
  iapply (wp_tileChunk (F := F) d i rows1 3 k1_t4_loop k1_t4_ok (fun t => t.2) rfl hX3) $$ [HC Hb2 Hp]
  · isplitl [HC]; · iexact HC
    isplitl [Hb2]; · iexact Hb2
    iexact Hp
  iintro ⟨HC, Hb2, Hp⟩
  unfold 𝕎
  sl_exec
  sl_step
  have hR : tile_body.sl.dma4 d i Lc C Tb f4 = tileR C Tb Lc (wid i) := by
    funext y
    unfold tile_body.sl.dma4
    refine View.read_writes_apply_of_pieces (res).view f4 (tileR C Tb Lc (wid i)) (tile_body.sl.Hb4_8 d i Lc C Tb) ?_ y
      (View.cover_of_tiled _ ![16] rfl y)
    intro p hp x
    rcases List.mem_cons.mp hp with rfl | hp; · exact piece_tile _ _ _ _ 3 1 (ho := inb_S128_S16_112) rfl x
    rcases List.mem_cons.mp hp with rfl | hp; · exact piece_tile _ _ _ _ 3 0 (ho := inb_S128_S16_96) rfl x
    rcases List.mem_cons.mp hp with rfl | hp; · exact piece_tile _ _ _ _ 2 1 (ho := inb_S128_S16_80) rfl x
    rcases List.mem_cons.mp hp with rfl | hp; · exact piece_tile _ _ _ _ 2 0 (ho := inb_S128_S16_64) rfl x
    rcases List.mem_cons.mp hp with rfl | hp; · exact piece_tile _ _ _ _ 1 1 (ho := inb_S128_S16_48) rfl x
    rcases List.mem_cons.mp hp with rfl | hp; · exact piece_tile _ _ _ _ 1 0 (ho := inb_S128_S16_32) rfl x
    rcases List.mem_cons.mp hp with rfl | hp; · exact piece_tile _ _ _ _ 0 1 (ho := inb_S128_S16_16) rfl x
    rcases List.mem_cons.mp hp with rfl | hp; · exact piece_tile _ _ _ _ 0 0 (ho := inb_S128_S16_0) rfl x
    exact absurd hp List.not_mem_nil
  have hO' : ∀ x ∈ (oK i).view.set, (oK i).view.writes (Elt F) O0 [⟨Rect.whole S128, tile_body.sl.dma4 d i Lc C Tb f4⟩] x = outV C Tb Lc x := by
    intro x hx
    obtain ⟨y, -, rfl⟩ := Finset.mem_map.mp hx
    have h := View.read_writes_cons_emb (Val := Elt F) (oK i).view O0 (Rect.whole S128) (tile_body.sl.dma4 d i Lc C Tb f4) [] y
    rw [Rect.emb_whole_apply, View.read_apply, hR] at h
    rw [hR]
    refine ((cast_eq _ _).symm.trans h).trans ?_
    rw [oK_emb]
    rfl
  ihave Ho := (Entails.of_eq (pointsTo_congr (q := fullShare) (ℓ := oLoc d) hO')) $$ Ho
  isplitl [Hl Hc Ht Ho]
  · isplitl [Hl]; · iexact Hl
    isplitl [Hc]; · iexact Hc
    isplitl [Ht]; · iexact Ht
    iexact Ho
  isplitl [Hb0 Hb1 Hb2 HC Hb4 Hp Hbufs]
  · isplitl [Hb0]; · iexists _; iexact Hb0
    isplitl [Hb1]; · iexists _; iexact Hb1
    isplitl [Hb2]; · iexists _; iexact Hb2
    isplitl [HC]; · iexists _; iexact HC
    isplitl [Hb4]; · iexists _; iexact Hb4
    isplitl [Hp]; · iexact Hp
    iexact Hbufs
  isplitl [HsA HsB HsC HsD HsE Hsems]
  · isplitl [HsA]; · iexact HsA
    isplitl [HsB]; · iexact HsB
    isplitl [HsC]; · iexact HsC
    isplitl [HsD]; · iexact HsD
    isplitl [HsE]; · iexact HsE
    iexact Hsems
  iexists _; isplitr
  swap; · iexact HO
  ipureintro; intro p hp
  simp only [Finset.mem_insert] at hp
  rcases hp with rfl | rfl | rfl | rfl | rfl | rfl | rfl | hp
  all_goals first | exact .inr rfl | exact .inl hp

end Cert.Proof.Dist

end
-- ==== Proof.Obl.lean ====
/-
  What the launch's handshakes carry, the tiles' obligation, and the split of the operands over the tiles.
-/
module

public import proofs.«01_k».proof.Proof.TileRun
public import Idealize.ShloMosaic.Lib.ShareLeaves

@[expose] public section

noncomputable section

namespace Cert.Proof.Dist

open Cert.KernelIdeal Cert.KernelIdeal.Gen
open Cert.Proof.Trip
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Tactic
open Idealize.ShloMosaic.ShareLeaves (leaf pointsTo_leaves)

variable {F : FTy → Type} [FloatOps F]

local notation "𝕄" => MT nD τ sig (HIx 1) (Elt F) ℕ UU ℕ

local notation "cents" => (Memref.whole Cert.KernelIdeal.main_v10_scv : Memref Cert.KernelIdeal.sig Kind.scVector Space.hbm Cert.KernelIdeal.S32768x2x128 EltTy.f32)
local notation "codesH" => (Memref.whole Cert.KernelIdeal.main_arg2_scv : Memref Cert.KernelIdeal.sig Kind.scVector Space.hbm Cert.KernelIdeal.S4096x256 EltTy.f32)
local notation "listH" => (Memref.whole Cert.KernelIdeal.main_v11_scv : Memref Cert.KernelIdeal.sig Kind.scVector Space.hbm Cert.KernelIdeal.S16384 EltTy.i32)
local notation "outH" => (Memref.whole Cert.KernelIdeal.main_v12_scv : Memref Cert.KernelIdeal.sig Kind.scVector Space.hbm Cert.KernelIdeal.S4096 EltTy.f32)
local notation "list" => (Memref.whole Cert.KernelIdeal.cc1_scratch0 : Memref Cert.KernelIdeal.sig Kind.scVector Space.vmem Cert.KernelIdeal.S512 EltTy.i32)
local notation "rows0" => (Memref.whole Cert.KernelIdeal.cc1_scratch1 : Memref Cert.KernelIdeal.sig Kind.scVector Space.vmem Cert.KernelIdeal.S128x2x128 EltTy.f32)
local notation "rows1" => (Memref.whole Cert.KernelIdeal.cc1_scratch2 : Memref Cert.KernelIdeal.sig Kind.scVector Space.vmem Cert.KernelIdeal.S128x2x128 EltTy.f32)
local notation "codes" => (Memref.whole Cert.KernelIdeal.cc1_scratch3 : Memref Cert.KernelIdeal.sig Kind.scVector Space.vmem Cert.KernelIdeal.S128x256 EltTy.f32)
local notation "res" => (Memref.whole Cert.KernelIdeal.cc1_scratch4 : Memref Cert.KernelIdeal.sig Kind.scVector Space.vmem Cert.KernelIdeal.S128 EltTy.f32)
local notation "perm" => (Memref.whole Cert.KernelIdeal.cc1_scratch5 : Memref Cert.KernelIdeal.sig Kind.scVector Space.vmem Cert.KernelIdeal.S16 EltTy.f32)

variable (Lc : (d : Dev nD) → Buf (Elt F) (lLoc d)) (C : (d : Dev nD) → Buf (Elt F) (cLoc d)) (Tb : (d : Dev nD) → Buf (Elt F) (tLoc d)) (O0 : (d : Dev nD) → Buf (Elt F) (oLoc d))

/-- A tile's coordinates from its SparseCore's and its own number. -/
def coordsV (c : Fin (grid1.bound 0)) (s : Fin (grid1.bound 1)) : grid1.Coords :=
  fun | 0 => c | 1 => s | ⟨_ + 2, h⟩ => absurd h (Nat.not_lt.2 (Nat.le_add_left _ _))

/-- Worker `w`'s share of the table. -/
abbrev tq (w : Fin 32) : PosShare TreeShare := leaf 5 fullShare w

/-- Worker `w`'s operands, the output's part at `O`. -/
abbrev part (d : Dev nD) (O : Buf (Elt F) (oLoc d)) (w : Fin 32) : sProp 𝕄 :=
  iprop((lLoc d ↦[lSet w]{fullShare} Lc d) ∗ (cLoc d ↦[cSet w]{fullShare} C d) ∗ (tLoc d ↦{tq w} Tb d) ∗ oLoc d ↦[oSet w]{fullShare} O)

/-- The worker of tile `(c, s)` in the launch's numbering. -/
abbrev wk (c : Fin 2) (s : Fin 16) : Fin 32 := ⟨2 * s.1 + c.1, by have := c.2; have := s.2; omega⟩

theorem nCore_zero : (K (F := F)).nCore 0 = 2 := rfl
theorem nSub_zero : (K (F := F)).nSub 0 = 16 := rfl

/-- The distances. -/
abbrev dist (d : Dev nD) : Buf (Elt F) (oLoc d) := outV (C d) (Tb d) (Lc d)

/-- A SparseCore takes its sixteen tiles' operands, a tile its own; back come the same, the output's parts the distances. -/
def P : (K (F := F)).Pay (nD := nD) (Val := Elt F) (Name := ℕ) (U := UU) where
  st := fun q d c => match q with | 0 => bigSep Finset.univ fun s : Fin 16 => part Lc C Tb d (O0 d) (wk (Fin.cast nCore_zero c) s)
  dn := fun q d c => match q with | 0 => bigSep Finset.univ fun s : Fin 16 => part Lc C Tb d (dist Lc C Tb d) (wk (Fin.cast nCore_zero c) s)
  go := fun q d c s => match q with | 0 => part Lc C Tb d (O0 d) (wk (Fin.cast nCore_zero c) (Fin.cast nSub_zero s))
  td := fun q d c s => match q with | 0 => part Lc C Tb d (dist Lc C Tb d) (wk (Fin.cast nCore_zero c) (Fin.cast nSub_zero s))
  x := fun _ _ => iprop(emp)

instance part_storable (d : Dev nD) (O : Buf (Elt F) (oLoc d)) (w : Fin 32) : BI.Storable (upEmb : UEmb _ 𝕄) (part Lc C Tb d O w) := by
  unfold part; infer_instance

instance P_storable : (P (F := F) Lc C Tb O0).IsStorable where
  st q d c := match q with
    | 0 => (inferInstance : BI.Storable (upEmb : UEmb _ 𝕄) (bigSep Finset.univ fun s : Fin 16 => part Lc C Tb d (O0 d) (wk (Fin.cast nCore_zero c) s)))
  dn q d c := match q with
    | 0 => (inferInstance : BI.Storable (upEmb : UEmb _ 𝕄) (bigSep Finset.univ fun s : Fin 16 => part Lc C Tb d (dist Lc C Tb d) (wk (Fin.cast nCore_zero c) s)))
  go q d c s := match q with | 0 => part_storable Lc C Tb d _ _
  td q d c s := match q with | 0 => part_storable Lc C Tb d _ _

theorem defs₀_vector (c : Fin τ.nSC) (s : Fin τ.nSub) :
    defs₀ (F := F) (.scVector c s) 1 ()
      = SparseCore.onTile hcore1 hsub1 (fun c s => cc1_dist_kernel (coordsV c s)
          cents (Memref.isWhole_whole _) codesH (Memref.isWhole_whole _) listH (Memref.isWhole_whole _) outH (Memref.isWhole_whole _)
          list (Memref.isWhole_whole _) rows0 (Memref.isWhole_whole _) rows1 (Memref.isWhole_whole _) codes (Memref.isWhole_whole _)
          res (Memref.isWhole_whole _) perm (Memref.isWhole_whole _) cc1_scratch6 cc1_scratch7 cc1_scratch8 cc1_scoped0 cc1_scoped1) ⟨⟩ c s := rfl

theorem waits_post {t : Thread nD τ} {A B D : sProp 𝕄} {O : CellTallies nD τ sig (HIx 1)} {W : Waits sig (HIx 1)} {q : Fin 1} :
    iprop(A ∗ B ∗ D ∗ ∃ W', ⌜∀ p ∈ W', p ∈ W ∨ p.2 = none⌝ ∗ owes t O W')
      ⊢ iprop(A ∗ B ∗ D ∗ ∃ W', ⌜∀ p ∈ W', p ∈ W ∨ p.2 = none ∨ p.2 = some q⌝ ∗ owes t O W') := by
  iintro ⟨HA, HB, HD, %W', %hW', HO⟩
  isplitl [HA]; · iexact HA
  isplitl [HB]; · iexact HB
  isplitl [HD]; · iexact HD
  iexists W'; isplitr
  · ipureintro; exact fun p hp => (hW' p hp).imp_right Or.inl
  · iexact HO

set_option maxRecDepth 16384 in
theorem tileObl (hL : ∀ d, Rows (Lc d)) : (K (F := F)).TileObl (D (F := F)) 𝒱 (P Lc C Tb O0) v₀ 0 := by
  intro d c s O W hO _ _
  simp only [show (P (F := F) Lc C Tb O0).ox = fun _ _ => 0 from rfl, add_zero]
  have hcs : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  rw [task_eq]
  exact (tile_body d (coordsV ⟨_, hcs.1⟩ ⟨_, hcs.2⟩) facts (tq (wid (coordsV ⟨_, hcs.1⟩ ⟨_, hcs.2⟩))) (Lc d) (C d) (Tb d) (O0 d) (hL d) O W hO).trans
    (wp_mono frame _ _ fun _ => waits_post)

theorem bigSep_tasks (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)

theorem vecSplit : (K (F := F)).VecSplit' (P Lc C Tb O0) 0 := by
  intro d c
  show (bigSep Finset.univ fun s : Fin 16 => part Lc C Tb d (O0 d) (wk (Fin.cast nCore_zero c) s)) ⊢ |={Set.univ}=> iprop(
      (bigSep Finset.univ fun s : Fin ((K (F := F)).nSub 0) => part Lc C Tb d (O0 d) (wk (Fin.cast nCore_zero c) (Fin.cast nSub_zero s)))
      ∗ ((bigSep Finset.univ fun s : Fin ((K (F := F)).nSub 0) => part Lc C Tb d (dist Lc C Tb d) (wk (Fin.cast nCore_zero c) (Fin.cast nSub_zero s)))
          -∗ bigSep Finset.univ fun s : Fin 16 => part Lc C Tb d (dist Lc C Tb d) (wk (Fin.cast nCore_zero c) s)))
  rw [bigSep_tasks (F := F) (fun s => part Lc C Tb d (O0 d) (wk (Fin.cast nCore_zero c) s)),
    bigSep_tasks (F := F) (fun s => part Lc C Tb d (dist Lc C Tb d) (wk (Fin.cast nCore_zero c) s))]
  iintro H; imodintro
  isplitl [H]; · iexact H
  iintro H; iexact H

/-- The tiles' numbers and the workers'. -/
def wkEquiv : Fin 2 × Fin 16 ≃ Fin 32 where
  toFun p := wk p.1 p.2
  invFun w := (⟨w.1 % 2, Nat.mod_lt _ (by decide)⟩, ⟨w.1 / 2, by have := w.2; omega⟩)
  left_inv p := by
    obtain ⟨c, s⟩ := p
    have := c.2
    refine Prod.ext (Fin.ext ?_) (Fin.ext ?_)
    · change (2 * s.1 + c.1) % 2 = c.1; omega
    · change (2 * s.1 + c.1) / 2 = s.1; omega
  right_inv w := Fin.ext (by change 2 * (w.1 / 2) + w.1 % 2 = w.1; omega)

/-- All the workers' operands are the four buffers whole. -/
theorem parts_whole (d : Dev nD) (O : Buf (Elt F) (oLoc d)) :
    (bigSep Finset.univ fun w : Fin 32 => part Lc C Tb d O w)
      = iprop((lLoc d ↦{fullShare} Lc d) ∗ (cLoc d ↦{fullShare} C d) ∗ (tLoc d ↦{fullShare} Tb d) ∗ oLoc d ↦{fullShare} O : sProp 𝕄) := by
  unfold part
  rw [bigSep_sep', bigSep_sep', bigSep_sep', ← pointsTo_biUnion Finset.univ (ℓ := lLoc d) lSet fun i _ j _ h => Rect.part_disjoint _ h,
    ← pointsTo_biUnion Finset.univ (ℓ := cLoc d) cSet fun i _ j _ h => Rect.part_disjoint _ h,
    ← pointsTo_biUnion Finset.univ (ℓ := oLoc d) oSet fun i _ j _ h => Rect.part_disjoint _ h,
    show (Finset.univ.biUnion lSet) = Finset.univ from Rect.biUnion_part _, show (Finset.univ.biUnion cSet) = Finset.univ from Rect.biUnion_part _,
    show (Finset.univ.biUnion oSet) = Finset.univ from Rect.biUnion_part _,
    show (bigSep Finset.univ fun w : Fin 32 => (tLoc d ↦{tq w} Tb d : sProp 𝕄)) = (tLoc d ↦{fullShare} Tb d) from (pointsTo_leaves Finset.univ (Tb d) 5 fullShare).symm]

/-- By SparseCore and tile, likewise. -/
theorem cores_whole (d : Dev nD) (O : Buf (Elt F) (oLoc d)) :
    (bigSep Finset.univ fun c : Fin ((K (F := F)).nCore 0) => bigSep Finset.univ fun s : Fin 16 => part Lc C Tb d O (wk (Fin.cast nCore_zero c) s))
      = iprop((lLoc d ↦{fullShare} Lc d) ∗ (cLoc d ↦{fullShare} C d) ∗ (tLoc d ↦{fullShare} Tb d) ∗ oLoc d ↦{fullShare} O : sProp 𝕄) := by
  rw [← parts_whole Lc C Tb d O, bigSep_univ_equiv wkEquiv, bigSep_univ_prod]
  exact bigSep_congr fun _ _ => rfl

end Cert.Proof.Dist

end
-- ==== Proof.DenseBody.lean ====
/-
  The TensorCore call's body at one grid point, run from its four staged blocks and its scratch.
-/
module

public import proofs.«01_k».proof.Proof.Setup
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

noncomputable section

namespace Cert.Proof.Dense

open Cert.KernelIdeal Cert.KernelIdeal.Gen
open Cert.Proof.Dist (UU)
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ
local notation "scratch" => (Memref.whole Cert.KernelIdeal.cc0_scratch0 : Memref Cert.KernelIdeal.sig Kind.tc Space.vmem Cert.KernelIdeal.S1024x256 EltTy.bf16)

/-- A memref's contents on core `c`, and the memref's buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What a point's scratch holds once its body has run: the normalised weight block at the first row block, what it
    held before at the others. -/
def wbOf (i : grid0.Coords) (w : Vec F S1024x256 .f32) (g : Vec F S1024x256 .bf16) : Vec F S1024x256 .bf16 :=
  if (i 1).val = 0 then k0_pay2 w else g

/-- The logits block of a point: from the feature block, the normalised weight block and the labels. -/
def logits (i : grid0.Coords) (x : Vec F S512x256 .f32) (wb : Vec F S1024x256 .bf16) (l : Vec F S512x1 .i32) : Vec F S512x1024 .f32 :=
  k0_pay1 (k0_pay3 x wb) (k0_pay4 (F := F) i l) (k0_pay5 i x wb l) (k0_pay6 i x wb l) (k0_pay7 i x wb l) k0_pay8

theorem zero2 : (![0, 0] : Fin 2 → ℕ) = fun _ => 0 := by funext a; fin_cases a <;> rfl

/-- A load of a whole block reads its contents. -/
theorem readAt_block {S : Shape} {e : EltTy} {off : Fin S.rank → ℕ} (M : Memref sig .tc .vmem S e) (f : M.view.ty.Contents (Elt F)) (h : off = fun _ => 0)
    (inb : ∀ a, off a + S.size a ≤ S.size a) :
    M.view.readAt (Elt F) (Rect.unit off S.size inb).toLoadRect f = M.view.read (Elt F) f :=
  (View.readAt_eq_ld _ _ _).trans (View.ld_unit_zero h inb _)

/-- A store of a whole block leaves its payload. -/
theorem read_block {S : Shape} {e : EltTy} {off : Fin S.rank → ℕ} (M : Memref sig .tc .vmem S e) (f : M.view.ty.Contents (Elt F)) (h : off = fun _ => 0)
    (inb : ∀ a, off a + S.size a ≤ S.size a) (X : S.Idx → Elt F e) :
    M.view.read (Elt F) (M.view.writes (Elt F) f [⟨Rect.unit off S.size inb, X⟩]) = X :=
  (View.read_writes_eq_canon _ _ _ fun y => ⟨_, List.mem_singleton.mpr rfl, View.mem_set_unit_zero h inb y⟩).trans (View.canon_unit_zero h inb X)

/-- The scratch after a whole store holds the payload. -/
theorem store_scratch (c : Dev nD) (g : Bf (F := F) c scratch) (X : Vec F S1024x256 .bf16) :
    pt (F := F) c scratch ((scratch).view.writes (Elt F) g [⟨Rect.unit ![0, 0] S1024x256.size inb_S1024x256_S1024x256_0_0, X⟩]) = pt c scratch X := by
  have e := read_block (F := F) scratch g zero2 inb_S1024x256_S1024x256_0_0 X
  generalize (scratch).view.writes (Elt F) g _ = w at e ⊢
  exact congrArg (pt c scratch) e

theorem dense_run (c : Dev nD) (i : grid0.Coords)
    (M2 : Memref sig .tc .vmem S512x256 .f32) (h2 : M2.IsWhole) (M3 : Memref sig .tc .vmem S1024x256 .f32) (h3 : M3.IsWhole)
    (M4 : Memref sig .tc .vmem S512x1 .i32) (h4 : M4.IsWhole) (M5 : Memref sig .tc .vmem S512x1024 .f32) (h5 : M5.IsWhole)
    (hs : (scratch).IsWhole)
    (f2 : Bf (F := F) c M2) (f3 : Bf (F := F) c M3) (f4 : Bf (F := F) c M4) (f5 : Bf (F := F) c M5) (g : Bf (F := F) c scratch)
    (E : Set ℕ) (Q : PUnit → sProp (MT nD τ sig (HIx 1) (Elt F) ℕ UU ℕ)) :
    iprop(pt c M2 f2 ∗ pt c M3 f3 ∗ pt c M4 f4 ∗ pt c M5 f5 ∗ pt c scratch g ∗
      (iprop(pt c M2 f2 ∗ pt c M3 f3 ∗ pt c M4 f4 ∗
        (∃ f5', ⌜M5.view.read (Elt F) f5' = logits i (M2.view.read (Elt F) f2) (wbOf i (M3.view.read (Elt F) f3) g) (M4.view.read (Elt F) f4)⌝ ∗ pt c M5 f5')
        ∗ pt c scratch (wbOf i (M3.view.read (Elt F) f3) g)) -∗ Q ⟨⟩))
      ⊢ wp frame (wpE (defs₀ (F := F)) Variants.none c none) E (cc0__dense_body i M2 h2 M3 h3 M4 h4 M5 h5 scratch hs) Q := by
  rw [cc0__dense_body_eq_skeleton]
  unfold cc0__dense_body_skel
  rw [k0_part1_eq_skeleton]
  unfold k0_part1_skel
  by_cases hi : (i 1).val = 0
  · have hc : Scalar.cmpi .ne (Scalar.extui (Scalar.cmpi .eq (BitVec.ofNat 32 (i 1).val) 0#32) : BitVec 32) 0#32 = 1#1 := by
      rw [hi]; decide
    simp only [hc, dite_true]
    iintro ⟨H2, H3, H4, H5, Hs, Hk⟩
    sl_exec
    sl_step
    iapply Hk
    have e2 := readAt_block (F := F) M2 f2 zero2 inb_S512x256_S512x256_0_0
    have e3 := readAt_block (F := F) M3 f3 zero2 inb_S1024x256_S1024x256_0_0
    have e4 := readAt_block (F := F) M4 f4 zero2 inb_S512x1_S512x1_0_0
    have ev : dense_run.sl.v13 c M3 f3 = k0_pay2 (M3.view.read (Elt F) f3) :=
      (View.readCov_cons_toLoadRect _ _ _ _).trans (congrArg k0_pay2 e3)
    have ew : wbOf i (M3.view.read (Elt F) f3) g = k0_pay2 (M3.view.read (Elt F) f3) := if_pos hi
    isplitl [H2]; · iexact H2
    isplitl [H3]; · iexact H3
    isplitl [H4]; · iexact H4
    isplitl [H5]
    · iexists _; isplitr; swap; · iexact H5
      ipureintro
      refine (read_block M5 f5 zero2 _ _).trans ?_
      rw [ew, ← e2, ← e4, ← ev]; rfl
    · rw [ew, ← store_scratch c g (k0_pay2 (M3.view.read (Elt F) f3)), ← e3]; iexact Hs
  · have hc : ¬ Scalar.cmpi .ne (Scalar.extui (Scalar.cmpi .eq (BitVec.ofNat 32 (i 1).val) 0#32) : BitVec 32) 0#32 = 1#1 := by
      have := (i 1).2
      revert hi; generalize (i 1).val = n at this ⊢; intro hi
      have : n < 8 := this
      interval_cases n <;> first | exact absurd rfl hi | decide
    simp only [hc, dite_false]
    iintro ⟨H2, H3, H4, H5, Hs, Hk⟩
    sl_exec
    sl_step
    iapply Hk
    have e2 := readAt_block (F := F) M2 f2 zero2 inb_S512x256_S512x256_0_0
    have e4 := readAt_block (F := F) M4 f4 zero2 inb_S512x1_S512x1_0_0
    have eg := readAt_block (F := F) scratch g zero2 inb_S1024x256_S1024x256_0_0
    have ew : wbOf i (M3.view.read (Elt F) f3) g = g := if_neg hi
    isplitl [H2]; · iexact H2
    isplitl [H3]; · iexact H3
    isplitl [H4]; · iexact H4
    isplitl [H5]
    · iexists _; isplitr; swap; · iexact H5
      ipureintro
      refine (read_block M5 f5 zero2 _ _).trans ?_
      rw [ew, ← e2, ← e4]
      simp only [show (scratch).view.readAt (Elt F) (Rect.unit ![0, 0] S1024x256.size inb_S1024x256_S1024x256_0_0).toLoadRect g = g from eg]; rfl
    · rw [ew]; iexact Hs

end Cert.Proof.Dense

end
-- ==== Proof.DenseRegion.lean ====
/-
  The TensorCore call as a region of the program: what each grid point finds and leaves, and the logits it
  writes back.
-/
module

public import proofs.«01_k».proof.Proof.DenseBody
public import Idealize.ShloMosaic.Lib.Pipeline.RegionsLoop

@[expose] public section

noncomputable section

namespace Cert.Proof.Dense

open Cert.KernelIdeal Cert.KernelIdeal.Gen
open Cert.Proof.Dist (UU EP 𝒱₀)
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig (HIx 1) (Elt F) ℕ UU ℕ
local notation "scratch" => (Memref.whole Cert.KernelIdeal.cc0_scratch0 : Memref Cert.KernelIdeal.sig Kind.tc Space.vmem Cert.KernelIdeal.S1024x256 EltTy.bf16)

variable (V : (c : Dev nD) → (b : Ref sig .tc) → Buf (Elt F) ((c : Thread nD τ).loc b))
variable (Ow : Dev nD → CellTallies nD τ sig (HIx 1)) (B : Dev nD → Set (SemLoc sig × HIx 1))

/-- The feature, weight and label blocks of a point. -/
def xAt (c : Dev nD) (t : Fin cfg0.N) : Vec F S512x256 .f32 := ((cfg0.win 0).blk t).view.read (Elt F) (V c main_arg0)
def wAt (c : Dev nD) (t : Fin cfg0.N) : Vec F S1024x256 .f32 := ((cfg0.win 1).blk t).view.read (Elt F) (V c main_arg4)
def lAt (c : Dev nD) (t : Fin cfg0.N) : Vec F S512x1 .i32 := ((cfg0.win 2).blk t).view.read (Elt F) (V c main_v0)

/-- The logits block a point leaves. -/
def outAt (c : Dev nD) (t : Fin cfg0.N) : Vec F S512x1024 .f32 :=
  logits (grid0.coords t) (xAt V c t) (k0_pay2 (wAt V c t)) (lAt V c t)

/-- Between points the scratch holds the normalised weight block of the point just run. -/
def Φc (c : Dev nD) (n : ℕ) : sProp 𝕄 :=
  iprop(∃ g : Bf (F := F) c scratch, ⌜∀ t : Fin cfg0.N, t.val + 1 = n → g = k0_pay2 (wAt V c t)⌝ ∗ pt c scratch g)

/-- The call's proof data at an entry valuation. -/
def dat (c : Dev nD) : Dat τ (Elt F) (HIx 1) ℕ UU ℕ cfg0 c where
  A w := V c (Pipeline.arrRef spec0 w)
  after w t := match w with
    | ⟨0, _⟩ => xAt V c t
    | ⟨1, _⟩ => wAt V c t
    | ⟨2, _⟩ => lAt V c t
    | ⟨3, _⟩ => outAt V c t
  Φ n := Φc V c n.val
  q _ := fullShare
  owed _ := Ow c
  recorded _ := B c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V Ow B c

theorem before_x (c : Dev nD) (t : Fin cfg0.N) (d : (cfg0.win 0).block.Idx → Elt F (cfg0.win 0).elt) : (dat V Ow B c).before 0 t d = xAt V c t :=
  ((dat V Ow B c).before_in_eq_fetched 0 rfl (fun _ => rfl) (fun _ _ _ => rfl) (fun _ => rfl) t d).trans rfl
theorem before_w (c : Dev nD) (t : Fin cfg0.N) (d : (cfg0.win 1).block.Idx → Elt F (cfg0.win 1).elt) : (dat V Ow B c).before 1 t d = wAt V c t :=
  ((dat V Ow B c).before_in_eq_fetched 1 rfl (fun _ => rfl) (fun _ _ _ => rfl) (fun _ => rfl) t d).trans rfl
theorem before_l (c : Dev nD) (t : Fin cfg0.N) (d : (cfg0.win 2).block.Idx → Elt F (cfg0.win 2).elt) : (dat V Ow B c).before 2 t d = lAt V c t :=
  ((dat V Ow B c).before_in_eq_fetched 2 rfl (fun _ => rfl) (fun _ _ _ => rfl) (fun _ => rfl) t d).trans rfl

theorem row_coord : ∀ t : Fin grid0.N, (grid0.coords t 1).val = t.val % 8 := by decide

/-- At a point that is not the first of its weight block, the block is the previous point's. -/
theorem wAt_prev (c : Dev nD) (t t' : Fin cfg0.N) (h : (grid0.coords t 1).val ≠ 0) (ht : t'.val + 1 = t.val) : wAt V c t = wAt V c t' := by
  have hf : (cfg0.win 1).fetch t = false := by
    rw [Bool.eq_false_iff, Ne, fetch0_1 t, ← row_coord t]; exact h
  obtain ⟨h0, hix⟩ := (cfg0.win 1).index_eq_of_fetch rfl t hf
  have e : (⟨t.val - 1, by omega⟩ : Fin cfg0.N) = t' := Fin.ext (by show t.val - 1 = t'.val; omega)
  have := (dat V (fun _ => 0) (fun _ => Set.univ) c).fetched_congr 1 (t := t) (t' := t') (e ▸ hix) rfl (wAt V c t)
  exact this

/-- What the scratch holds after a point's body. -/
theorem wbOf_eq (c : Dev nD) (t : Fin cfg0.N) (g : Vec F S1024x256 .bf16) (hg : ∀ t' : Fin cfg0.N, t'.val + 1 = t.val → g = k0_pay2 (wAt V c t')) :
    wbOf (grid0.coords t) (wAt V c t) g = k0_pay2 (wAt V c t) := by
  unfold wbOf
  split
  · rfl
  · next h =>
    have h0 : t.val ≠ 0 := fun e => h (by rw [row_coord, e])
    have ht : (⟨t.val - 1, by omega⟩ : Fin cfg0.N).val + 1 = t.val := by show t.val - 1 + 1 = t.val; omega
    rw [hg _ ht, wAt_prev V c t _ h ht]

/-- The body obligation at every point. -/
theorem body_obligation (c : Dev nD) : BodyObligation (dat V Ow B c) (defs₀ (F := F)) 𝒱₀ none Set.univ := fun t => by
  rw [bigSep_W0, bigSep_W0]
  rw [show (dat V Ow B c).Φ t.castSucc = Φc V c t.val from rfl, show (dat V Ow B c).Φ t.succ = Φc V c (t.val + 1) from rfl,
    show (dat V Ow B c).owesAt none t.succ = (dat V Ow B c).owesAt none t.castSucc from rfl]
  unfold Φc
  iintro ⟨⟨%g, %hg, Hs⟩, Howes, ⟨%d0, H0⟩, ⟨%d1, H1⟩, ⟨%d2, H2⟩, ⟨%d3, H3⟩⟩
  rw [before_x, before_w, before_l]
  unfold owns
  icases H0 with ⟨%f0, %hf0, H0⟩
  icases H1 with ⟨%f1, %hf1, H1⟩
  icases H2 with ⟨%f2, %hf2, H2⟩
  icases H3 with ⟨%f3, -, H3⟩
  have h0 := hstage0_0 ((cfg0.slots t 0).cast nbuf0_0)
  have h1 := hstage0_1 ((cfg0.slots t 1).cast nbuf0_1)
  have h2 := hstage0_2 ((cfg0.slots t 2).cast nbuf0_2)
  have h3 := hstage0_3 ((cfg0.slots t 3).cast nbuf0_3)
  have hw := wbOf_eq V c t g hg
  have hrun := dense_run (F := F) c (grid0.coords t) (st0_0 t) h0 (st0_1 t) h1 (st0_2 t) h2 (st0_3 t) h3 (Memref.isWhole_whole _) f0 f1 f2 f3 g Set.univ
  rw [hf0, hf1, hf2, hw] at hrun
  rw [show ((cfg0.win 0).stage (cfg0.slots t 0)).view.set = Finset.univ from h0.set_eq_univ,
    show ((cfg0.win 1).stage (cfg0.slots t 1)).view.set = Finset.univ from h1.set_eq_univ,
    show ((cfg0.win 2).stage (cfg0.slots t 2)).view.set = Finset.univ from h2.set_eq_univ,
    show ((cfg0.win 3).stage (cfg0.slots t 3)).view.set = Finset.univ from h3.set_eq_univ]
  iapply (hrun _)
  isplitl [H0]; · iexact H0
  isplitl [H1]; · iexact H1
  isplitl [H2]; · iexact H2
  isplitl [H3]; · iexact H3
  isplitl [Hs]; · iexact Hs
  iintro ⟨H0, H1, H2, ⟨%f3', %hf3, H3⟩, Hs⟩
  isplitl [Hs]
  · iexists _; isplitr; swap; · iexact Hs
    ipureintro; intro t' ht'
    rw [Fin.ext (Nat.add_right_cancel ht') (a := t') (b := t)]
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  iexists f3'; isplitr; swap; (· iexact H3); ipureintro; exact hf3

/-- The logits array as the call leaves it. -/
def logitsAt (c : Dev nD) : Buf (Elt F) ((c : Thread nD τ).loc main_v1) := (dat V Ow B c).arrAt 3 cfg0.N

variable (Vp : (c : Dev nD) → (b : Ref sig .tc) → Buf (Elt F) ((c : Thread nD τ).loc b))

local notation "𝕂" => Cert.Proof.Dist.K (F := F)

set_option backward.isDefEq.respectTransparency.types false in
/-- The call as a region: entered from the unscoped buffers at `V` and what the core owes, left with the logits
    written. -/
def reg (hO : ∀ c g, Ow c g none = 0) (hB : ∀ c p, p.2 = none → p ∈ B c)
    (hVp_out : ∀ c, Vp c main_v1 = logitsAt V Ow B c)
    (hVp_ne : ∀ c (b : Ref sig .tc), b ≠ main_v1 → Vp c b = V c b) :
    Pipeline.RegionSeg (pcfgs (F := F)) adm (pdats V Ow B) none defs₀ 𝒱₀ (𝕂).L (𝕂).lev 0 where
  win := (launch0).win.to₀
  block_pos := (launch0).block_pos
  stage_whole := (launch0).stage_whole
  K := PEmpty
  osem k := k.elim
  ho := Pipeline.OwnSemFacts.none _
  hbody c := (body_obligation V Ow B c).loose
  hwaits c := Pipeline.cellsWaits_intro _ _ _ _ _ fun w s t => (𝕂).mayWait_none _ (hO c)
  pre c := iprop(unscopedBufs c (V c) ∗ ∃ W, ⌜↑W ⊆ B c⌝ ∗ owes (c : Thread nD τ) (Ow c) W)
  post c := iprop(unscopedBufs c (Vp c) ∗ ∃ W, ⌜↑W ⊆ B c⌝ ∗ owes (c : Thread nD τ) (Ow c) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V Ow B) (launch0).win (launch0).arr_whole c
      ((pdats V Ow B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hrest
  hin c := by
    rw [show (pdats V Ow B 0 c).Φ 0 = Φc V c 0 from rfl, scopedRest0_eq]
    unfold Φc
    iintro ⟨-, -, ⟨%f, Hr⟩⟩
    iexists f; isplitr; swap; · iexact Hr
    ipureintro; exact fun t h => absurd h (Nat.succ_ne_zero _)
  hout c := by
    rw [Pipeline.ownSems0_none, show (pdats V Ow B 0 c).Φ (Fin.last _) = Φc V c cfg0.N from rfl, scopedRest0_eq]
    unfold Φc
    iintro ⟨%g, -, Hr⟩
    isplitr; · iempintro
    isplitr; · iempintro
    iexists g; iexact Hr
  hexit c := by
    have hjoin := Pipeline.unscopedBufs_of_arrays (p := 0) (pcfgs (F := F)) adm (Ix := HIx 1) (Name := ℕ) (U := UU) (Lvl := ℕ) (launch0).win (launch0).arr_whole c
      (pdats V Ow B) ((pdats V Ow B 0 c).share_full fun _ => rfl) (V c) (Vp c) ((pdats V Ow B 0 c).arrAt · cfg0.N)
      (fun w => by
        fin_cases w
        · exact ((pdats V Ow B 0 c).arrAt_in 0 rfl _).trans (hVp_ne c main_arg0 (by decide)).symm
        · exact ((pdats V Ow B 0 c).arrAt_in 1 rfl _).trans (hVp_ne c main_arg4 (by decide)).symm
        · exact ((pdats V Ow B 0 c).arrAt_in 2 rfl _).trans (hVp_ne c main_v0 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro; intro p hp
    rcases hW hp with h | h
    · exact h
    · obtain ⟨w, s, rfl⟩ := h; exact hB c _ rfl

end Cert.Proof.Dense

end
-- ==== Proof.Main.lean ====
/-
  @main on the TensorCore: the host operations around the two calls, run over all its buffers held whole, and the launch.
-/
module

public import proofs.«01_k».proof.Proof.Obl
public import proofs.«01_k».proof.Proof.DenseRegion
public import Idealize.ShloMosaic.Lib.StableHlo.Run
public import Idealize.ShloMosaic.Lib.Pipeline.Frame

@[expose] public section

noncomputable section

namespace Cert.Proof.Whole

open Cert.KernelIdeal Cert.KernelIdeal.Gen
open Cert.Proof.Dist
open Idealize.ShloMosaic
open Idealize.ShloMosaic.SparseCore (S V T)
open Idealize.ShloMosaic.SparseCore.Cfg (HIx Pay)
open Idealize.ShloMosaic.StableHlo (held held_sub_split held_congr wp_seq after)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig (HIx 1) (Elt F) ℕ UU ℕ
local notation "v1'" => (Proc.devRef Proc.tc Cert.KernelIdeal.main_v1 : DevRef Cert.KernelIdeal.τ Cert.KernelIdeal.sig)
local notation "v12'" => (Proc.devRef Proc.tc Cert.KernelIdeal.main_v12 : DevRef Cert.KernelIdeal.τ Cert.KernelIdeal.sig)
local notation "v10'" => (Proc.devRef Proc.tc Cert.KernelIdeal.main_v10 : DevRef Cert.KernelIdeal.τ Cert.KernelIdeal.sig)
local notation "v11'" => (Proc.devRef Proc.tc Cert.KernelIdeal.main_v11 : DevRef Cert.KernelIdeal.τ Cert.KernelIdeal.sig)
local notation "arg2'" => (Proc.devRef Proc.tc Cert.KernelIdeal.main_arg2 : DevRef Cert.KernelIdeal.τ Cert.KernelIdeal.sig)

variable (m : (ℓ : Loc nD τ sig) → Buf (Elt F) ℓ) (ρ : Dev nD → PrngReg)

/-! ## The program in its pieces -/

/-- The host operation before the first call, -/
def opsA : List (HloOp τ sig (Elt F)) := [StableHlo.reshape main_arg1 main_v0 (rfl : (.i32 : EltTy) = .i32) shapeCasts_S4096_S4096x1]

/-- and those between the two calls. -/
def opsB : List (HloOp τ sig (Elt F)) :=
  [StableHlo.unary main_arg3 main_v2 (broadcastInDim S4096x1 ![0] bcast_S4096_S4096x1_0 : (⟨S4096, .i32⟩ : BufTy).Contents (Elt F) → (⟨S4096x1, .i32⟩ : BufTy).Contents (Elt F)),
   StableHlo.nullary main_c (constantI S_ 32 4#32),
   StableHlo.unary main_c main_v3 (broadcastInDim S4096x1 ![] bcast_S_S4096x1 : (⟨S_, .i32⟩ : BufTy).Contents (Elt F) → (⟨S4096x1, .i32⟩ : BufTy).Contents (Elt F)),
   StableHlo.binary main_v2 main_v3 main_v4 (muli : (⟨S4096x1, .i32⟩ : BufTy).Contents (Elt F) → (⟨S4096x1, .i32⟩ : BufTy).Contents (Elt F) → (⟨S4096x1, .i32⟩ : BufTy).Contents (Elt F)),
   StableHlo.nullary main_v5 (iotaInDim S4 32 0),
   StableHlo.unary main_v5 main_v6 (broadcastInDim S1x4 ![1] bcast_S4_S1x4_1 : (⟨S4, .i32⟩ : BufTy).Contents (Elt F) → (⟨S1x4, .i32⟩ : BufTy).Contents (Elt F)),
   StableHlo.unary main_v4 main_v7 (broadcastInDim S4096x4 ![0, 1] bcast_S4096x1_S4096x4_0_1 : (⟨S4096x1, .i32⟩ : BufTy).Contents (Elt F) → (⟨S4096x4, .i32⟩ : BufTy).Contents (Elt F)),
   StableHlo.unary main_v6 main_v8 (broadcastInDim S4096x4 ![0, 1] bcast_S1x4_S4096x4_0_1 : (⟨S1x4, .i32⟩ : BufTy).Contents (Elt F) → (⟨S4096x4, .i32⟩ : BufTy).Contents (Elt F)),
   StableHlo.binary main_v7 main_v8 main_v9 (addi : (⟨S4096x4, .i32⟩ : BufTy).Contents (Elt F) → (⟨S4096x4, .i32⟩ : BufTy).Contents (Elt F) → (⟨S4096x4, .i32⟩ : BufTy).Contents (Elt F)),
   StableHlo.reshape main_arg5 main_v10 (rfl : (.f32 : EltTy) = .f32) shapeCasts_S8192x4x256_S32768x2x128,
   StableHlo.reshape main_v9 main_v11 (rfl : (.i32 : EltTy) = .i32) shapeCasts_S4096x4_S16384]

/-- The TensorCore call in the pipeline's own signature. -/
def enter : Prog (TpuEff nD τ sig (Elt F) (ΛP (F := F)) .tc) PUnit := .op (.customCall (Pipeline.entry 0) ()) fun _ => .ret ⟨⟩

theorem main_eq (d : Dev nD) : main (F := F) d
    = (StableHlo.seq opsA >>= fun _ => SparseCore.liftProg enter >>= fun _ => StableHlo.seq opsB >>= fun _ => (K (F := F)).run d 0) := by
  rfl

/-! ## The buffers along the way -/

/-- At the launch, -/
def V0 (d : Dev nD) : Valuation τ sig (Elt F) := fun b => m (d, b)
/-- at the first call, -/
def VA (d : Dev nD) : Valuation τ sig (Elt F) := after opsA (V0 m d)

/-- What bounds the pairs the TensorCore has recorded before the second call. -/
def Bd (d : Dev nD) : Set (SemLoc sig × HIx 1) := {p | (K (F := F)).lev (T d, p.1) p.2 ≤ 8 * SparseCore.Cfg.Blocks.fst (Q := 1) (N := 1) 0}

/-- The logits. -/
def lg (d : Dev nD) : Buf (Elt F) ((T d : Thread nD τ).loc main_v1) :=
  Dense.logitsAt (fun c b => VA m c (Proc.devRef .tc b)) (fun d => (K (F := F)).Otc d 0) (Bd (F := F)) d

/-- after it, -/
def VB (d : Dev nD) : Valuation τ sig (Elt F) := Function.update (VA m d) v1' (lg m d)
/-- at the second, -/
def VC (d : Dev nD) : Valuation τ sig (Elt F) := after opsB (VB m d)

def Lc (d : Dev nD) : Buf (Elt F) (lLoc d) := VC m d v11'
def Cd (d : Dev nD) : Buf (Elt F) (cLoc d) := VC m d arg2'
def Tb (d : Dev nD) : Buf (Elt F) (tLoc d) := VC m d v10'
def O0 (d : Dev nD) : Buf (Elt F) (oLoc d) := VC m d v12'

/-- and at the end. -/
def VD (d : Dev nD) : Valuation τ sig (Elt F) := Function.update (VC m d) v12' (dist (Lc m) (Cd m) (Tb m) d)

/-! ## The first call -/

local notation "UC" => Pipeline.ucRefs Cert.KernelIdeal.τ Cert.KernelIdeal.sig

/-- What the TensorCore owes before the second call, its recorded pairs bounded. -/
def owed (d : Dev nD) : sProp 𝕄 := iprop(∃ W, ⌜↑W ⊆ Bd (F := F) d⌝ ∗ owes (T d : Thread nD τ) ((K (F := F)).Otc d 0) W)

/-- The rounds state the launch deals the first call's pipeline. -/
def ghost (d : Dev nD) : sProp 𝕄 :=
  iprop(Pipeline.cellsGhost (Pipeline.pin (pcfgs (F := F)) Dense.adm) EP 0 d ∗ Pipeline.toksInit (Pipeline.pin (pcfgs (F := F)) Dense.adm) EP 0 d)

theorem Otc_none (d : Dev nD) (g : GSem nD τ sig) : (K (F := F)).Otc d 0 g (none : HIx 1) = 0 := by
  by_contra h
  have := SparseCore.Cfg.lev_of_Otc_pos (K := K (F := F)) (Nat.pos_of_ne_zero h); rw [SparseCore.Cfg.lev_none] at this; omega

abbrev VAb (d : Dev nD) (b : Ref sig .tc) : Buf (Elt F) ((T d : Thread nD τ).loc b) := VA m d (Proc.devRef .tc b)
abbrev VBb (d : Dev nD) (b : Ref sig .tc) : Buf (Elt F) ((T d : Thread nD τ).loc b) := VB m d (Proc.devRef .tc b)

theorem Bd_none (d : Dev nD) (p : SemLoc sig × HIx 1) (h : p.2 = none) : p ∈ Bd (F := F) d := by
  change (K (F := F)).lev (T d, p.1) p.2 ≤ _
  rw [h, SparseCore.Cfg.lev_none]; exact Nat.zero_le _

theorem VB_out (d : Dev nD) : VBb m d main_v1 = Dense.logitsAt (VAb m) (fun d => (K (F := F)).Otc d 0) (Bd (F := F)) d := by
  unfold VBb VB; rw [Function.update_self]; rfl

theorem VB_ne (d : Dev nD) (b : Ref sig .tc) (h : b ≠ main_v1) : VBb m d b = VAb m d b := by
  unfold VBb VB; rw [Function.update_of_ne (fun e => h (Proc.devRef_injective _ e))]

/-- The first call's region. -/
def region := Dense.reg (F := F) (VAb m) (fun d => (K (F := F)).Otc d 0) (Bd (F := F)) (VBb m) Otc_none Bd_none (VB_out m) (VB_ne m)

set_option backward.isDefEq.respectTransparency.types false in
theorem enter_wp (d : Dev nD) :
    iprop(levAts (K (F := F)).L (K (F := F)).lev ∗ boundary (T d : Thread nD τ) ∗ held (T d) UC (VA m d) ∗ owed (F := F) d ∗ ghost (F := F) d)
      ⊢ (wp frame (wpE ((K (F := F)).defs (D (F := F))) 𝒱 (SparseCore.T d) none) Set.univ (SparseCore.liftProg enter)
          fun _ => iprop(boundary (T d : Thread nD τ) ∗ held (T d) UC (VB m d) ∗ owed (F := F) d) : sProp 𝕄) := by
  refine BI.Entails.trans ?_ ((K (F := F)).wp_liftProg (D (F := F)) 𝒱 (T d) Set.univ none enter _)
  unfold enter
  have key := (Pipeline.RegionSeg.wp (pcfgs (F := F)) Dense.adm (Dense.pdats (VAb m) (fun d => (K (F := F)).Otc d 0) (Bd (F := F))) none
    cellOf_inj EP defs₀ 𝒱₀ (K (F := F)).L (K (F := F)).lev (region m) d none (fun _ h => nomatch h) (α := PUnit) (fun _ => Prog.ret PUnit.unit)
    (fun _ => iprop(boundary (T d : Thread nD τ) ∗ held (T d) UC (VB m d) ∗ owed (F := F) d)))
  refine BI.Entails.trans ?_ key
  rw [← Pipeline.unscopedBufs_held d (VA m d), ← Pipeline.unscopedBufs_held d (VB m d)]
  change iprop(levAts (K (F := F)).L (K (F := F)).lev ∗ boundary (T d : Thread nD τ) ∗ unscopedBufs d (VAb m d) ∗ owed (F := F) d ∗ ghost (F := F) d)
    ⊢ (iprop(((boundary (T d : Thread nD τ) ∗ (unscopedBufs d (VBb m d) ∗ owed (F := F) d)) -∗ wp frame (wpE (D (F := F)) 𝒱 (SparseCore.T d) none) Set.univ
          (Prog.ret PUnit.unit) fun _ => iprop(boundary (T d : Thread nD τ) ∗ unscopedBufs d (VBb m d) ∗ owed (F := F) d))
        ∗ boundary (T d : Thread nD τ) ∗ (unscopedBufs d (VAb m d) ∗ owed (F := F) d) ∗ levAts (K (F := F)).L (K (F := F)).lev ∗ ghost (F := F) d) : sProp 𝕄)
  iintro ⟨Hlv, Hb, Hub, HO, Hg⟩
  isplitr [Hlv Hb Hub HO Hg]
  · iintro ⟨Hb, Hub, HO⟩
    rw [wp_ret]; imodintro
    isplitl [Hb]; · iexact Hb
    isplitl [Hub]; · iexact Hub
    iexact HO
  isplitl [Hb]; · iexact Hb
  isplitl [Hub HO]
  · isplitl [Hub]; · iexact Hub
    iexact HO
  isplitl [Hlv]; · iexact Hlv
  iexact Hg

/-! ## The second call's operands out of the buffers held -/

local notation "V4" => ({v11', arg2', v10', v12'} : Finset (DevRef Cert.KernelIdeal.τ Cert.KernelIdeal.sig))

theorem V4_sub : V4 ⊆ UC := by decide

theorem held_V4 (d : Dev nD) (W : Valuation τ sig (Elt F)) :
    (held (T d) V4 W : sProp 𝕄) = iprop((lLoc d ↦{fullShare} W v11') ∗ (cLoc d ↦{fullShare} W arg2') ∗ (tLoc d ↦{fullShare} W v10') ∗ oLoc d ↦{fullShare} W v12') := by
  unfold held
  rw [SparseCore.bigSep_insert' (by decide), SparseCore.bigSep_insert' (by decide), SparseCore.bigSep_insert' (by decide), bigSep_singleton]

theorem VD_ne (d : Dev nD) {b : DevRef τ sig} (h : b ≠ v12') : VD m d b = VC m d b := Function.update_of_ne h _ _

theorem held_rest (d : Dev nD) : (held (T d) (UC \ V4) (VC m d) : sProp 𝕄) = held (T d) (UC \ V4) (VD m d) :=
  held_congr _ fun b hb => (VD_ne m d fun e => (Finset.mem_sdiff.mp hb).2 (by rw [e]; decide)).symm

theorem held_VC (d : Dev nD) : (held (T d) UC (VC m d) : sProp 𝕄)
    = iprop((bigSep Finset.univ fun c : Fin ((K (F := F)).nCore 0) => (P (Lc m) (Cd m) (Tb m) (O0 m)).st 0 d c) ∗ held (T d) (UC \ V4) (VD m d)) := by
  rw [held_sub_split _ V4_sub, held_rest, held_V4, show (bigSep Finset.univ fun c : Fin ((K (F := F)).nCore 0) => (P (Lc m) (Cd m) (Tb m) (O0 m)).st 0 d c)
    = _ from cores_whole (Lc m) (Cd m) (Tb m) d (O0 m d)]
  rfl

theorem held_VD (d : Dev nD) : (held (T d) UC (VD m d) : sProp 𝕄)
    = iprop((bigSep Finset.univ fun c : Fin ((K (F := F)).nCore 0) => (P (Lc m) (Cd m) (Tb m) (O0 m)).dn 0 d c) ∗ held (T d) (UC \ V4) (VD m d)) := by
  rw [held_sub_split _ V4_sub, held_V4, show (bigSep Finset.univ fun c : Fin ((K (F := F)).nCore 0) => (P (Lc m) (Cd m) (Tb m) (O0 m)).dn 0 d c)
    = _ from cores_whole (Lc m) (Cd m) (Tb m) d (dist (Lc m) (Cd m) (Tb m) d),
    VD_ne m d (b := v11') (by decide), VD_ne m d (b := arg2') (by decide), VD_ne m d (b := v10') (by decide),
    show VD m d v12' = dist (Lc m) (Cd m) (Tb m) d from Function.update_self _ _ _]
  rfl

/-! ## @main -/

theorem tc_owes (d : Dev nD) : ((K (F := F)).tcSt EH d 0 : sProp 𝕄) ⊢ iprop(owed (F := F) d ∗ (owed (F := F) d -∗ (K (F := F)).tcSt EH d 0)) := by
  unfold SparseCore.Cfg.tcSt owed
  iintro ⟨⟨%W, %hW, HO⟩, Hr⟩
  isplitl [HO]
  · iexists W; isplitr; · ipureintro; exact fun p hp => hW p hp
    iexact HO
  iintro ⟨%W, %hW, HO⟩
  isplitl [HO]
  · iexists W; isplitr; · ipureintro; exact fun p hp => hW hp
    iexact HO
  iexact Hr

theorem opsA_sub : ∀ op ∈ opsA (F := F), op.bufs ⊆ UC := fun op h =>
  Pipeline.sub_ucRefs op (List.forall_iff_forall_mem.mp (show (opsA (F := F)).Forall fun op => op.bufs ⊆ StableHlo.tcRefs τ sig by
    simp only [opsA, List.Forall, StableHlo.reshape_bufs_sub]) op h)
theorem opsB_sub : ∀ op ∈ opsB (F := F), op.bufs ⊆ UC := fun op h =>
  Pipeline.sub_ucRefs op (List.forall_iff_forall_mem.mp (show (opsB (F := F)).Forall fun op => op.bufs ⊆ StableHlo.tcRefs τ sig by
    simp only [opsB, List.Forall, StableHlo.reshape_bufs_sub, StableHlo.nullary_bufs_sub, StableHlo.unary_bufs_sub, StableHlo.binary_bufs_sub, and_self]) op h)
theorem opsA_fresh : ∀ op ∈ opsA (F := F), op.fresh = ∅ :=
  List.forall_iff_forall_mem.mp (show (opsA (F := F)).Forall fun op => op.fresh = ∅ from rfl)
theorem opsB_fresh : ∀ op ∈ opsB (F := F), op.fresh = ∅ :=
  List.forall_iff_forall_mem.mp (show (opsB (F := F)).Forall fun op => op.fresh = ∅ from ⟨rfl, rfl, rfl, rfl, rfl, rfl, rfl, rfl, rfl, rfl, rfl⟩)

set_option maxRecDepth 16384 in
theorem hmain (κ : GSem nD τ sig → ℕ) (d : Dev nD) :
    iprop((K (F := F)).ctx EH (P (Lc m) (Cd m) (Tb m) (O0 m)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ held (T d) UC (VD m d) ∗ (K (F := F)).tcEnd d) := by
  rw [main_eq]
  unfold SparseCore.Cfg.tcRes SparseCore.Cfg.tcEnd
  rw [show (unscopedBufs d (fun b => m ((SparseCore.T d).loc b)) : sProp 𝕄) = held (T d) UC (V0 m d) from Pipeline.unscopedBufs_held d (V0 m d)]
  iintro ⟨#Hctx, Hst, ⟨Hb, Hheld, Hts, -⟩, Hg⟩
  iapply (wp_seq 𝒱 none Set.univ d UC _ opsA opsA_sub opsA_fresh (V0 m d)) $$ [Hb Hheld]
  · isplitl [Hb] <;> iassumption
  iintro ⟨Hb, Hheld⟩
  rw [wp_bind]
  ihave Hst' := (tc_owes d) $$ Hst
  icases Hst' with ⟨HO, Hst⟩
  ihave #Hlv := (SparseCore.Cfg.ctx_levAts κ) $$ Hctx
  iapply (wp_wand_r frame _ Set.univ)
  isplitl [Hb Hheld HO Hg]
  · iapply (enter_wp m d)
    isplitr; · iexact Hlv
    isplitl [Hb]; · iexact Hb
    isplitl [Hheld]; · iexact Hheld
    isplitl [HO]; · iexact HO
    iexact Hg
  iintro %_ ⟨Hb, Hheld, HO⟩
  ihave Hst := Hst $$ HO
  iapply (wp_seq 𝒱 none Set.univ d UC _ opsB opsB_sub opsB_fresh (VB m d)) $$ [Hb Hheld]
  · isplitl [Hb] <;> iassumption
  iintro ⟨Hb, Hheld⟩
  ihave Hh := (show (held (d.tc : Thread nD τ) UC (after opsB (VB m d)) : sProp 𝕄) ⊢ _ from Entails.of_eq (held_VC m d)) $$ Hheld
  icases Hh with ⟨Hops, Hrest⟩
  iapply ((K (F := F)).wp_run (D (F := F)) 𝒱 (EH := EH) (P := P (Lc m) (Cd m) (Tb m) (O0 m)) κ d 0) $$ [Hst Hops Hb Hrest Hts]
  isplitr; · iexact Hctx
  isplitl [Hst]; · iexact Hst
  isplitl [Hops]; · iexact Hops
  iintro ⟨Hst, Hdn⟩
  isplitl [Hst]; · iexact Hst
  isplitr [Hb Hts]
  · rw [held_VD]
    isplitl [Hdn]; · iexact Hdn
    iexact Hrest
  isplitl [Hb] <;> iassumption

/-! ## The launch -/

/-- The handshakes' cells and tokens, and the pipeline's. -/
def u₀ : UU := (initOf (K (F := F)).hsCells (K (F := F)).hsToks,
  (initOf (Pipeline.cells (Pipeline.pin (pcfgs (F := F)) Dense.adm) cellOf_inj) (Pipeline.launchToks (Pipeline.pin (pcfgs (F := F)) Dense.adm) cellOf_inj), 1))

theorem ghost_of_cells :
    (BI.own (((Emb.inl : Emb UP (UP × Counters)).trans (embR : Emb (UP × Counters) 𝕄)) (initOf (Pipeline.cells (Pipeline.pin (pcfgs (F := F)) Dense.adm) cellOf_inj) (Pipeline.launchToks (Pipeline.pin (pcfgs (F := F)) Dense.adm) cellOf_inj))) : sProp 𝕄)
      ⊢ iprop(|==> bigSep Finset.univ fun d : Dev nD => ghost (F := F) d) := by
  refine (Pipeline.fund_ghost (Pipeline.pin (pcfgs (F := F)) Dense.adm) (EP (F := F)) cellOf_inj).trans (bupd_mono ?_)
  rw [show (bigSep Finset.univ fun d : Dev nD => ghost (F := F) d)
    = bigSep Finset.univ fun d : Dev nD => iprop((bigSep Finset.univ fun p : Fin 1 => Pipeline.cellsGhost (Pipeline.pin (pcfgs (F := F)) Dense.adm) EP p d)
        ∗ bigSep Finset.univ fun p : Fin 1 => Pipeline.toksInit (Pipeline.pin (pcfgs (F := F)) Dense.adm) EP p d) from
    bigSep_congr fun d _ => by rw [bigSep_univ_of_subsingleton (0 : Fin 1), bigSep_univ_of_subsingleton (0 : Fin 1)]; rfl, bigSep_sep']
  exact (SparseCore.ent (Entails.of_eq (PROP := sProp 𝕄) rfl))

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P (Lc m) (Cd m) (Tb m) (O0 m)).x q thr) := by
  unfold u₀
  iintro Hu
  ihave H := (ownU_pair (initOf (K (F := F)).hsCells (K (F := F)).hsToks) (_ : UP × Counters)) $$ Hu
  icases H with ⟨HH, HR⟩
  ihave HR' := (own_pair_emb (embR : Emb (UP × Counters) 𝕄) _ (1 : Counters)) $$ HR
  icases HR' with ⟨HP, -⟩
  imod (ghost_of_cells (F := F)) $$ HP with HG
  imodintro
  isplitl [HH]; · iexact HH
  isplitl [HG]; · iexact HG
  rw [show (bigSep Finset.univ fun thr : Thread nD τ => bigSep Finset.univ fun q : Fin 1 => (P (F := F) (Lc m) (Cd m) (Tb m) (O0 m)).x q thr) = bigSep Finset.univ fun _ => (iprop(emp) : sProp 𝕄) from
    bigSep_congr fun _ _ => bigSep_univ_of_subsingleton (0 : Fin 1), show (bigSep (Finset.univ : Finset (Thread nD τ)) fun _ => (iprop(emp) : sProp 𝕄)) = iprop(emp) from bigSep_emp_const _]
  iempintro

/-- What the claims read of device `d`'s final state: every array at its final contents. -/
def fq (d : Dev nD) (s' : Phys nD τ sig (Elt F)) : Prop := ∀ b : {b : DevRef τ sig // b ∈ UC}, s'.mem.mem (d, b.1) = VD m d b.1

theorem hfin (d : Dev nD) (s' : Phys nD τ sig (Elt F)) : iprop((held (T d) UC (VD m d) : sProp 𝕄) ∗ SI s') ⊢ (⌜fq m d s'⌝ : sProp 𝕄) := by
  suffices one : ∀ b : {b : DevRef τ sig // b ∈ UC}, iprop((held (T d) UC (VD m d) : sProp 𝕄) ∗ SI s') ⊢ (⌜s'.mem.mem (d, b.1) = VD m d b.1⌝ : sProp 𝕄) from
    (Laws.forall_intro one).trans Laws.pure_forall.2
  intro b
  unfold held
  iintro ⟨H, HSI⟩
  ihave H' := (SparseCore.ent (bigSep_elim (Φ := fun b : DevRef τ sig => (pointsTo ((d, b) : Loc nD τ sig) Finset.univ fullShare (VD m d b) : sProp 𝕄)) b.2)) $$ H
  ihave H := (SI_pointsTo_agree (st := s') (ℓ := (d, b.1)) (I := Finset.univ) (q := fullShare) (f := VD m d b.1)) $$ [HSI H']
  · isplitl [HSI] <;> iassumption
  icases H with %h
  ipureintro; exact funext fun i => h i (Finset.mem_univ i)

def QC : PUnit × MemSt nD τ sig (Elt F) → Prop := fun r => (∀ (d : Dev nD) (b : DevRef τ sig), b ∈ UC → r.2.mem (d, b) = VD m d b) ∧ r.2.sem = fun _ => 0

theorem run_main [∀ e, Nonempty (Elt F e)] (hL : ∀ d, Rows (Lc m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Lc m) (Cd m) (Tb m) (O0 m)) (A := ∅) facts v₀
    (fun q hq => match q with | 0 => nomatch hq)
    (fun q _ => match q with | 0 => tileObl (Lc m) (Cd m) (Tb m) (O0 m) hL)
    (fun q _ => match q with | 0 => SparseCore.Cfg.VecSplit.of_plain (vecSplit (Lc m) (Cd m) (Tb m) (O0 m)))
    m ρ main (ghost (F := F)) (fun d => held (T d) UC (VD m d)) (u₀ (F := F)) (sep_elim_left.trans (hu₀ m)) (hmain m ρ) (fq m) (hfin m) (QC m)
    (fun _ h hz => ⟨fun d b hb => h d ⟨b, hb⟩, hz⟩)

end Cert.Proof.Whole

end
-- ==== Proof.Vals.lean ====
/- What the arrays hold at the end, out of what they held at the launch. -/
module

public import proofs.«01_k».proof.Proof.Main
public import proofs.«01_k».proof.Pre_classes_in_range
public import Idealize.ShloMosaic.Lib.ReduceAll
public import Idealize.ShloMosaic.Lib.ValueIdx

@[expose] public section

noncomputable section

namespace Cert.Proof.Whole

open Cert.KernelIdeal Cert.KernelIdeal.Gen
open Cert.Proof.Dist
open Idealize.ShloMosaic
open Idealize.ShloMosaic.SparseCore (S V T)
open Idealize.ShloMosaic.StableHlo (after)

variable {F : FTy → Type} [FloatOps F]
variable (m : (ℓ : Loc nD τ sig) → Buf (Elt F) ℓ) (d : Dev nD)

local notation "⟪" r "⟫" => (Proc.devRef Proc.tc r : DevRef Cert.KernelIdeal.τ Cert.KernelIdeal.sig)

/-- The row numbers the host writes for the classes `p`. -/
def rowsOf (p : IVec S4096 32) : IVec S16384 32 :=
  shapeCast S16384
    (addi (broadcastInDim S4096x4 ![0, 1] bcast_S4096x1_S4096x4_0_1 (muli (broadcastInDim S4096x1 ![0] bcast_S4096_S4096x1_0 p)
        (broadcastInDim S4096x1 ![] bcast_S_S4096x1 (constantI S_ 32 4#32))))
      (broadcastInDim S4096x4 ![0, 1] bcast_S1x4_S4096x4_0_1 (broadcastInDim S1x4 ![1] bcast_S4_S1x4_1 (iotaInDim S4 32 0)))) shapeCasts_S4096x4_S16384

theorem VD_eq {b : DevRef τ sig} (h12 : b ≠ ⟪main_v12⟫) (hB : after opsB (VB m d) b = VB m d b) (h1 : b ≠ ⟪main_v1⟫)
    (hA : after opsA (V0 m d) b = V0 m d b) : VD m d b = m (d, b) := by
  rw [VD_ne m d h12]; unfold VC; rw [hB]; unfold VB; rw [Function.update_of_ne h1]; unfold VA; rw [hA]; rfl

theorem VD_arg0 : VD m d ⟪main_arg0⟫ = m (d, ⟪main_arg0⟫) :=
  VD_eq m d (by decide) (by unfold opsB; after_results_simp) (by decide) (by unfold opsA; after_results_simp)
theorem VD_arg1 : VD m d ⟪main_arg1⟫ = m (d, ⟪main_arg1⟫) :=
  VD_eq m d (by decide) (by unfold opsB; after_results_simp) (by decide) (by unfold opsA; after_results_simp)
theorem VD_arg2 : VD m d ⟪main_arg2⟫ = m (d, ⟪main_arg2⟫) :=
  VD_eq m d (by decide) (by unfold opsB; after_results_simp) (by decide) (by unfold opsA; after_results_simp)
theorem VD_arg3 : VD m d ⟪main_arg3⟫ = m (d, ⟪main_arg3⟫) :=
  VD_eq m d (by decide) (by unfold opsB; after_results_simp) (by decide) (by unfold opsA; after_results_simp)
theorem VD_arg4 : VD m d ⟪main_arg4⟫ = m (d, ⟪main_arg4⟫) :=
  VD_eq m d (by decide) (by unfold opsB; after_results_simp) (by decide) (by unfold opsA; after_results_simp)
theorem VD_arg5 : VD m d ⟪main_arg5⟫ = m (d, ⟪main_arg5⟫) :=
  VD_eq m d (by decide) (by unfold opsB; after_results_simp) (by decide) (by unfold opsA; after_results_simp)

theorem VD_v12 : VD m d ⟪main_v12⟫ = dist (Lc m) (Cd m) (Tb m) d := Function.update_self _ _ _

theorem VB_arg3 : VB m d ⟪main_arg3⟫ = m (d, ⟪main_arg3⟫) := by
  unfold VB VA; rw [Function.update_of_ne (by decide)]; unfold opsA; after_results_simp; rfl
theorem VB_arg5 : VB m d ⟪main_arg5⟫ = m (d, ⟪main_arg5⟫) := by
  unfold VB VA; rw [Function.update_of_ne (by decide)]; unfold opsA; after_results_simp; rfl

theorem Cd_eq : Cd m d = m (d, ⟪main_arg2⟫) := (VD_ne m d (by decide)).symm.trans (VD_arg2 m d)

theorem Lc_eq : Lc m d = rowsOf (m (d, ⟪main_arg3⟫)) := by
  rw [← VB_arg3 m d]; unfold Lc VC opsB; after_results_simp; rfl

theorem Tb_eq : Tb m d = shapeCast S32768x2x128 (m (d, ⟪main_arg5⟫) : (⟨S8192x4x256, .f32⟩ : BufTy).Contents (Elt F)) shapeCasts_S8192x4x256_S32768x2x128 := by
  rw [← VB_arg5 m d]; unfold Tb VC opsB; after_results_simp; rfl

theorem VD_v1 : VD m d ⟪main_v1⟫ = lg m d := by
  rw [VD_ne m d (by decide)]; unfold VC opsB; after_results_simp; unfold VB; rw [Function.update_self]

theorem VA_v0 : VA m d ⟪main_v0⟫ = shapeCast S4096x1 (m (d, ⟪main_arg1⟫) : (⟨S4096, .i32⟩ : BufTy).Contents (Elt F)) shapeCasts_S4096_S4096x1 := by
  unfold VA opsA; after_results_simp; rfl

/-! ## The row numbers -/

theorem rowsOf_apply (p : IVec S4096 32) (b : Fin 4096) (c : Fin 4) :
    rowsOf p (ValueIdx.ix1 ⟨4 * b.1 + c.1, by omega⟩) = p (ValueIdx.ix1 b) * 4#32 + BitVec.ofNat 32 c.1 := by
  unfold rowsOf
  rw [shapeCast_apply _ _ _ (ValueIdx.ix2 b c : S4096x4.Idx) (by
    rw [Shape.rowMajor_val_two, Shape.rowMajor_val_one]
    show b.1 * 4 + c.1 = 4 * b.1 + c.1
    omega)]
  refine congrArg (fun q => p q * 4#32 + BitVec.ofNat 32 c.1) (funext fun a => ?_)
  obtain rfl : a = 0 := Subsingleton.elim _ _
  rfl

theorem rows_toNat (v : BitVec 32) (hv : v.toNat < 8192) (c : Fin 4) : (v * 4#32 + BitVec.ofNat 32 c.1).toNat = v.toNat * 4 + c.1 := by
  have := c.2
  rw [BitVec.toNat_add, BitVec.toNat_mul, BitVec.toNat_ofNat, BitVec.toNat_ofNat]
  omega

theorem rowsOf_lt (p : IVec S4096 32) (hp : ∀ i, (p i).toNat < 8192) (x : S16384.Idx) : (rowsOf p x).toNat < 32768 := by
  have hx : (x 0).1 < 16384 := (x 0).2
  have e : x = ValueIdx.ix1 (⟨4 * (⟨(x 0).1 / 4, by omega⟩ : Fin 4096).1 + (⟨(x 0).1 % 4, by omega⟩ : Fin 4).1, by dsimp only; omega⟩ : Fin 16384) := by
    refine funext fun a => ?_
    obtain rfl : a = 0 := Subsingleton.elim _ _
    exact Fin.ext (by show (x 0).1 = 4 * ((x 0).1 / 4) + (x 0).1 % 4; omega)
  rw [e, rowsOf_apply, rows_toNat _ (hp _)]
  have := hp (ValueIdx.ix1 (⟨(x 0).1 / 4, by omega⟩ : Fin 4096))
  have : (x 0).1 % 4 < 4 := by omega
  show _ * 4 + (x 0).1 % 4 < 32768
  omega

theorem rows_ok (h : ∀ d i, (m (d, ⟪main_arg3⟫) i).toNat < 8192) (d : Dev nD) : Rows (Lc m d) := fun x => by
  rw [Lc_eq]; exact rowsOf_lt _ (h d) x

end Cert.Proof.Whole

/-! ## What the precondition says -/

namespace Cert.Proof.Pre

open Idealize.ShloMosaic Cert.Pre_classes_in_range

instance facts : Facts where
  bcast_S_S4096 := by decide
  reducesTo_S4096_S_d0 := by decide
  h_S_ := by decide

instance : Subsingleton S_.Idx := ⟨fun a b => funext fun i => i.elim0⟩

variable {F : FTy → Type} [FloatOps F]

/-- A word at least 0 and below 8192 as a signed number is so as an unsigned one. -/
theorem inRange (v : BitVec 32) (e : IntOp.andi (IntOp.cmpi .sge v 0#32) (IntOp.cmpi .slt v 8192#32) = 1#1) : v.toNat < 8192 := by
  obtain ⟨h1, h2⟩ := IntOp.andi_eq_one.1 e
  have h1 := IntOp.cmpi_sge.1 h1
  have h2 := IntOp.cmpi_slt.1 h2
  simp only [BitVec.toInt_eq_toNat_cond, BitVec.toNat_ofNat, Nat.reducePow, Nat.reduceMod] at h1 h2
  omega

/-- Where the precondition holds, every class is in range. -/
theorem classes (x0 : FVec F S4096x256 .f32) (x1 : IVec S4096 32) (x2 : FVec F S4096x256 .f32) (x3 : IVec S4096 32) (x4 : FVec F S8192x256 .f32)
    (x5 : FVec F S8192x4x256 .f32) (h : fn x0 x1 x2 x3 x4 x5 = fun _ => 1#1) :
    (∀ i, (x1 i).toNat < 8192) ∧ ∀ i, (x3 i).toNat < 8192 := by
  obtain ⟨h1, h2⟩ := IntOp.andi_eq_one.1 (congrFun h (Shape.Idx.first facts.h_S_))
  exact ⟨fun i => inRange _ (Host.reduce_andi_all _ _ _ _ _ h1 i), fun i => inRange _ (Host.reduce_andi_all _ _ _ _ _ h2 i)⟩

end Cert.Proof.Pre

end
-- ==== Proof.Frames.lean ====
/- The frames: the runs read at the arguments and at the counters. -/
module

public import proofs.«01_k».proof.Defs
public import proofs.«01_k».proof.Proof.Vals
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem
open Cert.KernelIdeal (nD τ sig)

variable {F : FTy → Type} [FloatOps F]

/-- The program's arguments on device `c` end as they were. -/
def Kept (m : (ℓ : Loc nD τ sig) → Buf (Elt F) ℓ) (r : PUnit × MemSt nD τ sig (Elt F)) (c : Dev nD) : Prop :=
  r.2.mem ((c.tc : Thread nD τ).loc Cert.KernelIdeal.main_arg0) = m ((c.tc : Thread nD τ).loc Cert.KernelIdeal.main_arg0)
  ∧ r.2.mem ((c.tc : Thread nD τ).loc Cert.KernelIdeal.main_arg1) = m ((c.tc : Thread nD τ).loc Cert.KernelIdeal.main_arg1)
  ∧ r.2.mem ((c.tc : Thread nD τ).loc Cert.KernelIdeal.main_arg2) = m ((c.tc : Thread nD τ).loc Cert.KernelIdeal.main_arg2)
  ∧ r.2.mem ((c.tc : Thread nD τ).loc Cert.KernelIdeal.main_arg3) = m ((c.tc : Thread nD τ).loc Cert.KernelIdeal.main_arg3)
  ∧ r.2.mem ((c.tc : Thread nD τ).loc Cert.KernelIdeal.main_arg4) = m ((c.tc : Thread nD τ).loc Cert.KernelIdeal.main_arg4)
  ∧ r.2.mem ((c.tc : Thread nD τ).loc Cert.KernelIdeal.main_arg5) = m ((c.tc : Thread nD τ).loc Cert.KernelIdeal.main_arg5)

theorem kept (m : (ℓ : Loc nD τ sig) → Buf (Elt F) ℓ) (r : PUnit × MemSt nD τ sig (Elt F)) (h : Whole.QC m r) (c : Dev nD) : Kept m r c :=
  ⟨(h.1 c (Proc.devRef .tc Cert.KernelIdeal.main_arg0) (by decide)).trans (Whole.VD_arg0 m c),
    (h.1 c (Proc.devRef .tc Cert.KernelIdeal.main_arg1) (by decide)).trans (Whole.VD_arg1 m c),
    (h.1 c (Proc.devRef .tc Cert.KernelIdeal.main_arg2) (by decide)).trans (Whole.VD_arg2 m c),
    (h.1 c (Proc.devRef .tc Cert.KernelIdeal.main_arg3) (by decide)).trans (Whole.VD_arg3 m c),
    (h.1 c (Proc.devRef .tc Cert.KernelIdeal.main_arg4) (by decide)).trans (Whole.VD_arg4 m c),
    (h.1 c (Proc.devRef .tc Cert.KernelIdeal.main_arg5) (by decide)).trans (Whole.VD_arg5 m c)⟩

theorem run_pre [∀ e, Nonempty (Elt F e)] (m : (ℓ : Loc nD τ sig) → Buf (Elt F) ℓ) (ρ : Dev nD → PrngReg)
    (h : ∀ (d : Dev nD) i, (m ((d.tc : Thread nD τ).loc Cert.KernelIdeal.main_arg3) i).toNat < 8192) :
    θ_run (Cert.KernelIdeal.defs (F := F)) (Cert.KernelIdeal.threads (F := F)) ⟨m, fun _ => 0, ρ⟩ (Whole.QC m) :=
  Whole.run_main m ρ (Whole.rows_ok m h)

theorem frame_run [∀ e, Nonempty (Elt F e)] (m : (ℓ : Loc nD τ sig) → Buf (Elt F) ℓ) (ρ : Dev nD → PrngReg)
    (h : ∀ (d : Dev nD) i, (m ((d.tc : Thread nD τ).loc Cert.KernelIdeal.main_arg3) i).toNat < 8192) :
    θ_run (Cert.KernelIdeal.defs (F := F)) (Cert.KernelIdeal.threads (F := F)) ⟨m, fun _ => 0, ρ⟩ (fun r => (∀ c : Dev nD, Kept m r c) ∧ r.2.sem = fun _ => 0) :=
  (θ_run Cert.KernelIdeal.defs _ _).mono (fun r h => ⟨kept m r h, h.2⟩) (run_pre m ρ h)

/-- The two programs' body tables agree, label by label, -/
theorem defs₀_eq : Cert.Kernel.defs₀ (F := F) = Cert.KernelIdeal.defs₀ (F := F) := by
  funext p l a
  unfold Cert.Kernel.defs₀ Cert.KernelIdeal.defs₀
  rcases p with _ | c | ⟨c, s⟩
  all_goals
    match l, a with
    | 0, a => rfl
    | 1, a => rfl

/-- and so do the tables the launch makes of them. -/
theorem defs_eq : Cert.Kernel.defs (F := F) = Cert.KernelIdeal.defs (F := F) :=
  congrArg (fun D => Cert.KernelIdeal.sc.defs (Pipeline.defs Cert.KernelIdeal.pcfgs D)) (defs₀_eq (F := F))

theorem frame_kernel : Cert.quiescent_Kernel := fun m ρ hpre => by
  have key := frame_run (F := Bits) m ρ fun d => (Pre.classes _ _ _ _ _ _ (hpre d)).2
  rw [← defs_eq] at key
  exact key

theorem frame_ideal : Cert.quiescent_KernelIdeal := fun m ρ hpre =>
  frame_run (F := Ideal) m ρ fun d => (Pre.classes _ _ _ _ _ _ (hpre d)).2

theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.LogitKer.lean ====
/- The logits block a grid point leaves, over the extended reals: cosines of normalised rows, the label's turned by the margin. -/
module

public import proofs.«01_k».proof.Proof.Vals
public import Idealize.ShloMosaic.Lib.IdealHost
public import Idealize.ShloMosaic.Lib.MatmulPlain

@[expose] public section

noncomputable section

namespace Cert.Proof.Dense

open Cert.KernelIdeal Cert.KernelIdeal.Gen
open Idealize.ShloMosaic Idealize.ShloMosaic.ValueIdx

/-- A row's sum of squares with the guard added. -/
def energy (f : Fin 256 → EReal) : EReal := ∑ k : Fin 256, f k * f k + Ideal.ofBits .f32 0x179ABE15#32

/-- The cosine of two rows. -/
def cosine (f g : Fin 256 → EReal) : EReal := ∑ k : Fin 256, f k * Ideal.rsqrt (energy f) * (g k * Ideal.rsqrt (energy g))

/-- The cosine of the angle widened by the margin, or its straight continuation past the bend. -/
def phi (c : EReal) : EReal :=
  if Ideal.cmp .ogt c (Ideal.ofBits .f32 0xBF60A940#32) = 1#1 then
    c * Ideal.ofBits .f32 0x3F60A940#32
      - Ideal.sqrt (min (Ideal.ofBits .f32 0x3F800000#32) (max (Ideal.ofBits .f32 0x00000000#32) (Ideal.ofBits .f32 0x3F800000#32 - c * c)))
        * Ideal.ofBits .f32 0x3EF57744#32
  else c - Ideal.ofBits .f32 0x3E757744#32

/-- A logit: row `n` against class `k`. -/
def logit (X : S4096x256.Idx → EReal) (W : S8192x256.Idx → EReal) (L : S4096.Idx → BitVec 32) (n : Fin 4096) (k : Fin 8192) : EReal :=
  (if BitVec.ofNat 32 k.1 = L (ix1 n) then phi (cosine (fun e => X (ix2 n e)) (fun e => W (ix2 k e)))
    else cosine (fun e => X (ix2 n e)) (fun e => W (ix2 k e))) * Ideal.ofBits .f32 0x41800000#32

/-! ## The block's parts -/

theorem row_scale (w : S1024x256.Idx → EReal) (q : Fin 1024) (e : Fin 256) :
    k0_pay2 (F := Ideal) w (ix2 q e) = w (ix2 q e) * Ideal.rsqrt (energy fun e => w (ix2 q e)) := by
  unfold k0_pay2
  dsimp only
  refine (shapeCast_apply _ _ (ix2 q e) (ix2 q e) rfl).trans ?_
  refine congrArg (fun z => w (ix2 q e) * Ideal.rsqrt (z + Ideal.ofBits .f32 0x179ABE15#32)) ?_
  refine (shapeCast_apply _ _ _ (ix1 q) ?_).trans ?_
  · rw [Shape.rowMajor_val_two, Shape.rowMajor_val_one]; show q.1 = q.1 * 1 + 0; omega
  refine (Ideal.multiReduction_add_single _ _ _ _ _ _).trans (Finset.sum_congr rfl fun k _ => ?_)
  refine congrArg (fun z => w z * w z) (funext fun a => ?_)
  match a with
  | 0 => rfl
  | 1 => rfl

theorem cos_block (x : S512x256.Idx → EReal) (wb : S1024x256.Idx → EReal) (r : Fin 512) (q : Fin 1024) :
    k0_pay3 (F := Ideal) x wb (ix2 r q) = ∑ e : Fin 256, x (ix2 r e) * Ideal.rsqrt (energy fun e => x (ix2 r e)) * wb (ix2 q e) := by
  unfold k0_pay3
  dsimp only
  refine (Ideal.matmul_transposedRhs_apply (M := 512) (K := 256) (N := 1024) _ _ _ _ r q).trans ?_
  refine (congrArg (· + _) Ideal.ofBits_zero_f32).trans ((zero_add _).trans (Finset.sum_congr rfl fun e _ => ?_))
  refine congrArg (fun z => x (ix2 r e) * Ideal.rsqrt (z + Ideal.ofBits .f32 0x179ABE15#32) * wb (ix2 q e)) ?_
  refine (shapeCast_apply _ _ _ (ix1 r) ?_).trans ?_
  · rw [Shape.rowMajor_val_two, Shape.rowMajor_val_one]; show r.1 = r.1 * 1 + 0; omega
  refine (Ideal.multiReduction_add_single _ _ _ _ _ _).trans (Finset.sum_congr rfl fun k _ => ?_)
  refine congrArg (fun z => x z * x z) (funext fun a => ?_)
  match a with
  | 0 => rfl
  | 1 => rfl

/-- The class number of column `q` of a point's block. -/
def classOf (i : grid0.Coords) (q : Fin 1024) : BitVec 32 := BitVec.ofNat 32 (1024 * (i 0).1 + q.1)

theorem mask_block (i : grid0.Coords) (l : S512x1.Idx → BitVec 32) (r : Fin 512) (q : Fin 1024) :
    k0_pay4 (F := Ideal) i l (ix2 r q) = BitVec.ofBool (decide (classOf i q = l (ix2 r 0))) := by
  unfold k0_pay4
  dsimp only
  have hl : broadcastTo S512x1024 (shapeCast S512x1 l shapeCasts_S512x1_S512x1) broadcasts_S512x1_S512x1024 (ix2 r q) = l (ix2 r 0) :=
    shapeCast_apply l _ _ (ix2 r 0) rfl
  have hc : (BitVec.ofNat 32 (0 * 1024 + q.1) + BitVec.ofNat 32 (i 0).1 * 1024#32) = classOf i q := by
    unfold classOf
    have h0 : (i 0).1 < 8 := (i 0).2
    have := q.2
    apply BitVec.eq_of_toNat_eq
    rw [BitVec.toNat_add, BitVec.toNat_mul]
    simp only [BitVec.toNat_ofNat]
    omega
  show IntOp.cmpi .eq (BitVec.ofNat 32 (0 * 1024 + q.1) + BitVec.ofNat 32 (i 0).1 * 1024#32) _ = _
  rw [hl, hc]
  rfl

theorem classOf_inj (i : grid0.Coords) (q q' : Fin 1024) (h : classOf i q = classOf i q') : q = q' := by
  have h0 : (i 0).1 < 8 := (i 0).2
  have h := congrArg BitVec.toNat h
  unfold classOf at h
  rw [BitVec.toNat_ofNat, BitVec.toNat_ofNat] at h
  exact Fin.ext (by have := q.2; have := q'.2; omega)

/-- The masked sum along a row keeps the label's cosine, where the block has the label's column. -/
theorem diag_block (i : grid0.Coords) (x : S512x256.Idx → EReal) (wb : S1024x256.Idx → EReal) (l : S512x1.Idx → BitVec 32) (r : Fin 512) (q : Fin 1024)
    (h : classOf i q = l (ix2 r 0)) : k0_pay5 (F := Ideal) i x wb l (ix2 r 0) = k0_pay3 (F := Ideal) x wb (ix2 r q) := by
  unfold k0_pay5
  dsimp only
  refine (shapeCast_apply _ _ _ (ix1 r) ?_).trans ?_
  · rw [Shape.rowMajor_val_two, Shape.rowMajor_val_one]; show r.1 = r.1 * 1 + 0; omega
  refine (Ideal.multiReduction_add_single _ _ _ _ _ _).trans ?_
  have el : ∀ k : Fin 1024, reduces_S512x1024_S512.lift (ix1 r) k = (ix2 r k : S512x1024.Idx) := fun k => by
    funext a
    match a with
    | 0 => rfl
    | 1 => rfl
  have et : ∀ k : Fin 1024, select (k0_pay4 (F := Ideal) i l) (k0_pay3 (F := Ideal) x wb) (broadcast S512x1024 (Scalar.ofBits (F := Ideal) .f32 0x00000000#32)) (ix2 r k)
      = if k = q then k0_pay3 (F := Ideal) x wb (ix2 r q) else 0 := fun k => by
    show (if k0_pay4 (F := Ideal) i l (ix2 r k) = 1#1 then k0_pay3 (F := Ideal) x wb (ix2 r k) else Ideal.ofBits .f32 0x00000000#32) = _
    rw [mask_block, Ideal.ofBits_zero_f32, ← h]
    by_cases e : k = q
    · subst e; rw [if_pos rfl, if_pos (by simp)]
    · rw [if_neg e, if_neg (by rw [decide_eq_false fun e' => e (classOf_inj i k q e')]; decide)]
  refine (Finset.sum_congr rfl fun k _ => (congrArg _ (el k)).trans (et k)).trans ?_
  exact (Finset.sum_ite_eq' Finset.univ q _).trans (if_pos (Finset.mem_univ q))

theorem logits_apply (i : grid0.Coords) (x : S512x256.Idx → EReal) (wb : S1024x256.Idx → EReal) (l : S512x1.Idx → BitVec 32) (r : Fin 512) (q : Fin 1024) :
    logits (F := Ideal) i x wb l (ix2 r q)
      = (if classOf i q = l (ix2 r 0) then phi (k0_pay3 (F := Ideal) x wb (ix2 r q)) else k0_pay3 (F := Ideal) x wb (ix2 r q))
        * Ideal.ofBits .f32 0x41800000#32 := by
  have e : logits (F := Ideal) i x wb l (ix2 r q)
      = (if k0_pay4 (F := Ideal) i l (ix2 r q) = 1#1 then phi (k0_pay5 (F := Ideal) i x wb l (ix2 r 0)) else k0_pay3 (F := Ideal) x wb (ix2 r q))
        * Ideal.ofBits .f32 0x41800000#32 := by
    unfold logits k0_pay1
    refine congrArg (fun z => (if k0_pay4 (F := Ideal) i l (ix2 r q) = 1#1 then z else k0_pay3 (F := Ideal) x wb (ix2 r q)) * Ideal.ofBits .f32 0x41800000#32) ?_
    exact shapeCast_apply _ _ _ (ix2 r 0) rfl
  rw [e, mask_block]
  by_cases h : classOf i q = l (ix2 r 0)
  · rw [if_pos h, if_pos (by simp [h]), diag_block i x wb l r q h]
  · rw [if_neg h, if_neg (by rw [decide_eq_false h]; decide)]

end Cert.Proof.Dense

end
-- ==== Proof.LogitArr.lean ====
/- The logits array the TensorCore call leaves: every entry at its formula. -/
module

public import proofs.«01_k».proof.Proof.LogitKer

@[expose] public section

noncomputable section

namespace Cert.Proof.Dense

open Cert.KernelIdeal Cert.KernelIdeal.Gen
open Idealize.ShloMosaic Idealize.ShloMosaic.ValueIdx Idealize.ShloMosaic.TcCoe
open Idealize.ShloMosaic.SparseCore.Cfg (HIx)
open Idealize.ShloMosaic.Pipeline (Dat Cfg Window)

variable (V : (c : Dev nD) → (b : Ref sig .tc) → Buf (Elt Ideal) ((c : Thread nD τ).loc b))
variable (Ow : Dev nD → CellTallies nD τ sig (HIx 1)) (B : Dev nD → Set (SemLoc sig × HIx 1))

/-- The array row of row `r` of a point's feature block, and the array column of column `q` of its class block. -/
def rowG (t : Fin cfg0.N) (r : Fin 512) : Fin 4096 := ⟨(grid0.coords t 1).1 * 512 + r.1, by have h : (grid0.coords t 1).1 < 8 := (grid0.coords t 1).2; have := r.2; omega⟩
def colG (t : Fin cfg0.N) (q : Fin 1024) : Fin 8192 := ⟨(grid0.coords t 0).1 * 1024 + q.1, by have h : (grid0.coords t 0).1 < 8 := (grid0.coords t 0).2; have := q.2; omega⟩

theorem ofNat_coord {n : ℕ} (h : n < 8) : (BitVec.ofNat 32 n).toNat = n := by
  rw [BitVec.toNat_ofNat]; omega

theorem c0_lt (t : Fin cfg0.N) : (grid0.coords t 0).1 < 8 := (grid0.coords t 0).2
theorem c1_lt (t : Fin cfg0.N) : (grid0.coords t 1).1 < 8 := (grid0.coords t 1).2

theorem emb_x (t : Fin cfg0.N) (r : Fin 512) (e : Fin 256) : ((cfg0.win 0).blk t).view.emb (ix2 r e) = (ix2 (rowG t r) e : S4096x256.Idx) := by
  funext a
  refine Fin.ext (((cfg0.win 0).rect_emb_val t (ix2 r e) a).trans ?_)
  match a with
  | 0 => show (BitVec.ofNat 32 (grid0.coords t 1).1).toNat * 512 + r.1 = _; rw [ofNat_coord (c1_lt t)]; rfl
  | 1 => show (0#32).toNat * 256 + e.1 = e.1; simp

theorem emb_w (t : Fin cfg0.N) (q : Fin 1024) (e : Fin 256) : ((cfg0.win 1).blk t).view.emb (ix2 q e) = (ix2 (colG t q) e : S8192x256.Idx) := by
  funext a
  refine Fin.ext (((cfg0.win 1).rect_emb_val t (ix2 q e) a).trans ?_)
  match a with
  | 0 => show (BitVec.ofNat 32 (grid0.coords t 0).1).toNat * 1024 + q.1 = _; rw [ofNat_coord (c0_lt t)]; rfl
  | 1 => show (0#32).toNat * 256 + e.1 = e.1; simp

theorem emb_l (t : Fin cfg0.N) (r : Fin 512) : ((cfg0.win 2).blk t).view.emb (ix2 r 0) = (ix2 (rowG t r) 0 : S4096x1.Idx) := by
  funext a
  refine Fin.ext (((cfg0.win 2).rect_emb_val t (ix2 r 0) a).trans ?_)
  match a with
  | 0 => show (BitVec.ofNat 32 (grid0.coords t 1).1).toNat * 512 + r.1 = _; rw [ofNat_coord (c1_lt t)]; rfl
  | 1 => show (0#32).toNat * 1 + 0 = 0; simp

theorem emb_o (t : Fin cfg0.N) (r : Fin 512) (q : Fin 1024) : ((cfg0.win 3).blk t).view.emb (ix2 r q) = (ix2 (rowG t r) (colG t q) : S4096x8192.Idx) := by
  funext a
  refine Fin.ext (((cfg0.win 3).rect_emb_val t (ix2 r q) a).trans ?_)
  match a with
  | 0 => show (BitVec.ofNat 32 (grid0.coords t 1).1).toNat * 512 + r.1 = _; rw [ofNat_coord (c1_lt t)]; rfl
  | 1 => show (BitVec.ofNat 32 (grid0.coords t 0).1).toNat * 1024 + q.1 = _; rw [ofNat_coord (c0_lt t)]; rfl

theorem xAt_apply (c : Dev nD) (t : Fin cfg0.N) (r : Fin 512) (e : Fin 256) : xAt V c t (ix2 r e) = V c main_arg0 (ix2 (rowG t r) e) :=
  congrArg (V c main_arg0) (emb_x t r e)
theorem wAt_apply (c : Dev nD) (t : Fin cfg0.N) (q : Fin 1024) (e : Fin 256) : wAt V c t (ix2 q e) = V c main_arg4 (ix2 (colG t q) e) :=
  congrArg (V c main_arg4) (emb_w t q e)
theorem lAt_apply (c : Dev nD) (t : Fin cfg0.N) (r : Fin 512) : lAt V c t (ix2 r 0) = V c main_v0 (ix2 (rowG t r) 0) :=
  congrArg (V c main_v0) (emb_l t r)

/-- The labels a column holds. -/
def flat (l : S4096x1.Idx → BitVec 32) : S4096.Idx → BitVec 32 := fun i => l (ix2 (i 0) 0)

theorem outAt_apply (c : Dev nD) (t : Fin cfg0.N) (r : Fin 512) (q : Fin 1024) :
    outAt V c t (ix2 r q) = logit (V c main_arg0) (V c main_arg4) (flat (V c main_v0)) (rowG t r) (colG t q) := by
  have hcos : k0_pay3 (F := Ideal) (xAt V c t) (k0_pay2 (wAt V c t)) (ix2 r q)
      = cosine (fun e => V c main_arg0 (ix2 (rowG t r) e)) (fun e => V c main_arg4 (ix2 (colG t q) e)) := by
    have hx : (fun e => xAt V c t (ix2 r e)) = fun e => V c main_arg0 (ix2 (rowG t r) e) := funext fun e => xAt_apply V c t r e
    have hw : (fun e => wAt V c t (ix2 q e)) = fun e => V c main_arg4 (ix2 (colG t q) e) := funext fun e => wAt_apply V c t q e
    rw [← hx, ← hw]
    exact (cos_block _ _ r q).trans (Finset.sum_congr rfl fun e _ => congrArg (_ * ·) (row_scale _ q e))
  have hcl : classOf (grid0.coords t) q = BitVec.ofNat 32 (colG t q).1 := congrArg (BitVec.ofNat 32) (by show 1024 * _ + _ = _ * 1024 + _; omega)
  refine (logits_apply (grid0.coords t) (xAt V c t) (k0_pay2 (wAt V c t)) (lAt V c t) r q).trans ?_
  rw [hcos, hcl, lAt_apply]
  rfl

/-- The point that leaves entry `(n, k)`. -/
theorem covered (i : S4096x8192.Idx) : ∃ t : Fin cfg0.N, (cfg0.win 3).flush t = true ∧ i ∈ ((cfg0.win 3).blk t).view.set := by
  have hn : (i 0).1 < 4096 := (i 0).2
  have hk : (i 1).1 < 8192 := (i 1).2
  have hN : (i 1).1 / 1024 * 8 + (i 0).1 / 512 < 64 := by omega
  refine ⟨(⟨(i 1).1 / 1024 * 8 + (i 0).1 / 512, hN⟩ : Fin 64), flush0_3 _, ?_⟩
  have hc : ∀ t : Fin 64, (grid0.coords (t : Fin grid0.N) 0).1 = t.1 / 8 ∧ (grid0.coords (t : Fin grid0.N) 1).1 = t.1 % 8 := by decide
  obtain ⟨h0, h1⟩ := hc ⟨(i 1).1 / 1024 * 8 + (i 0).1 / 512, hN⟩
  have h := ((cfg0.win 3).blk (⟨(i 1).1 / 1024 * 8 + (i 0).1 / 512, hN⟩ : Fin 64)).view.emb_mem_set
    (ix2 (⟨(i 0).1 % 512, Nat.mod_lt _ (by decide)⟩ : Fin 512) (⟨(i 1).1 % 1024, Nat.mod_lt _ (by decide)⟩ : Fin 1024))
  refine (congrArg (· ∈ _) ((emb_o _ _ _).trans ?_)).mp h
  funext a
  refine Fin.ext ?_
  match a with
  | 0 =>
    show (grid0.coords _ 1).1 * 512 + (i 0).1 % 512 = (i 0).1
    rw [h1]; dsimp only; omega
  | 1 =>
    show (grid0.coords _ 0).1 * 1024 + (i 1).1 % 1024 = (i 1).1
    rw [h0]; dsimp only; omega

/-- The logits as the call leaves them. -/
theorem logitsAt_eq (c : Dev nD) :
    logitsAt V Ow B c = fun i : S4096x8192.Idx => logit (V c main_arg0) (V c main_arg4) (flat (V c main_v0)) (i 0) (i 1) := by
  refine (dat V Ow B c).arrAt_eq_of_cover 3 (fun i : S4096x8192.Idx => logit (V c main_arg0) (V c main_arg4) (flat (V c main_v0)) (i 0) (i 1))
    (fun t _ => ?_) covered
  refine funext fun (y : S512x1024.Idx) => ?_
  rw [View.read_apply]
  show outAt V c t y = logit _ _ _ ((((cfg0.win 3).blk t).view.emb y : S4096x8192.Idx) 0) ((((cfg0.win 3).blk t).view.emb y : S4096x8192.Idx) 1)
  obtain ⟨r, q, rfl⟩ : ∃ (r : Fin 512) (q : Fin 1024), y = ix2 r q := ⟨y 0, y 1, eq_ix2 y⟩
  rw [outAt_apply, emb_o]
  rfl

end Cert.Proof.Dense

end
-- ==== Proof.DistKer.lean ====
/- The distance the SparseCore writes, over the extended reals: a sum over the 256 features, the smallest of four, and a 256th of it. -/
module

public import proofs.«01_k».proof.Proof.Vals
public import Idealize.ShloMosaic.Lib.IdealHost

@[expose] public section

noncomputable section

namespace Cert.Proof.Trip

open Cert.KernelIdeal Cert.KernelIdeal.Gen
open Idealize.ShloMosaic Idealize.ShloMosaic.ValueIdx

/-- The absolute difference the kernel and the reference both add up. -/
def gap (a b : EReal) : EReal := FloatOps.absf (F := Ideal) (φ := .f32) (a - b)

/-- Lane `k`'s partner in an exchange at distance `j`. -/
def flip (j : BitVec 32) (k : Fin 16) : Fin 16 := ⟨(BitVec.ofNat 32 k.1 ^^^ j).toNat % 16, Nat.mod_lt _ (by decide)⟩

theorem exchV_apply (j : BitVec 32) (h : Lanes (xori lanes (broadcast S16 j))) (f : Fin 16 → EReal) :
    exchV (F := Ideal) j h (fun y => f (y 0)) = fun y => f (y 0) + f (flip j (y 0)) := by
  funext y
  show f (y 0) + f _ = _
  refine congrArg (fun k => f (y 0) + f k) (Fin.ext ?_)
  have h' : (lanes y ^^^ j).toNat < 16 := h 0 y
  show (lanes y ^^^ j).toNat = (BitVec.ofNat 32 (y 0).1 ^^^ j).toNat % 16
  rw [lanes_apply] at h' ⊢
  exact (Nat.mod_eq_of_lt h').symm

theorem flip1 : ∀ k : Fin 16, flip 1#32 k = ![1, 0, 3, 2, 5, 4, 7, 6, 9, 8, 11, 10, 13, 12, 15, 14] k := by decide
theorem flip2 : ∀ k : Fin 16, flip 2#32 k = ![2, 3, 0, 1, 6, 7, 4, 5, 10, 11, 8, 9, 14, 15, 12, 13] k := by decide
theorem flip4 : ∀ k : Fin 16, flip 4#32 k = ![4, 5, 6, 7, 0, 1, 2, 3, 12, 13, 14, 15, 8, 9, 10, 11] k := by decide
theorem flip8 : ∀ k : Fin 16, flip 8#32 k = ![8, 9, 10, 11, 12, 13, 14, 15, 0, 1, 2, 3, 4, 5, 6, 7] k := by decide

/-- After the four exchanges every lane holds the sum of the sixteen. -/
theorem lsumV_apply (f : Fin 16 → EReal) (y : S16.Idx) : lsumV (F := Ideal) (fun y => f (y 0)) y = ∑ k : Fin 16, f k := by
  unfold lsumV
  rw [exchV_apply, exchV_apply 2#32 _ (fun k => f k + f (flip 1#32 k)),
    exchV_apply 4#32 _ (fun k => f k + f (flip 1#32 k) + (f (flip 2#32 k) + f (flip 1#32 (flip 2#32 k)))),
    exchV_apply 8#32 _ (fun k => f k + f (flip 1#32 k) + (f (flip 2#32 k) + f (flip 1#32 (flip 2#32 k)))
      + (f (flip 4#32 k) + f (flip 1#32 (flip 4#32 k)) + (f (flip 2#32 (flip 4#32 k)) + f (flip 1#32 (flip 2#32 (flip 4#32 k))))))]
  dsimp only
  generalize y 0 = k
  change Fin 16 at k
  simp only [flip1, flip2, flip4, flip8]
  revert k
  have e : ∑ k : Fin 16, f k = f 0 + f 1 + f 2 + f 3 + f 4 + f 5 + f 6 + f 7 + f 8 + f 9 + f 10 + f 11 + f 12 + f 13 + f 14 + f 15 := by
    simp only [Fin.sum_univ_succ, Fin.sum_univ_zero, add_zero, ← add_assoc]; rfl
  rw [e]
  intro k
  fin_cases k <;> simp <;> abel

theorem sumTo_apply (a x : Fin 16 → V16 Ideal) (y : S16.Idx) : (n : ℕ) → (h : n ≤ 16) →
    sumTo a x n h y = ∑ s : Fin n, gap (a (s.castLE h) y) (x (s.castLE h) y)
  | 0, _ => by
    show Ideal.ofBits .f32 0x00000000#32 = _
    rw [Ideal.ofBits_zero_f32]; rfl
  | n + 1, h => by
    rw [Fin.sum_univ_castSucc]
    exact congrArg (· + _) (sumTo_apply a x y n (by omega))

/-- The sum one centroid row gives, whatever the lane. -/
theorem lsum_sumTo (a x : Fin 16 → V16 Ideal) (y : S16.Idx) :
    lsumV (sumTo a x 16 le_rfl) y = ∑ k : Fin 16, ∑ s : Fin 16, gap (a s (ix1 k)) (x s (ix1 k)) := by
  have e : sumTo a x 16 le_rfl = fun y => (fun k : Fin 16 => ∑ s : Fin 16, gap (a s (ix1 k)) (x s (ix1 k))) (y 0) := by
    funext z
    rw [sumTo_apply, show z = ix1 (z 0) from eq_ix1 z]
    rfl
  exact (congrFun (congrArg lsumV e) y).trans (lsumV_apply (fun k => ∑ s : Fin 16, gap (a s (ix1 k)) (x s (ix1 k))) y)

/-- A sum over the 256 features, sixteen at a time. -/
theorem sum_feat (g : Fin 256 → EReal) :
    ∑ k : Fin 16, ∑ s : Fin 16, g ⟨16 * s.1 + k.1, by omega⟩ = ∑ d : Fin 256, g d := by
  rw [Finset.sum_comm, ← Fintype.sum_prod_type' (fun s k : Fin 16 => g ⟨16 * s.1 + k.1, by omega⟩)]
  refine Fintype.sum_equiv (finProdFinEquiv (m := 16) (n := 16)) _ g fun q => congrArg g (Fin.ext ?_)
  show 16 * q.1.1 + q.2.1 = q.2.1 + 16 * q.1.1
  omega

end Cert.Proof.Trip

namespace Cert.Proof.Whole

open Cert.KernelIdeal Cert.KernelIdeal.Gen
open Cert.Proof.Dist Cert.Proof.Trip
open Idealize.ShloMosaic Idealize.ShloMosaic.ValueIdx

theorem ofBits_256 : Ideal.ofBits .f32 0x43800000#32 = ((256 : ℝ) : EReal) := by
  simp [Ideal.ofBits, Ideal.ieee, -EReal.coe_mul]; norm_num

theorem ofBits_256th : Ideal.ofBits .f32 0x3B800000#32 = ((256 : ℝ)⁻¹ : EReal) := by
  rw [← EReal.coe_inv]
  simp [Ideal.ofBits, Ideal.ieee, -EReal.coe_mul]; norm_num

/-- The sum over the features of the gaps between row `n` of the codes and centroid `c` of class `p`. -/
def total (C : S4096x256.Idx → EReal) (X : S8192x4x256.Idx → EReal) (n : Fin 4096) (p : Fin 8192) (c : Fin 4) : EReal :=
  ∑ k : Fin 256, gap (C (ix2 n k)) (X (ix3 p c k))

/-- The least of the four, a 256th of it. -/
def nearest (C : S4096x256.Idx → EReal) (X : S8192x4x256.Idx → EReal) (n : Fin 4096) (p : Fin 8192) : EReal :=
  min (min (min (total C X n p 0) (total C X n p 1)) (total C X n p 2)) (total C X n p 3) * ((256 : ℝ)⁻¹ : EReal)

theorem lsum_total (C : S4096x256.Idx → EReal) (X : S8192x4x256.Idx → EReal) (n : Fin 4096) (p : Fin 8192) (c : Fin 4) (w : BitVec 32)
    (hw : w.toNat = p.1 * 4 + c.1) (y : S16.Idx) :
    lsumV (F := Ideal) (sumTo (codeV (F := Ideal) C n) (rowB (F := Ideal) (shapeCast S32768x2x128 X shapeCasts_S8192x4x256_S32768x2x128) (rowAt w)) 16 le_rfl) y
      = total C X n p c := by
  rw [lsum_sumTo, total, ← sum_feat]
  refine Finset.sum_congr rfl fun k _ => Finset.sum_congr rfl fun s _ => ?_
  refine congrArg (gap _) ?_
  refine shapeCast_apply X _ _ (ix3 p c ⟨16 * s.1 + k.1, by omega⟩) ?_
  have := p.2; have := c.2; have := s.2; have := k.2
  rw [Shape.rowMajor_val_three, Shape.rowMajor_val_three]
  show (p.1 * 4 + c.1) * 256 + (16 * s.1 + k.1) = (w.toNat % 32768 * 2 + s.1 / 8) * 128 + (s.1 % 8 * 16 + k.1)
  omega

/-- The kernel's distances. -/
theorem dist_apply (C : S4096x256.Idx → EReal) (X : S8192x4x256.Idx → EReal) (p : IVec S4096 32) (hp : ∀ i, (p i).toNat < 8192) (n : Fin 4096) :
    outV (F := Ideal) C (shapeCast S32768x2x128 X shapeCasts_S8192x4x256_S32768x2x128) (rowsOf p) (ix1 n)
      = nearest C X n ⟨(p (ix1 n)).toNat, hp _⟩ := by
  have e : ∀ c : Fin 4, (rowsOf p (ix1 ⟨4 * n.1 + c.1, by omega⟩)).toNat = (p (ix1 n)).toNat * 4 + c.1 := fun c => by
    rw [rowsOf_apply, rows_toNat _ (hp _)]
  have t := fun (c : Fin 4) y => lsum_total C X n ⟨(p (ix1 n)).toNat, hp _⟩ c _ (e c) y
  unfold nearest
  rw [← ofBits_256th, ← t 0, ← t 1, ← t 2, ← t 3]
  rfl

end Cert.Proof.Whole

end
-- ==== Proof.DistRef.lean ====
/- The reference's distance at a row, over the extended reals. -/
module

public import proofs.«01_k».proof.Proof.DistKer
public import proofs.«01_k».proof.Proof.Gen.ReferenceIdeal.Run

@[expose] public section

noncomputable section

namespace Cert.Proof.Ref

open Cert.ReferenceIdeal Cert.ReferenceIdeal.Gen
open Cert.Proof.Trip Cert.Proof.Whole
open Idealize.ShloMosaic Idealize.ShloMosaic.ValueIdx

/-- An index below zero counts from the end of an axis of `n`. -/
def wrap (n : BitVec 32) (p : IVec S4096 32) : IVec S4096 32 :=
  select (cmpi .slt p (broadcastInDim S4096 ![] bcast_S_S4096 (constantI S_ 32 0#32)))
    (addi p (broadcastInDim S4096 ![] bcast_S_S4096 (constantI S_ 32 n))) p

theorem wrap_apply (n : BitVec 32) (p : IVec S4096 32) (i : S4096.Idx) (h : (p i).toNat < 8192) : wrap n p i = p i := by
  show (if IntOp.cmpi .slt (p i) 0#32 = 1 then _ else p i) = p i
  refine if_neg fun e => ?_
  have e := IntOp.cmpi_slt.1 e
  simp only [BitVec.toInt_eq_toNat_cond, BitVec.toNat_ofNat, Nat.reducePow, Nat.reduceMod] at e
  omega

/-- The column of indices a gather or a scatter reads. -/
def col (p : IVec S4096 32) : IVec S4096x1 32 := broadcastInDim S4096x1 ![0] bcast_S4096_S4096x1_0 p

theorem col_apply (p : IVec S4096 32) (y : S4096x1.Idx) : col p y = p (ix1 (y 0)) :=
  congrArg p (funext fun a => by obtain rfl : a = 0 := Subsingleton.elim _ _; rfl)

/-- The gather of whole classes: entry `(n, c, k)` is that of the class the index names, read within the array. -/
theorem gather_apply (X : S8192x4x256.Idx → EReal) (q : IVec S4096x1 32) (n : Fin 4096) (c : Fin 4) (k : Fin 256) :
    Host.gather gather_S8192x4x256_S4096x1_S4096x4x256_12_0_n_n_0_1_14256 X q (ix3 n c k)
      = X (ix3 ⟨min (q (ix2 n 0)).toInt.toNat 8191, by omega⟩ c k) := by
  refine congrArg X (funext fun a => Fin.ext ?_)
  show (GatherDims.start _ _ q a + GatherDims.batchCoord _ _ a) + GatherDims.offCoord _ _ a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    refine (dif_pos (show (0 : Fin 3) ∈ [(0 : Fin 3)] from List.mem_singleton.mpr rfl)).trans ?_
    refine congrArg (fun z => min (q z).toInt.toNat 8191) (funext fun b => Fin.ext ?_)
    match b with
    | 0 => rfl
    | 1 => rfl
  | 1 =>
    rw [show GatherDims.start _ _ q 1 = 0 from dif_neg (by decide), Nat.zero_add]
    rfl
  | 2 =>
    rw [show GatherDims.start _ _ q 2 = 0 from dif_neg (by decide), Nat.zero_add]
    rfl

/-- The rows `jnp.take` gives: NaN off the array. -/
def taken (X : S8192x4x256.Idx → EReal) (q : IVec S4096x1 32) : S4096x4x256.Idx → EReal :=
  select (broadcastInDim S4096x4x256 ![0] bcast_S4096_S4096x4x256_0 (Host.reduce IntOp.andi (andi (cmpi .sge q (broadcastInDim S4096x1 ![] bcast_S_S4096x1 (constantI S_ 32 0#32))) (cmpi .sle q (broadcastInDim S4096x1 ![0, 1] bcast_S1x1_S4096x1_0_1 (broadcastInDim S1x1 ![1] bcast_S1_S1x1_1 (constantI S1 32 8191#32))))) (constantI S_ 1 1#1) reducesTo_S4096x1_S4096_d1 h_S_))
    (Host.gather gather_S8192x4x256_S4096x1_S4096x4x256_12_0_n_n_0_1_14256 X q)
    (broadcastInDim S4096x4x256 ![] bcast_S_S4096x4x256 (constant (F := Ideal) S_ .f32 0x7FC00000#32))

theorem taken_apply (X : S8192x4x256.Idx → EReal) (q : IVec S4096x1 32) (hq : ∀ y, (q y).toNat < 8192) (n : Fin 4096) (c : Fin 4) (k : Fin 256) :
    taken X q (ix3 n c k) = X (ix3 ⟨(q (ix2 n 0)).toNat, hq _⟩ c k) := by
  have hi : ∀ y, (q y).toInt = (q y).toNat := fun y => by
    have := hq y
    rw [BitVec.toInt_eq_toNat_cond, if_pos (by omega)]
  have hr : Host.reduce IntOp.andi (andi (cmpi .sge q (broadcastInDim S4096x1 ![] bcast_S_S4096x1 (constantI S_ 32 0#32))) (cmpi .sle q (broadcastInDim S4096x1 ![0, 1] bcast_S1x1_S4096x1_0_1 (broadcastInDim S1x1 ![1] bcast_S1_S1x1_1 (constantI S1 32 8191#32))))) (constantI S_ 1 1#1) reducesTo_S4096x1_S4096_d1 h_S_ (ix1 n) = 1#1 := by
    refine Host.reduce_andi_one _ _ _ _ _ rfl fun y => ?_
    have := hq y
    refine IntOp.andi_eq_one.2 ⟨IntOp.cmpi_sge.2 ?_, IntOp.cmpi_sle.2 ?_⟩
    · rw [hi]; show (0 : Int) ≤ _; omega
    · rw [hi]; show _ ≤ (8191 : Int); omega
  refine (if_pos ((congrArg _ ?_).trans hr)).trans ?_
  · funext a; obtain rfl : a = 0 := Subsingleton.elim _ _; rfl
  · rw [gather_apply]
    refine congrArg (fun z => X (ix3 z c k)) (Fin.ext ?_)
    have := hq (ix2 n 0)
    show min (q (ix2 n 0)).toInt.toNat 8191 = (q (ix2 n 0)).toNat
    rw [hi]
    omega

/-- The reference's distances. -/
def far (C : S4096x256.Idx → EReal) (X : S8192x4x256.Idx → EReal) (p : IVec S4096 32) : S4096.Idx → EReal :=
  Host.reduce (FloatOps.minimumf (F := Ideal) (φ := .f32)) (Host.divf (Host.reduceAdd (F := Ideal) (φ := .f32) (Host.absf (subf (broadcastInDim S4096x4x256 ![0, 1, 2] bcast_S4096x1x256_S4096x4x256_0_1_2 (broadcastInDim S4096x1x256 ![0, 2] bcast_S4096x256_S4096x1x256_0_2 C)) (taken X (col (wrap 8192#32 p)))))
      (constant S_ .f32 0x00000000#32) reducesTo_S4096x4x256_S4096x4_d2 h_S_)
    (broadcastInDim S4096x4 ![] bcast_S_S4096x4 (constant S_ .f32 0x43800000#32))) (constant (F := Ideal) S_ .f32 0x7F800000#32) reducesTo_S4096x4_S4096_d1 h_S_

theorem ofBits_top : Ideal.ofBits .f32 0x7F800000#32 = ⊤ := by
  simp [Ideal.ofBits, Ideal.ieee]

theorem div_256 (x : EReal) : Ideal.div x (Ideal.ofBits .f32 0x43800000#32) = x * ((256 : ℝ)⁻¹ : EReal) := by
  rw [ofBits_256]
  unfold Ideal.div
  rw [if_neg (by norm_num)]

theorem mono_256 : Monotone fun x : EReal => x * ((256 : ℝ)⁻¹ : EReal) := fun a b h =>
  mul_le_mul_of_nonneg_right h (by rw [← EReal.coe_inv]; exact EReal.coe_nonneg.2 (by norm_num))

theorem sums_apply (C : S4096x256.Idx → EReal) (X : S8192x4x256.Idx → EReal) (p : IVec S4096 32) (hp : ∀ i, (p i).toNat < 8192) (n : Fin 4096) (c : Fin 4) :
    Host.reduceAdd (F := Ideal) (φ := .f32) (Host.absf (subf (broadcastInDim S4096x4x256 ![0, 1, 2] bcast_S4096x1x256_S4096x4x256_0_1_2 (broadcastInDim S4096x1x256 ![0, 2] bcast_S4096x256_S4096x1x256_0_2 C)) (taken X (col (wrap 8192#32 p)))))
      (constant S_ .f32 0x00000000#32) reducesTo_S4096x4x256_S4096x4_d2 h_S_ (ix2 n c) = total C X n ⟨(p (ix1 n)).toNat, hp _⟩ c := by
  have hw : ∀ y, col (wrap 8192#32 p) y = p (ix1 (y 0)) := fun y => by rw [col_apply, wrap_apply _ _ _ (hp _)]
  have hq : ∀ y, (col (wrap 8192#32 p) y).toNat < 8192 := fun y => by rw [hw]; exact hp _
  refine (Ideal.hostReduceAdd_single reducesTo_S4096x4x256_S4096x4_d2 (show S4096x4x256.Reduces [2] S4096x4 by decide) _ _ _).trans ?_
  refine (congrArg (· + _) Ideal.ofBits_zero_f32).trans ((zero_add _).trans ?_)
  refine Finset.sum_congr rfl fun k _ => ?_
  have el : (show S4096x4x256.Reduces [2] S4096x4 by decide).lift (ix2 n c) k = (ix3 n c k : S4096x4x256.Idx) := by
    funext a
    match a with
    | 0 => rfl
    | 1 => rfl
    | 2 => rfl
  rw [el]
  show gap (C _) (taken X _ (ix3 n c k)) = _
  refine congrArg₂ gap (congrArg C ?_) ((taken_apply X _ hq n c k).trans (congrArg (fun z => X (ix3 z c k)) (Fin.ext (congrArg BitVec.toNat (hw _)))))
  funext a
  match a with
  | 0 => rfl
  | 1 => rfl

theorem fold_four (f : Fin 4 → EReal) : (Finset.univ : Finset (Fin 4)).fold min ⊤ f = min (min (min (f 0) (f 1)) (f 2)) (f 3) := by
  rw [show (Finset.univ : Finset (Fin 4)) = {0, 1, 2, 3} from rfl, Finset.fold_insert (by decide), Finset.fold_insert (by decide),
    Finset.fold_insert (by decide), Finset.fold_singleton, min_top_right]
  simp only [min_assoc]

theorem far_apply (C : S4096x256.Idx → EReal) (X : S8192x4x256.Idx → EReal) (p : IVec S4096 32) (hp : ∀ i, (p i).toNat < 8192) (n : Fin 4096) :
    far C X p (ix1 n) = nearest C X n ⟨(p (ix1 n)).toNat, hp _⟩ := by
  have s := sums_apply C X p hp n
  unfold far nearest
  refine (Host.reduce_eq_fold_single (min : EReal → EReal → EReal) _ _ reducesTo_S4096x4_S4096_d1
    (show S4096x4.Reduces [1] S4096 by decide) h_S_ (ix1 n)).trans ?_
  have el : ∀ c : Fin 4, (show S4096x4.Reduces [1] S4096 by decide).lift (ix1 n) c = (ix2 n c : S4096x4.Idx) := fun c => by
    funext a
    match a with
    | 0 => rfl
    | 1 => rfl
  rw [mono_256.map_min, mono_256.map_min, mono_256.map_min, ← s 0, ← s 1, ← s 2, ← s 3]
  refine (congrArg (fun z => Finset.univ.fold min z _) ofBits_top).trans ((fold_four _).trans ?_)
  simp only [Function.comp, el, ← div_256]
  rfl

end Cert.Proof.Ref

end
-- ==== Proof.LogitRef.lean ====
/- The reference's logits at an entry, over the extended reals. -/
module

public import proofs.«01_k».proof.Proof.LogitKer
public import proofs.«01_k».proof.Proof.DistRef

@[expose] public section

noncomputable section

namespace Cert.Proof.Ref

open Cert.ReferenceIdeal Cert.ReferenceIdeal.Gen
open Cert.Proof.Dense (energy cosine phi logit)
open Idealize.ShloMosaic Idealize.ShloMosaic.ValueIdx

/-! ## Dividing by the root, or multiplying by its reciprocal -/

theorem ofBits_eps : (0 : EReal) < Ideal.ofBits .f32 0x179ABE15#32 := by
  simp [Ideal.ofBits, Ideal.ieee, -EReal.coe_mul]

theorem mul_self_nonneg' (x : EReal) : 0 ≤ x * x := by
  induction x using EReal.rec with
  | bot => simp
  | top => simp
  | coe r => rw [← EReal.coe_mul]; exact EReal.coe_nonneg.2 (mul_self_nonneg r)

theorem energy_pos (f : Fin 256 → EReal) : 0 < energy f :=
  lt_of_lt_of_le ofBits_eps (le_add_of_nonneg_left (Finset.sum_nonneg fun k _ => mul_self_nonneg' (f k)))

theorem div_sqrt (x s : EReal) (h : 0 < s) : Ideal.div x (Ideal.sqrt s) = x * Ideal.rsqrt s := by
  induction s using EReal.rec with
  | bot => exact absurd h (by simp)
  | top => show (if (⊤ : EReal) = 0 then _ else x * (⊤ : EReal)⁻¹) = x * 0; rw [if_neg (by simp), EReal.inv_top]
  | coe r =>
    have hr : 0 < r := EReal.coe_pos.1 h
    show Ideal.div x (if r < 0 then (⊥ : EReal) else (Real.sqrt r : EReal)) = x * (if r < 0 then (⊥ : EReal) else if r = 0 then (⊤ : EReal) else (((Real.sqrt r)⁻¹ : ℝ) : EReal))
    rw [if_neg (not_lt.2 hr.le), if_neg (not_lt.2 hr.le), if_neg hr.ne']
    unfold Ideal.div
    rw [if_neg (fun h0 => (Real.sqrt_pos.2 hr).ne' (EReal.coe_eq_zero.1 h0)), EReal.coe_inv]

/-! ## The cosines -/

def unitX (X : S4096x256.Idx → EReal) : S4096x256.Idx → EReal :=
  Host.divf (F := Ideal) (φ := .f32) X (broadcastInDim S4096x256 ![0, 1] bcast_S4096x1_S4096x256_0_1 (Host.sqrt (addf (broadcastInDim S4096x1 ![0] bcast_S4096_S4096x1_0 (Host.reduceAdd (F := Ideal) (φ := .f32) (mulf X X) (constant S_ .f32 0x00000000#32) reducesTo_S4096x256_S4096_d1 h_S_)) (broadcastInDim S4096x1 ![] bcast_S_S4096x1 (constant S_ .f32 0x179ABE15#32)))))

def unitW (W : S8192x256.Idx → EReal) : S8192x256.Idx → EReal :=
  Host.divf (F := Ideal) (φ := .f32) W (broadcastInDim S8192x256 ![0, 1] bcast_S8192x1_S8192x256_0_1 (Host.sqrt (addf (broadcastInDim S8192x1 ![0] bcast_S8192_S8192x1_0 (Host.reduceAdd (F := Ideal) (φ := .f32) (mulf W W) (constant S_ .f32 0x00000000#32) reducesTo_S8192x256_S8192_d1 h_S_)) (broadcastInDim S8192x1 ![] bcast_S_S8192x1 (constant S_ .f32 0x179ABE15#32)))))

set_option maxRecDepth 65536 in
theorem unitX_apply (X : S4096x256.Idx → EReal) (n : Fin 4096) (e : Fin 256) :
    unitX X (ix2 n e) = X (ix2 n e) * Ideal.rsqrt (energy fun e => X (ix2 n e)) := by
  rw [← div_sqrt _ _ (energy_pos _)]
  unfold unitX
  refine congrArg (fun z => Ideal.div (X (ix2 n e)) (Ideal.sqrt (z + Ideal.ofBits .f32 0x179ABE15#32))) ?_
  refine (Ideal.hostReduceAdd_single reducesTo_S4096x256_S4096_d1 (show S4096x256.Reduces [1] S4096 by decide) _ _ _).trans ?_
  refine (congrArg (· + _) Ideal.ofBits_zero_f32).trans ((zero_add _).trans (Finset.sum_congr rfl fun k _ => ?_))
  refine congrArg (fun z => X z * X z) (funext fun a => ?_)
  match a with
  | 0 => rfl
  | 1 => rfl

set_option maxRecDepth 65536 in
theorem unitW_apply (W : S8192x256.Idx → EReal) (n : Fin 8192) (e : Fin 256) :
    unitW W (ix2 n e) = W (ix2 n e) * Ideal.rsqrt (energy fun e => W (ix2 n e)) := by
  rw [← div_sqrt _ _ (energy_pos _)]
  unfold unitW
  refine congrArg (fun z => Ideal.div (W (ix2 n e)) (Ideal.sqrt (z + Ideal.ofBits .f32 0x179ABE15#32))) ?_
  refine (Ideal.hostReduceAdd_single reducesTo_S8192x256_S8192_d1 (show S8192x256.Reduces [1] S8192 by decide) _ _ _).trans ?_
  refine (congrArg (· + _) Ideal.ofBits_zero_f32).trans ((zero_add _).trans (Finset.sum_congr rfl fun k _ => ?_))
  refine congrArg (fun z => W z * W z) (funext fun a => ?_)
  match a with
  | 0 => rfl
  | 1 => rfl

def cosR (X : S4096x256.Idx → EReal) (W : S8192x256.Idx → EReal) : S4096x8192.Idx → EReal :=
  Host.dotGeneral (F := Ideal) (φ₁ := .f32) (φ₂ := .f32) dot_S4096x256_S256x8192_S4096x8192_1_0_0_1_n_n none (unitX X) (transpose S256x8192 [1, 0] (unitW W) transposes_S8192x256_S256x8192_1_0)

theorem cosR_apply (X : S4096x256.Idx → EReal) (W : S8192x256.Idx → EReal) (n : Fin 4096) (k : Fin 8192) :
    cosR X W (ix2 n k) = cosine (fun e => X (ix2 n e)) (fun e => W (ix2 k e)) := by
  refine (Ideal.matmul_plain_apply (M := 4096) (K := 256) (N := 8192) (φ₁ := .f32) (φ₂ := .f32) none (unitX X)
    (transpose S256x8192 [1, 0] (unitW W) transposes_S8192x256_S256x8192_1_0) (fun _ => 0) n k).trans ((zero_add _).trans ?_)
  refine Finset.sum_congr rfl fun e _ => congrArg₂ (· * ·) (unitX_apply X n e) ?_
  refine Eq.trans (congrArg (unitW W) (funext fun a => ?_)) (unitW_apply W k e)
  match a with
  | 0 => rfl
  | 1 => rfl

/-! ## The one-hot rows -/

/-- A left fold whose every step sets at most one entry, always to `u`: the entries some step names hold `u`, the others are as before. -/
theorem foldl_set {ι κ : Type} (g : κ → Option ι) (u : EReal) (step : (ι → EReal) → κ → ι → EReal)
    (hin : ∀ r n i, g n = some i → step r n i = u) (hout : ∀ r n i, g n ≠ some i → step r n i = r i) (i : ι) :
    ∀ (l : List κ) (x : ι → EReal), ((∃ n ∈ l, g n = some i) → l.foldl step x i = u) ∧ ((¬ ∃ n ∈ l, g n = some i) → l.foldl step x i = x i)
  | [], x => ⟨fun ⟨_, h, _⟩ => absurd h List.not_mem_nil, fun _ => rfl⟩
  | a :: l, x => by
    have ih := foldl_set g u step hin hout i l (step x a)
    rw [List.foldl_cons]
    by_cases h : ∃ n ∈ l, g n = some i
    · exact ⟨fun _ => ih.1 h, fun hn => absurd (h.imp fun n hl => ⟨List.mem_cons_of_mem _ hl.1, hl.2⟩) hn⟩
    · rw [ih.2 h]
      refine ⟨fun ⟨n, hn, e⟩ => ?_, fun hn => hout _ _ _ fun e => hn ⟨a, List.mem_cons_self .., e⟩⟩
      rcases List.mem_cons.1 hn with q | hl
      · exact hin _ _ _ (q ▸ e)
      · exact absurd ⟨n, hl, e⟩ h

/-- A scatter of one value: that value where some update lands, the operand where none does. -/
theorem scatter_const {s si u : Shape} {w : Nat} (d : ScatterDims s si u) (x : s.Idx → EReal) (idx : IVec si w) (upd : u.Idx → EReal) (c : EReal)
    (h : ∀ j, upd j = c) (i : s.Idx) :
    ((∃ j, d.resultIdx? j idx = some i) → Host.scatter d (fun _ b => b) x idx upd i = c)
    ∧ ((¬ ∃ j, d.resultIdx? j idx = some i) → Host.scatter d (fun _ b => b) x idx upd i = x i) := by
  have key := foldl_set (fun q : Fin u.numel => d.resultIdx? (u.rowMajor.symm q) idx) c (fun r n => match d.resultIdx? (u.rowMajor.symm n) idx with
      | some i => fun i' => if i' = i then upd (u.rowMajor.symm n) else r i'
      | none => r) (fun r n i e => by
    rw [e]
    exact (if_pos rfl).trans (h _)) (fun r n i e => by
    generalize d.resultIdx? (u.rowMajor.symm n) idx = o at e ⊢
    cases o with
    | none => rfl
    | some j => exact if_neg fun q => e (congrArg some q.symm)) i (List.finRange u.numel) x
  exact ⟨fun ⟨j, e⟩ => key.1 ⟨u.rowMajor j, List.mem_finRange _, by rw [Equiv.symm_apply_apply]; exact e⟩,
    fun hn => key.2 fun ⟨q, _, e⟩ => hn ⟨_, e⟩⟩

/-- The places the scatter writes: row by row, the column its label names. -/
def places (L : IVec S4096 32) : IVec S4096x2 32 :=
  concatenate S4096x2 1 [⟨S4096x1, col (wrap 4096#32 (iotaInDim S4096 32 0))⟩, ⟨S4096x1, col (wrap 8192#32 L)⟩] concatenates_S4096x1_S4096x1_S4096x2_d1

def hot (L : IVec S4096 32) : S4096x8192.Idx → EReal :=
  Host.scatter scatter_S4096x8192_S4096x2_S4096_n_01_01_1 (fun _ b => b) (broadcastInDim S4096x8192 ![] bcast_S_S4096x8192 (constant (F := Ideal) S_ .f32 0x00000000#32))
    (places L) (broadcastInDim S4096 ![] bcast_S_S4096 (constant (F := Ideal) S_ .f32 0x3F800000#32))

theorem places_row (L : IVec S4096 32) (j : Fin 4096) : places L (ix2 j 0) = BitVec.ofNat 32 j.1 := by
  unfold places
  rw [concatenate_pair_apply_left (t := S4096x2) (s₁ := S4096x1) (s₂ := S4096x1) 1 _ _ _ (ix2 j 0) rfl (ix2 j 0) (fun b => by
    match b with
    | 0 => rfl
    | 1 => rfl)]
  have h : (iotaInDim S4096 32 0 (ix1 j)).toNat < 8192 := by
    show (BitVec.ofNat 32 j.1).toNat < 8192
    rw [BitVec.toNat_ofNat]
    have := j.2
    omega
  rw [col_apply]
  exact wrap_apply _ _ _ h

theorem places_col (L : IVec S4096 32) (hL : ∀ i, (L i).toNat < 8192) (j : Fin 4096) : places L (ix2 j 1) = L (ix1 j) := by
  unfold places
  rw [concatenate_pair_apply_right (t := S4096x2) (s₁ := S4096x1) (s₂ := S4096x1) 1 _ _ _ (ix2 j 1) rfl rfl (ix2 j 0) (fun b hb => by
    match b with
    | 0 => rfl
    | 1 => exact absurd rfl hb) rfl]
  rw [col_apply]
  exact wrap_apply _ _ _ (hL _)

theorem toInt_small (v : BitVec 32) (h : v.toNat < 8192) : v.toInt = v.toNat := by
  rw [BitVec.toInt_eq_toNat_cond, if_pos (by omega)]

/-- Update `j` lands in row `j`, at its label's column. -/
theorem lands (L : IVec S4096 32) (hL : ∀ i, (L i).toNat < 8192) (j : Fin 4096) :
    scatter_S4096x8192_S4096x2_S4096_n_01_01_1.resultIdx? (ix1 j) (places L) = some (ix2 j ⟨(L (ix1 j)).toNat, hL _⟩) := by
  have hw : ∀ a, scatter_S4096x8192_S4096x2_S4096_n_01_01_1.window (ix1 j) a = 0 := fun a => dif_neg (by revert a; decide)
  have h0 : scatter_S4096x8192_S4096x2_S4096_n_01_01_1.start (ix1 j) (places L) 0 = (j.1 : Int) := by
    refine (dif_pos (show (0 : Fin 2) ∈ [(0 : Fin 2), 1] by decide)).trans ?_
    refine (congrArg (fun z => (places L z).toInt) (funext fun b => Fin.ext ?_ : _ = (ix2 j 0 : S4096x2.Idx))).trans ?_
    · match b with
      | 0 => rfl
      | 1 => rfl
    · have := j.2
      rw [places_row, toInt_small _ (by rw [BitVec.toNat_ofNat]; omega), BitVec.toNat_ofNat]
      omega
  have h1 : scatter_S4096x8192_S4096x2_S4096_n_01_01_1.start (ix1 j) (places L) 1 = ((L (ix1 j)).toNat : Int) := by
    refine (dif_pos (show (1 : Fin 2) ∈ [(0 : Fin 2), 1] by decide)).trans ?_
    refine (congrArg (fun z => (places L z).toInt) (funext fun b => Fin.ext ?_ : _ = (ix2 j 1 : S4096x2.Idx))).trans ?_
    · match b with
      | 0 => rfl
      | 1 => rfl
    · rw [places_col L hL, toInt_small _ (hL _)]
  have hj := j.2
  have hl := hL (ix1 j)
  unfold ScatterDims.resultIdx?
  rw [dif_pos fun a => by
    match a with
    | 0 => rw [h0, hw]; exact ⟨by omega, by show _ < (4096 : Int); omega⟩
    | 1 => rw [h1, hw]; exact ⟨by omega, by show _ < (8192 : Int); omega⟩]
  refine congrArg some (funext fun a => Fin.ext ?_)
  match a with
  | 0 => show (_ + _ : Int).toNat = _; rw [h0, hw]; show _ = j.1; omega
  | 1 => show (_ + _ : Int).toNat = _; rw [h1, hw]; show _ = (L (ix1 j)).toNat; omega

theorem hot_apply (L : IVec S4096 32) (hL : ∀ i, (L i).toNat < 8192) (n : Fin 4096) (k : Fin 8192) :
    hot L (ix2 n k) = if BitVec.ofNat 32 k.1 = L (ix1 n) then 1 else 0 := by
  have key := scatter_const scatter_S4096x8192_S4096x2_S4096_n_01_01_1
    (broadcastInDim S4096x8192 ![] bcast_S_S4096x8192 (constant (F := Ideal) S_ .f32 0x00000000#32)) (places L)
    (broadcastInDim S4096 ![] bcast_S_S4096 (constant (F := Ideal) S_ .f32 0x3F800000#32)) (Ideal.ofBits .f32 0x3F800000#32) (fun _ => rfl) (ix2 n k)
  have hk := k.2
  by_cases h : BitVec.ofNat 32 k.1 = L (ix1 n)
  · rw [if_pos h]
    refine (key.1 ⟨ix1 n, (lands L hL n).trans (congrArg (fun z => some (ix2 n z)) (Fin.ext ?_))⟩).trans Ideal.ofBits_one_f32
    show (L (ix1 n)).toNat = k.1
    rw [← h, BitVec.toNat_ofNat]
    omega
  · rw [if_neg h]
    refine (key.2 ?_).trans Ideal.ofBits_zero_f32
    rintro ⟨q, e⟩
    have e := (lands L hL (q 0)).symm.trans ((congrArg (fun z => scatter_S4096x8192_S4096x2_S4096_n_01_01_1.resultIdx? z (places L)) (eq_ix1 q)).symm.trans e)
    have e := Option.some.inj e
    have e0 : q 0 = n := congrFun e 0
    have e1 : (L (ix1 (q 0))).toNat = k.1 := congrArg Fin.val (congrFun e 1)
    rw [e0] at e1
    apply h
    apply BitVec.eq_of_toNat_eq
    rw [BitVec.toNat_ofNat, e1]
    omega

/-! ## The logits -/

def logitsR (X : S4096x256.Idx → EReal) (W : S8192x256.Idx → EReal) (L : IVec S4096 32) : S4096x8192.Idx → EReal :=
  mulf (F := Ideal) (φ := .f32) (addf (mulf (hot L)
      (select (cmpf (F := Ideal) (φ := .f32) .ogt (cosR X W) (broadcastInDim S4096x8192 ![] bcast_S_S4096x8192 (constant S_ .f32 0xBF60A940#32)))
        (subf (mulf (cosR X W) (broadcastInDim S4096x8192 ![] bcast_S_S4096x8192 (constant S_ .f32 0x3F60A940#32)))
          (mulf (Host.sqrt (minimumf (broadcastInDim S4096x8192 ![] bcast_S_S4096x8192 (id (constant S_ .f32 0x3F800000#32)))
              (maximumf (broadcastInDim S4096x8192 ![] bcast_S_S4096x8192 (id (constant S_ .f32 0x00000000#32)))
                (subf (broadcastInDim S4096x8192 ![] bcast_S_S4096x8192 (constant S_ .f32 0x3F800000#32)) (mulf (cosR X W) (cosR X W))))))
            (broadcastInDim S4096x8192 ![] bcast_S_S4096x8192 (constant S_ .f32 0x3EF57744#32))))
        (subf (cosR X W) (broadcastInDim S4096x8192 ![] bcast_S_S4096x8192 (constant S_ .f32 0x3E757744#32)))))
      (mulf (subf (broadcastInDim S4096x8192 ![] bcast_S_S4096x8192 (constant S_ .f32 0x3F800000#32)) (hot L)) (cosR X W)))
    (broadcastInDim S4096x8192 ![] bcast_S_S4096x8192 (constant S_ .f32 0x41800000#32))

theorem logitsR_apply (X : S4096x256.Idx → EReal) (W : S8192x256.Idx → EReal) (L : IVec S4096 32) (hL : ∀ i, (L i).toNat < 8192) (n : Fin 4096) (k : Fin 8192) :
    logitsR X W L (ix2 n k) = logit X W L n k := by
  have e : logitsR X W L (ix2 n k) = (hot L (ix2 n k) * phi (cosR X W (ix2 n k))
      + (Ideal.ofBits .f32 0x3F800000#32 - hot L (ix2 n k)) * cosR X W (ix2 n k)) * Ideal.ofBits .f32 0x41800000#32 := rfl
  have one : (1 : EReal) - 1 = 0 := by rw [← EReal.coe_one, ← EReal.coe_sub, sub_self, EReal.coe_zero]
  rw [e, cosR_apply, hot_apply L hL, Ideal.ofBits_one_f32]
  unfold logit
  refine congrArg (· * _) ?_
  by_cases h : BitVec.ofNat 32 k.1 = L (ix1 n)
  · rw [if_pos h, if_pos h, one_mul, one, zero_mul, add_zero]
  · rw [if_neg h, if_neg h, zero_mul, zero_add, sub_zero, one_mul]

end Cert.Proof.Ref

end
-- ==== Proof.Algebraic.lean ====
/- Both programs end with the same two arrays: the margin logits and the nearest-centroid distance, entry by entry. -/
module

public import proofs.«01_k».proof.Proof.Frames
public import proofs.«01_k».proof.Proof.LogitArr
public import proofs.«01_k».proof.Proof.LogitRef

@[expose] public section

noncomputable section

namespace Cert.Proof

open Idealize.ShloMosaic Idealize.ShloMosaic.ValueIdx Idealize.SL.Sem
open Cert.KernelIdeal (S4096 S4096x1 S4096x256 S8192x256 S4096x8192 S8192x4x256)
open Cert.Proof.Dense (logit flat)

local notation "KLoc" => Loc Cert.KernelIdeal.nD Cert.KernelIdeal.τ Cert.KernelIdeal.sig
local notation "RLoc" => Loc Cert.ReferenceIdeal.nD Cert.ReferenceIdeal.τ Cert.ReferenceIdeal.sig

/-- The margin logits of features `X`, labels `L` and class weights `W`. -/
def logits (X : S4096x256.Idx → EReal) (L : S4096.Idx → BitVec 32) (W : S8192x256.Idx → EReal) : S4096x8192.Idx → EReal :=
  fun i => logit X W L (i 0) (i 1)

/-- Each code's mean absolute distance from the nearest centroid of its class. -/
def distance (C : S4096x256.Idx → EReal) (p : S4096.Idx → BitVec 32) (X : S8192x4x256.Idx → EReal) (hp : ∀ i, (p i).toNat < 8192) : S4096.Idx → EReal :=
  fun i => Whole.nearest C X (i 0) ⟨(p (ix1 (i 0))).toNat, hp _⟩

/-! ## The kernel's results -/

theorem flat_cast (L : S4096.Idx → BitVec 32) (h : S4096.ShapeCasts S4096x1) : flat (shapeCast S4096x1 L h) = L := by
  funext i
  unfold flat
  rw [shapeCast_apply _ _ _ i (by
    rw [Shape.rowMajor_val_two, Shape.rowMajor_val_one]
    show (i 0).1 = (i 0).1 * 1 + 0
    omega)]

theorem VA_arg (m : (ℓ : KLoc) → Buf (Elt Ideal) ℓ) (c : Dev Cert.KernelIdeal.nD) :
    Whole.VA m c (Proc.devRef .tc Cert.KernelIdeal.main_arg0) = m (c, Proc.devRef .tc Cert.KernelIdeal.main_arg0)
    ∧ Whole.VA m c (Proc.devRef .tc Cert.KernelIdeal.main_arg4) = m (c, Proc.devRef .tc Cert.KernelIdeal.main_arg4) := by
  unfold Whole.VA Whole.opsA
  exact ⟨by after_results_simp; rfl, by after_results_simp; rfl⟩

theorem kernel_logits (m : (ℓ : KLoc) → Buf (Elt Ideal) ℓ) (c : Dev Cert.KernelIdeal.nD) :
    Whole.VD m c (Proc.devRef .tc Cert.KernelIdeal.main_v1)
      = logits (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg4)) := by
  refine (Whole.VD_v1 m c).trans ((Dense.logitsAt_eq _ _ _ c).trans ?_)
  rw [(VA_arg m c).1, (VA_arg m c).2, Whole.VA_v0, flat_cast]
  rfl

theorem kernel_distance (m : (ℓ : KLoc) → Buf (Elt Ideal) ℓ) (c : Dev Cert.KernelIdeal.nD)
    (hp : ∀ i, (m ((c.tc : Thread Cert.KernelIdeal.nD Cert.KernelIdeal.τ).loc Cert.KernelIdeal.main_arg3) i).toNat < 8192) :
    Whole.VD m c (Proc.devRef .tc Cert.KernelIdeal.main_v12)
      = distance (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg5)) hp := by
  refine (Whole.VD_v12 m c).trans ?_
  unfold Dist.dist
  rw [Whole.Cd_eq, Whole.Tb_eq, Whole.Lc_eq]
  refine funext fun (i : S4096.Idx) => ?_
  obtain ⟨n, rfl⟩ : ∃ n : Fin 4096, i = ix1 n := ⟨i 0, eq_ix1 i⟩
  exact Whole.dist_apply _ _ _ hp n

/-! ## The reference's results -/

theorem reference_logits (m : (ℓ : RLoc) → Buf (Elt Ideal) ℓ) (c : Dev Cert.ReferenceIdeal.nD)
    (hL : ∀ i, (m ((c.tc : Thread Cert.ReferenceIdeal.nD Cert.ReferenceIdeal.τ).loc Cert.ReferenceIdeal.main_arg1) i).toNat < 8192) :
    Cert.ReferenceIdeal.Value.res_main_v56 m c
      = logits (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg4)) := by
  have e : Cert.ReferenceIdeal.Value.res_main_v56 m c
      = Ref.logitsR (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg1)) := by
    unfold Cert.ReferenceIdeal.Value.res_main_v56 Ref.logitsR Ref.hot Ref.places Ref.cosR Ref.unitX Ref.unitW Ref.col Ref.wrap
    rfl
  rw [e]
  refine funext fun (i : S4096x8192.Idx) => ?_
  obtain ⟨n, k, rfl⟩ : ∃ (n : Fin 4096) (k : Fin 8192), i = ix2 n k := ⟨i 0, i 1, eq_ix2 i⟩
  exact Ref.logitsR_apply _ _ _ hL n k

theorem reference_distance (C : S4096x256.Idx → EReal) (p : S4096.Idx → BitVec 32) (X : S8192x4x256.Idx → EReal) (hp : ∀ i, (p i).toNat < 8192) :
    Ref.far C X p = distance C p X hp := by
  refine funext fun (i : S4096.Idx) => ?_
  obtain ⟨n, rfl⟩ : ∃ n : Fin 4096, i = ix1 n := ⟨i 0, eq_ix1 i⟩
  exact Ref.far_apply C X p hp n

/-! ## The claim -/

theorem algebraic : Cert.algebraic_KernelIdeal_ReferenceIdeal := by
  intro m g m' g' hpre hargs
  have hL := fun c => (Pre.classes _ _ _ _ _ _ (hpre c)).1
  have hp := fun c => (Pre.classes _ _ _ _ _ _ (hpre c)).2
  refine ⟨fun c => logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4)),
    fun c => distance (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)) (hp c), ?_, ?_⟩
  · exact (θ_run Cert.KernelIdeal.defs _ _).mono (fun r h c =>
      ⟨(h.1 c (Proc.devRef .tc Cert.KernelIdeal.main_v1) (by decide)).trans (kernel_logits m c),
        (h.1 c (Proc.devRef .tc Cert.KernelIdeal.main_v12) (by decide)).trans (kernel_distance m c (hp c)), kept m r h c⟩)
      (run_pre (F := Ideal) m g hp)
  · refine (θ_run Cert.ReferenceIdeal.defs _ _).mono (fun r h c => ?_) (Cert.ReferenceIdeal.Value.run (F := Ideal) m' g')
    obtain ⟨e0, e1, e2, e3, e4, e5⟩ := hargs c
    obtain ⟨h0, h1, hk⟩ := h c
    refine ⟨h0.trans ((reference_logits m' c (by rw [e1]; exact hL c)).trans (by rw [e0, e1, e4])), ?_, hk⟩
    refine h1.trans ((show _ = Ref.far _ _ _ from rfl).trans ((congrArg₂ (fun a b => Ref.far a b _) e2 e5).trans
      ((congrArg (Ref.far _ _) e3).trans (reference_distance _ _ _ (hp c)))))

end Cert.Proof

end
-- ==== Proof.lean ====
/- The claims, from the runs' modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Proof.Pre.facts,
  frame_kernel, frame_ideal, frame_ref, fun m ρ _ => frame_ref m ρ trivial, trivial, algebraic⟩

end Cert.Proof

end
